-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_win [hPre_finite_win : Cert.Pre_finite_win.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_win.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_win [hPre_finite_win : Cert.Pre_finite_win.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_win.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_win [hKernel4Ideal : Cert.Kernel4Ideal.Facts] [hPre_finite_win : Cert.Pre_finite_win.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_win m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_win [hReference4Ideal : Cert.Reference4Ideal.Facts] [hPre_finite_win : Cert.Pre_finite_win.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_win m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "q_scale" .f32 0x3E38AA3B#32 (((Real.log 2)⁻¹ * 8⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "q_scale" .f32 0x3E38AA3B#32 (((Real.log 2)⁻¹ * 8⁻¹ : ℝ) : EReal)
  ∧ IdealRules.named_const.Statement Cert.Kernel4Ideal.κ "log2e" .f32 0x3FB8AA3B#32 (((Real.log 2)⁻¹ : ℝ) : EReal)

def algebraic_Kernel4Ideal_Reference4Ideal_pre_finite_win [hKernel4Ideal : Cert.Kernel4Ideal.Facts] [hReference4Ideal : Cert.Reference4Ideal.Facts] [hPre_finite_win : Cert.Pre_finite_win.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_win m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v40)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite_win : Cert.Pre_finite_win.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_win (hKernel4Ideal := hKernel4Ideal) (hPre_finite_win := hPre_finite_win)
    ∧ quiescent_Reference4Ideal (hReference4Ideal := hReference4Ideal)
    ∧ quiescent_Reference4Ideal_pre_finite_win (hReference4Ideal := hReference4Ideal) (hPre_finite_win := hPre_finite_win)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_win (hKernel4Ideal := hKernel4Ideal) (hReference4Ideal := hReference4Ideal) (hPre_finite_win := hPre_finite_win)
-- ==== Pre_finite_qk.lean ====
abbrev S64 : Shape := ⟨1, ![64]⟩
abbrev S8x2048x8x64 : Shape := ⟨4, ![8, 2048, 8, 64]⟩
abbrev S16384x6912 : Shape := ⟨2, ![16384, 6912]⟩
abbrev S128 : Shape := ⟨1, ![128]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel

variable [Facts]

def fn {F : FTy → Type} [FloatOps F] (main_arg0 : FVec F S64 .f32) (main_arg1 : FVec F S64 .f32) (main_arg2 : FVec F S64 .f32) (main_arg3 : FVec F S64 .f32) (main_arg4 : FVec F S8x2048x8x64 .f32) (main_arg5 : FVec F S8x2048x8x64 .f32) (main_arg6 : FVec F S16384x6912 .bf16) (main_arg7 : FVec F S128 .f32) : IVec S_ 1 :=
  let main_v0 : FVec F S8x2048x8x64 .f32 := Host.absf main_arg4
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x64 .f32 := Host.absf main_arg5
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  main_v8
-- ==== Pre_finite_win.lean ====
abbrev S8 : Shape := ⟨1, ![8]⟩
abbrev S8x2048x8x64 : Shape := ⟨4, ![8, 2048, 8, 64]⟩
abbrev S8x2048x2x64 : Shape := ⟨4, ![8, 2048, 2, 64]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_

variable [Facts]

def fn {F : FTy → Type} [FloatOps F] (main_arg0 : FVec F S8 .f32) (main_arg1 : FVec F S8x2048x8x64 .f32) (main_arg2 : FVec F S8x2048x2x64 .f32) (main_arg3 : FVec F S8x2048x2x64 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  let main_v9 : FVec F S8x2048x2x64 .f32 := Host.absf main_arg2
  let main_cst_2 : FVec F S_ .f32 := constant S_ .f32 0x7F800000#32
  let main_v10 : FVec F S8x2048x2x64 .f32 := broadcastInDim S8x2048x2x64 ![] bcast_S_S8x2048x2x64 main_cst_2
  let main_v11 : IVec S8x2048x2x64 1 := cmpf .olt main_v9 main_v10
  let main_c_3 : IVec S_ 1 := constantI S_ 1 1#1
  let main_v12 : IVec S_ 1 := (fun x v => Host.reduce IntOp.andi x v reducesTo_S8x2048x2x64_S_d0_1_2_3 h_S_) main_v11 main_c_3
  let main_v13 : IVec S_ 1 := andi main_v8 main_v12
  main_v13
-- ==== Kernel.lean ====
abbrev S64 : Shape := ⟨1, ![64]⟩
abbrev S8x2048x8x64 : Shape := ⟨4, ![8, 2048, 8, 64]⟩
abbrev S16384x6912 : Shape := ⟨2, ![16384, 6912]⟩
abbrev S128 : Shape := ⟨1, ![128]⟩
abbrev S1x64 : Shape := ⟨2, ![1, 64]⟩
abbrev S4x64 : Shape := ⟨2, ![4, 64]⟩
abbrev S512 : Shape := ⟨1, ![512]⟩
abbrev S_ : Shape := ⟨0, ![]⟩
abbrev S1x512 : Shape := ⟨2, ![1, 512]⟩
abbrev S16384x4x2x2x32 : Shape := ⟨5, ![16384, 4, 2, 2, 32]⟩
abbrev S16384x512 : Shape := ⟨2, ![16384, 512]⟩
abbrev S1x128 : Shape := ⟨2, ![1, 128]⟩
abbrev S8x2048x512 : Shape := ⟨3, ![8, 2048, 512]⟩
abbrev S8x2048x6912 : Shape := ⟨3, ![8, 2048, 6912]⟩
abbrev S1x2048x128 : Shape := ⟨3, ![1, 2048, 128]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩

abbrev nBuf : Space → Nat
  | .hbm => 63
  | .vmem => 12
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S8x2048x8x64, .f32⟩
  | .hbm, ⟨5, _⟩ => ⟨S8x2048x8x64, .f32⟩
  | .hbm, ⟨6, _⟩ => ⟨S16384x6912, .bf16⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S_, .i1⟩
  | .hbm, ⟨30, _⟩ => ⟨S512, .i1⟩
  | .hbm, ⟨31, _⟩ => ⟨S512, .i1⟩
  | .hbm, ⟨32, _⟩ => ⟨S512, .i1⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .f32⟩
  | .hbm, ⟨40, _⟩ => ⟨S1x512, .f32⟩
  | .hbm, ⟨41, _⟩ => ⟨S16384x4x2x2x32, .f32⟩
  | .hbm, ⟨42, _⟩ => ⟨S16384x4x2x2x32, .f32⟩
  | .hbm, ⟨43, _⟩ => ⟨S16384x512, .f32⟩
  | .hbm, ⟨44, _⟩ => ⟨S16384x512, .bf16⟩
  | .hbm, ⟨45, _⟩ => ⟨S16384x4x2x2x32, .f32⟩
  | .hbm, ⟨46, _⟩ => ⟨S16384x4x2x2x32, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .bf16⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S16384x512, .f32⟩
  | .hbm, ⟨55, _⟩ => ⟨S16384x512, .f32⟩
  | .hbm, ⟨56, _⟩ => ⟨S16384x512, .bf16⟩
  | .hbm, ⟨57, _⟩ => ⟨S1x128, .f32⟩
  | .hbm, ⟨58, _⟩ => ⟨S8x2048x512, .bf16⟩
  | .hbm, ⟨59, _⟩ => ⟨S8x2048x512, .bf16⟩
  | .hbm, ⟨60, _⟩ => ⟨S8x2048x512, .bf16⟩
  | .hbm, ⟨61, _⟩ => ⟨S8x2048x6912, .bf16⟩
  | .hbm, ⟨62, _⟩ => ⟨S8x2048x512, .bf16⟩
  | .local _ .vmem, ⟨0, _⟩ => ⟨S4x64, .f32⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x128, .f32⟩
  | .local _ .vmem, ⟨10, _⟩ => ⟨S1x2048x128, .bf16⟩
  | .local _ .vmem, ⟨11, _⟩ => ⟨S1x2048x128, .bf16⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "q_scale" => some (((Real.log 2)⁻¹ * 8⁻¹ : ℝ) : EReal)
  | _ => none
-- ==== ReferenceIdeal.lean ====
abbrev S64 : Shape := ⟨1, ![64]⟩
abbrev S8x2048x8x64 : Shape := ⟨4, ![8, 2048, 8, 64]⟩
abbrev S16384x6912 : Shape := ⟨2, ![16384, 6912]⟩
abbrev S128 : Shape := ⟨1, ![128]⟩
abbrev S16384x512 : Shape := ⟨2, ![16384, 512]⟩
abbrev S8x2048x4x128 : Shape := ⟨4, ![8, 2048, 4, 128]⟩
abbrev S_ : Shape := ⟨0, ![]⟩
abbrev S8x2048x4x2x64 : Shape := ⟨5, ![8, 2048, 4, 2, 64]⟩
abbrev S8x4x2x2048x2048 : Shape := ⟨5, ![8, 4, 2, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x512 : Shape := ⟨3, ![8, 2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S8x2048x8x64, .f32⟩
  | .hbm, ⟨5, _⟩ => ⟨S8x2048x8x64, .f32⟩
  | .hbm, ⟨6, _⟩ => ⟨S16384x6912, .bf16⟩
  | .hbm, ⟨7, _⟩ => ⟨S128, .f32⟩
  | .hbm, ⟨8, _⟩ => ⟨S16384x512, .bf16⟩
  | .hbm, ⟨9, _⟩ => ⟨S16384x512, .f32⟩
  | .hbm, ⟨10, _⟩ => ⟨S8x2048x4x128, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x2048x4x2x64, .f32⟩
  | .hbm, ⟨23, _⟩ => ⟨S8x2048x4x2x64, .f32⟩
  | .hbm, ⟨24, _⟩ => ⟨S8x4x2x2048x2048, .f32⟩
  | .hbm, ⟨25, _⟩ => ⟨S_, .f32⟩
  | .hbm, ⟨26, _⟩ => ⟨S8x4x2x2048x2048, .f32⟩
  | .hbm, ⟨27, _⟩ => ⟨S8x4x2x2048x2048, .f32⟩
  | .hbm, ⟨28, _⟩ => ⟨S_, .f32⟩
  | .hbm, ⟨29, _⟩ => ⟨S8x4x2x2048, .f32⟩
  | .hbm, ⟨30, _⟩ => ⟨S_, .f32⟩
  | .hbm, ⟨31, _⟩ => ⟨S8x4x2x2048, .f32⟩
  | .hbm, ⟨32, _⟩ => ⟨S8x4x2x2048, .f32⟩
  | .hbm, ⟨33, _⟩ => ⟨S8x4x2x2048x1, .f32⟩
  | .hbm, ⟨34, _⟩ => ⟨S8x4x2x2048x2048, .f32⟩
  | .hbm, ⟨35, _⟩ => ⟨S8x4x2x2048x2048, .f32⟩
  | .hbm, ⟨36, _⟩ => ⟨S8x4x2x2048x2048, .f32⟩
  | .hbm, ⟨37, _⟩ => ⟨S_, .f32⟩
  | .hbm, ⟨38, _⟩ => ⟨S8x4x2x2048, .f32⟩
  | .hbm, ⟨39, _⟩ => ⟨S8x4x2x2048x1, .f32⟩
  | .hbm, ⟨40, _⟩ => ⟨S8x4x2x2048x2048, .f32⟩
  | .hbm, ⟨41, _⟩ => ⟨S8x4x2x2048x2048, .f32⟩
  | .hbm, ⟨42, _⟩ => ⟨S8x4x1x2048x2048, .f32⟩
  | .hbm, ⟨43, _⟩ => ⟨S8x4x2048x2048, .f32⟩
  | .hbm, ⟨44, _⟩ => ⟨S8x4x1x2048x2048, .f32⟩
  | .hbm, ⟨45, _⟩ => ⟨S8x4x2048x2048, .f32⟩
  | .hbm, ⟨46, _⟩ => ⟨S8x4x2048x2048, .f32⟩
  | .hbm, ⟨47, _⟩ => ⟨S8x4x2048x2048, .f32⟩
  | .hbm, ⟨48, _⟩ => ⟨S8x4x2048x2048, .f32⟩
  | .hbm, ⟨49, _⟩ => ⟨S8x4x128x2048, .f32⟩
  | .hbm, ⟨50, _⟩ => ⟨S8x2048x4x128, .f32⟩
  | .hbm, ⟨51, _⟩ => ⟨S8x2048x4x128, .f32⟩
  | .hbm, ⟨52, _⟩ => ⟨S_, .f32⟩
  | .hbm, ⟨53, _⟩ => ⟨S8x2048x4, .f32⟩
  | .hbm, ⟨54, _⟩ => ⟨S8x2048x4x1, .f32⟩
  | .hbm, ⟨55, _⟩ => ⟨S_, .f32⟩
  | .hbm, ⟨56, _⟩ => ⟨S8x2048x4x1, .f32⟩
  | .hbm, ⟨57, _⟩ => ⟨S8x2048x4x1, .f32⟩
  | .hbm, ⟨58, _⟩ => ⟨S_, .f32⟩
  | .hbm, ⟨59, _⟩ => ⟨S8x2048x4x1, .f32⟩
  | .hbm, ⟨60, _⟩ => ⟨S8x2048x4x1, .f32⟩
  | .hbm, ⟨61, _⟩ => ⟨S8x2048x4x1, .f32⟩
  | .hbm, ⟨62, _⟩ => ⟨S8x2048x4x128, .f32⟩
  | .hbm, ⟨63, _⟩ => ⟨S8x2048x4x128, .f32⟩
  | .hbm, ⟨64, _⟩ => ⟨S1x1x1x128, .f32⟩
  | .hbm, ⟨65, _⟩ => ⟨S8x2048x4x128, .f32⟩
  | .hbm, ⟨66, _⟩ => ⟨S8x2048x4x128, .f32⟩
  | .hbm, ⟨67, _⟩ => ⟨S_, .f32⟩
  | .hbm, ⟨68, _⟩ => ⟨S8x2048x4x128, .f32⟩
  | .hbm, ⟨69, _⟩ => ⟨S8x2048x4x128, .f32⟩
  | .hbm, ⟨70, _⟩ => ⟨S8x2048x512, .f32⟩
  | .hbm, ⟨71, _⟩ => ⟨S8x2048x512, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel2.lean ====
abbrev S8x2048x1024 : Shape := ⟨3, ![8, 2048, 1024]⟩
abbrev S16384x512 : Shape := ⟨2, ![16384, 512]⟩
abbrev S16384x6912 : Shape := ⟨2, ![16384, 6912]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x512 : Shape := ⟨2, ![1024, 512]⟩

abbrev nBuf : Space → Nat
  | .hbm => 23
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x6912, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S16384x1024, .f32⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S512x1024, .f32⟩
  | .local _ .vmem, ⟨23, _⟩ => ⟨S512x1024, .f32⟩
  | .local _ .vmem, ⟨24, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x2048x1024 : Shape := ⟨3, ![8, 2048, 1024]⟩
abbrev S16384x512 : Shape := ⟨2, ![16384, 512]⟩
abbrev S16384x6912 : Shape := ⟨2, ![16384, 6912]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x3072 : Shape := ⟨2, ![16384, 3072]⟩
abbrev S_ : Shape := ⟨0, ![]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x6912, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S16384x1024, .f32⟩
  | .hbm, ⟨14, _⟩ => ⟨S16384x3072, .bf16⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S_, .f32⟩
  | .hbm, ⟨19, _⟩ => ⟨S16384x3072, .f32⟩
  | .hbm, ⟨20, _⟩ => ⟨S16384x3072, .f32⟩
  | .hbm, ⟨21, _⟩ => ⟨S_, .f32⟩
  | .hbm, ⟨22, _⟩ => ⟨S16384x3072, .f32⟩
  | .hbm, ⟨23, _⟩ => ⟨S16384x3072, .f32⟩
  | .hbm, ⟨24, _⟩ => ⟨S16384x3x1024, .f32⟩
  | .hbm, ⟨25, _⟩ => ⟨S16384x1x1024, .f32⟩
  | .hbm, ⟨26, _⟩ => ⟨S16384x1024, .f32⟩
  | .hbm, ⟨27, _⟩ => ⟨S16384x512, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x512, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x512, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x1024, .f32⟩
  | .hbm, ⟨73, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x6912 : Shape := ⟨2, ![1024, 6912]⟩
abbrev S16384x1024 : Shape := ⟨2, ![16384, 1024]⟩
abbrev S1x1024 : Shape := ⟨2, ![1, 1024]⟩
abbrev S1024x3072 : Shape := ⟨2, ![1024, 3072]⟩
abbrev S1024x1536 : Shape := ⟨2, ![1024, 1536]⟩
abbrev S1024x512 : Shape := ⟨2, ![1024, 512]⟩
abbrev S1024x4x2x2x32 : Shape := ⟨5, ![1024, 4, 2, 2, 32]⟩
abbrev S1024x128 : Shape := ⟨2, ![1024, 128]⟩
abbrev S1024x1x2x2x32 : Shape := ⟨5, ![1024, 1, 2, 2, 32]⟩
abbrev S16384x6912 : Shape := ⟨2, ![16384, 6912]⟩
abbrev S512x1024 : Shape := ⟨2, ![512, 1024]⟩
abbrev S512x6912 : Shape := ⟨2, ![512, 6912]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 28
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6912, .f32⟩
  | .hbm, ⟨3, _⟩ => ⟨S16384x1024, .f32⟩
  | .hbm, ⟨4, _⟩ => ⟨S1x1024, .f32⟩
  | .hbm, ⟨5, _⟩ => ⟨S1024x3072, .f32⟩
  | .hbm, ⟨6, _⟩ => ⟨S1024x1536, .f32⟩
  | .hbm, ⟨7, _⟩ => ⟨S1024x512, .f32⟩
  | .hbm, ⟨8, _⟩ => ⟨S1024x4x2x2x32, .f32⟩
  | .hbm, ⟨9, _⟩ => ⟨S1024x4x2x2x32, .f32⟩
  | .hbm, ⟨10, _⟩ => ⟨S1024x512, .f32⟩
  | .hbm, ⟨11, _⟩ => ⟨S1024x512, .f32⟩
  | .hbm, ⟨12, _⟩ => ⟨S1024x4x2x2x32, .f32⟩
  | .hbm, ⟨13, _⟩ => ⟨S1024x4x2x2x32, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x4x2x2x32, .f32⟩
  | .hbm, ⟨18, _⟩ => ⟨S1024x4x2x2x32, .f32⟩
  | .hbm, ⟨19, _⟩ => ⟨S1024x512, .f32⟩
  | .hbm, ⟨20, _⟩ => ⟨S1024x128, .f32⟩
  | .hbm, ⟨21, _⟩ => ⟨S1024x1x2x2x32, .f32⟩
  | .hbm, ⟨22, _⟩ => ⟨S1024x1x2x2x32, .f32⟩
  | .hbm, ⟨23, _⟩ => ⟨S1024x128, .f32⟩
  | .hbm, ⟨24, _⟩ => ⟨S1024x128, .f32⟩
  | .hbm, ⟨25, _⟩ => ⟨S1024x6912, .f32⟩
  | .hbm, ⟨26, _⟩ => ⟨S1024x6912, .bf16⟩
  | .hbm, ⟨27, _⟩ => ⟨S16384x6912, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6912, .bf16⟩
  | .local _ .vmem, ⟨4, _⟩ => ⟨S512x6912, .bf16⟩
  | .local _ .vmem, ⟨5, _⟩ => ⟨S512x6912, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6912 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x2048x1024 : Shape := ⟨3, ![8, 2048, 1024]⟩
abbrev S1024 : Shape := ⟨1, ![1024]⟩
abbrev S1024x6912 : Shape := ⟨2, ![1024, 6912]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6912 : Shape := ⟨3, ![8, 2048, 6912]⟩
abbrev S16384x6912 : Shape := ⟨2, ![16384, 6912]⟩
abbrev S16384x512 : Shape := ⟨2, ![16384, 512]⟩
abbrev S16384x128 : Shape := ⟨2, ![16384, 128]⟩
abbrev S16384x1536 : Shape := ⟨2, ![16384, 1536]⟩
abbrev S16384x3072 : Shape := ⟨2, ![16384, 3072]⟩
abbrev S16384x4x2x2x32 : Shape := ⟨5, ![16384, 4, 2, 2, 32]⟩
abbrev S16384x1x2x2x32 : Shape := ⟨5, ![16384, 1, 2, 2, 32]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6912, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x6912, .f32⟩
  | .hbm, ⟨20, _⟩ => ⟨S16384x6912, .f32⟩
  | .hbm, ⟨21, _⟩ => ⟨S16384x512, .f32⟩
  | .hbm, ⟨22, _⟩ => ⟨S16384x128, .f32⟩
  | .hbm, ⟨23, _⟩ => ⟨S16384x128, .f32⟩
  | .hbm, ⟨24, _⟩ => ⟨S16384x1536, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x3072, .f32⟩
  | .hbm, ⟨29, _⟩ => ⟨S16384x4x2x2x32, .f32⟩
  | .hbm, ⟨30, _⟩ => ⟨S16384x4x2x2x32, .f32⟩
  | .hbm, ⟨31, _⟩ => ⟨S16384x512, .f32⟩
  | .hbm, ⟨32, _⟩ => ⟨S16384x4x2x2x32, .f32⟩
  | .hbm, ⟨33, _⟩ => ⟨S16384x4x2x2x32, .f32⟩
  | .hbm, ⟨34, _⟩ => ⟨S16384x512, .f32⟩
  | .hbm, ⟨35, _⟩ => ⟨S16384x4x2x2x32, .f32⟩
  | .hbm, ⟨36, _⟩ => ⟨S16384x4x2x2x32, .f32⟩
  | .hbm, ⟨37, _⟩ => ⟨S16384x512, .f32⟩
  | .hbm, ⟨38, _⟩ => ⟨S16384x1x2x2x32, .f32⟩
  | .hbm, ⟨39, _⟩ => ⟨S16384x1x2x2x32, .f32⟩
  | .hbm, ⟨40, _⟩ => ⟨S16384x128, .f32⟩
  | .hbm, ⟨41, _⟩ => ⟨S16384x6912, .f32⟩
  | .hbm, ⟨42, _⟩ => ⟨S16384x6912, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel4.lean ====
abbrev S8 : Shape := ⟨1, ![8]⟩
abbrev S8x2048x8x64 : Shape := ⟨4, ![8, 2048, 8, 64]⟩
abbrev S8x2048x2x64 : Shape := ⟨4, ![8, 2048, 2, 64]⟩
abbrev S3 : Shape := ⟨1, ![3]⟩
abbrev S16384x4x2x2x32 : Shape := ⟨5, ![16384, 4, 2, 2, 32]⟩
abbrev S16384x512 : Shape := ⟨2, ![16384, 512]⟩
abbrev S16384x2x2x1x32 : Shape := ⟨5, ![16384, 2, 2, 1, 32]⟩
abbrev S_ : Shape := ⟨0, ![]⟩
abbrev S16384x2x2x2x32 : Shape := ⟨5, ![16384, 2, 2, 2, 32]⟩
abbrev S16384x2x1x2x2x32 : Shape := ⟨6, ![16384, 2, 1, 2, 2, 32]⟩
abbrev S16384x2x2x2x2x32 : Shape := ⟨6, ![16384, 2, 2, 2, 2, 32]⟩
abbrev S16384x2x64 : Shape := ⟨3, ![16384, 2, 64]⟩
abbrev S16384x2x128 : Shape := ⟨3, ![16384, 2, 128]⟩
abbrev S16384x2x1x128 : Shape := ⟨4, ![16384, 2, 1, 128]⟩
abbrev S16384x2x2x128 : Shape := ⟨4, ![16384, 2, 2, 128]⟩
abbrev S8x2048x512 : Shape := ⟨3, ![8, 2048, 512]⟩
abbrev S512 : Shape := ⟨1, ![512]⟩
abbrev S1x512x1 : Shape := ⟨3, ![1, 512, 1]⟩
abbrev S1x1x512 : Shape := ⟨3, ![1, 1, 512]⟩
abbrev S3x1x1 : Shape := ⟨3, ![3, 1, 1]⟩
abbrev S3x1x512 : Shape := ⟨3, ![3, 1, 512]⟩
abbrev S3x512x512 : Shape := ⟨3, ![3, 512, 512]⟩
abbrev S1x2048x512 : Shape := ⟨3, ![1, 2048, 512]⟩
abbrev S512x1 : Shape := ⟨2, ![512, 1]⟩
abbrev S1x512x512 : Shape := ⟨3, ![1, 512, 512]⟩
abbrev S512x512 : Shape := ⟨2, ![512, 512]⟩
abbrev S1x256x128 : Shape := ⟨3, ![1, 256, 128]⟩
abbrev S256x128 : Shape := ⟨2, ![256, 128]⟩
abbrev S512x128 : Shape := ⟨2, ![512, 128]⟩
abbrev S1 : Shape := ⟨1, ![1]⟩

abbrev nBuf : Space → Nat
  | .hbm => 80
  | .vmem => 9
  | .smem => 1
  | _ => 0

abbrev bufTy : (tb : Table) → Fin (tcTables nBuf tb) → BufTy
  | .hbm, ⟨0, _⟩ => ⟨S8, .f32⟩
  | .hbm, ⟨1, _⟩ => ⟨S8x2048x8x64, .f32⟩
  | .hbm, ⟨2, _⟩ => ⟨S8x2048x2x64, .f32⟩
  | .hbm, ⟨3, _⟩ => ⟨S8x2048x2x64, .f32⟩
  | .hbm, ⟨4, _⟩ => ⟨S3, .i32⟩
  | .hbm, ⟨5, _⟩ => ⟨S16384x4x2x2x32, .f32⟩
  | .hbm, ⟨6, _⟩ => ⟨S16384x4x2x2x32, .f32⟩
  | .hbm, ⟨7, _⟩ => ⟨S16384x512, .f32⟩
  | .hbm, ⟨8, _⟩ => ⟨S16384x512, .bf16⟩
  | .hbm, ⟨9, _⟩ => ⟨S16384x2x2x1x32, .f32⟩
  | .hbm, ⟨10, _⟩ => ⟨S_, .i32⟩
  | .hbm, ⟨11, _⟩ => ⟨S_, .f32⟩
  | .hbm, ⟨12, _⟩ => ⟨S16384x2x2x2x32, .f32⟩
  | .hbm, ⟨13, _⟩ => ⟨S_, .i32⟩
  | .hbm, ⟨14, _⟩ => ⟨S_, .f32⟩
  | .hbm, ⟨15, _⟩ => ⟨S16384x2x2x2x32, .f32⟩
  | .hbm, ⟨16, _⟩ => ⟨S16384x2x1x2x2x32, .f32⟩
  | .hbm, ⟨17, _⟩ => ⟨S16384x2x1x2x2x32, .f32⟩
  | .hbm, ⟨18, _⟩ => ⟨S16384x2x2x2x2x32, .f32⟩
  | .hbm, ⟨19, _⟩ => ⟨S16384x512, .f32⟩
  | .hbm, ⟨20, _⟩ => ⟨S16384x512, .bf16⟩
  | .hbm, ⟨21, _⟩ => ⟨S16384x2x64, .f32⟩
  | .hbm, ⟨22, _⟩ => ⟨S_, .i32⟩
  | .hbm, ⟨23, _⟩ => ⟨S_, .f32⟩
  | .hbm, ⟨24, _⟩ => ⟨S16384x2x128, .f32⟩
  | .hbm, ⟨25, _⟩ => ⟨S_, .i32⟩
  | .hbm, ⟨26, _⟩ => ⟨S_, .f32⟩
  | .hbm, ⟨27, _⟩ => ⟨S16384x2x128, .f32⟩
  | .hbm, ⟨28, _⟩ => ⟨S16384x2x1x128, .f32⟩
  | .hbm, ⟨29, _⟩ => ⟨S16384x2x1x128, .f32⟩
  | .hbm, ⟨30, _⟩ => ⟨S16384x2x2x128, .f32⟩
  | .hbm, ⟨31, _⟩ => ⟨S16384x512, .f32⟩
  | .hbm, ⟨32, _⟩ => ⟨S16384x512, .bf16⟩
  | .hbm, ⟨33, _⟩ => ⟨S8x2048x512, .bf16⟩
  | .hbm, ⟨34, _⟩ => ⟨S8x2048x512, .bf16⟩
  | .hbm, ⟨35, _⟩ => ⟨S8x2048x512, .bf16⟩
  | .hbm, ⟨36, _⟩ => ⟨S512, .i32⟩
  | .hbm, ⟨37, _⟩ => ⟨S1x512x1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1x512x1, .i32⟩
  | .hbm, ⟨45, _⟩ => ⟨S1x512x1, .i32⟩
  | .hbm, ⟨46, _⟩ => ⟨S_, .i32⟩
  | .hbm, ⟨47, _⟩ => ⟨S1x512x1, .i32⟩
  | .hbm, ⟨48, _⟩ => ⟨S1x512x1, .i1⟩
  | .hbm, ⟨49, _⟩ => ⟨S_, .i32⟩
  | .hbm, ⟨50, _⟩ => ⟨S1x512x1, .i32⟩
  | .hbm, ⟨51, _⟩ => ⟨S1x512x1, .i1⟩
  | .hbm, ⟨52, _⟩ => ⟨S_, .i32⟩
  | .hbm, ⟨53, _⟩ => ⟨S_, .i1⟩
  | .hbm, ⟨54, _⟩ => ⟨S1x512x1, .i1⟩
  | .hbm, ⟨55, _⟩ => ⟨S1x512x1, .i1⟩
  | .hbm, ⟨56, _⟩ => ⟨S1x512x1, .i1⟩
  | .hbm, ⟨57, _⟩ => ⟨S1x512x1, .i32⟩
  | .hbm, ⟨58, _⟩ => ⟨S1x512x1, .i32⟩
  | .hbm, ⟨59, _⟩ => ⟨S1x512x1, .i32⟩
  | .hbm, ⟨60, _⟩ => ⟨S512, .i32⟩
  | .hbm, ⟨61, _⟩ => ⟨S1x1x512, .i32⟩
  | .hbm, ⟨62, _⟩ => ⟨S3x1x1, .i32⟩
  | .hbm, ⟨63, _⟩ => ⟨S3x1x512, .i32⟩
  | .hbm, ⟨64, _⟩ => ⟨S3x1x512, .i32⟩
  | .hbm, ⟨65, _⟩ => ⟨S3x1x512, .i32⟩
  | .hbm, ⟨66, _⟩ => ⟨S3x512x512, .i32⟩
  | .hbm, ⟨67, _⟩ => ⟨S3x512x512, .i32⟩
  | .hbm, ⟨68, _⟩ => ⟨S3x512x512, .i32⟩
  | .hbm, ⟨69, _⟩ => ⟨S3x512x512, .i32⟩
  | .hbm, ⟨70, _⟩ => ⟨S_, .i32⟩
  | .hbm, ⟨71, _⟩ => ⟨S3x512x512, .i32⟩
  | .hbm, ⟨72, _⟩ => ⟨S3x512x512, .i1⟩
  | .hbm, ⟨73, _⟩ => ⟨S_, .f32⟩
  | .hbm, ⟨74, _⟩ => ⟨S_, .f32⟩
  | .hbm, ⟨75, _⟩ => ⟨S3x512x512, .f32⟩
  | .hbm, ⟨76, _⟩ => ⟨S3x512x512, .f32⟩
  | .hbm, ⟨77, _⟩ => ⟨S3x512x512, .f32⟩
  | .hbm, ⟨78, _⟩ => ⟨S3x512x512, .f32⟩
  | .hbm, ⟨79, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S3x512x512, .f32⟩
  | .local _ .vmem, ⟨7, _⟩ => ⟨S1x2048x512, .bf16⟩
  | .local _ .vmem, ⟨8, _⟩ => ⟨S1x2048x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call2_v0 : Ref sig .tc := ⟨.hbm, 23, rfl⟩
abbrev main_v13 : Ref sig .tc := ⟨.hbm, 24, rfl⟩
abbrev main_c_3 : Ref sig .tc := ⟨.hbm, 25, rfl⟩
abbrev main_call3_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_call4_v0 : Ref sig .tc := ⟨.hbm, 39, rfl⟩
abbrev main_call4_c : Ref sig .tc := ⟨.hbm, 40, rfl⟩
abbrev main_call4_v1 : Ref sig .tc := ⟨.hbm, 41, rfl⟩
abbrev main_call4_c_0 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_c_1 : Ref sig .tc := ⟨.hbm, 46, rfl⟩
abbrev main_call4_v5 : Ref sig .tc := ⟨.hbm, 47, rfl⟩
abbrev main_call4_v6 : Ref sig .tc := ⟨.hbm, 48, rfl⟩
abbrev main_call4_c_2 : Ref sig .tc := ⟨.hbm, 49, rfl⟩
abbrev main_call4_v7 : Ref sig .tc := ⟨.hbm, 50, rfl⟩
abbrev main_call4_v8 : Ref sig .tc := ⟨.hbm, 51, rfl⟩
abbrev main_call4_c_3 : Ref sig .tc := ⟨.hbm, 52, rfl⟩
abbrev main_call4_v9 : Ref sig .tc := ⟨.hbm, 53, rfl⟩
abbrev main_call4_v10 : Ref sig .tc := ⟨.hbm, 54, rfl⟩
abbrev main_call4_v11 : Ref sig .tc := ⟨.hbm, 55, rfl⟩
abbrev main_call4_v12 : Ref sig .tc := ⟨.hbm, 56, rfl⟩
abbrev main_call4_v13 : Ref sig .tc := ⟨.hbm, 57, rfl⟩
abbrev main_call4_v14 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_5 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_cst_6 : Ref sig .tc := ⟨.hbm, 74, rfl⟩
abbrev main_call5_v0 : Ref sig .tc := ⟨.hbm, 75, rfl⟩
abbrev main_call5_v1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c1536_i32 : BitVec 32 := 1536#32
  let c0_i32_1 : BitVec 32 := 0#32
  let arg1 : BitVec 32 := BitVec.ofNat 32 (i 1).val
  let c8_i32 : BitVec 32 := 8#32
  let v3 : BitVec 32 := Scalar.muli arg1 c8_i32
  let c0_i32 : BitVec 32 := 0#32
  let v4 : BitVec 32 := Scalar.addi v3 c0_i32
  let c256_i32_0 : BitVec 32 := 256#32
  let v5 : BitVec 32 := Scalar.muli v4 c256_i32_0
  let c128_i32 : BitVec 32 := 128#32
  let v6 : BitVec 32 := Scalar.subi v5 c128_i32
  let v7 : BitVec 32 := Scalar.maxsi c0_i32_1 v6
  let v8 : BitVec 32 := Scalar.minsi c1536_i32 v7
  v8
def k0_off1 (i : grid0.Coords) (c0_i32 : BitVec 32) : Fin 3 → Nat :=
  let c0 : Index := 0#32
  let c1536_i32 : BitVec 32 := 1536#32
  let c0_i32_1 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c256_i32_0 : BitVec 32 := 256#32
  let v5 : BitVec 32 := Scalar.muli v4 c256_i32_0
  let c128_i32 : BitVec 32 := 128#32
  let v6 : BitVec 32 := Scalar.subi v5 c128_i32
  let v7 : BitVec 32 := Scalar.maxsi c0_i32_1 v6
  let v8 : BitVec 32 := Scalar.minsi c1536_i32 v7
  let v9 : BitVec 32 := v8
  let v10 : Index := Scalar.indexCast v9
  let c0_2 : Index := 0#32
  ![0, v10.toNat, 0]
def k0_off2 (i : grid0.Coords) (c0_i32 : BitVec 32) : Fin 3 → Nat :=
  let arg1 : BitVec 32 := BitVec.ofNat 32 (i 1).val
  let c8_i32 : BitVec 32 := 8#32
  let v3 : BitVec 32 := Scalar.muli arg1 c8_i32
  let v4 : BitVec 32 := Scalar.addi v3 c0_i32
  let c0_i32_5 : BitVec 32 := 0#32
  let v16 : BitVec 1 := Scalar.cmpi .eq v4 c0_i32_5
  let c0_i32_6 : BitVec 32 := 0#32
  let c7_i32 : BitVec 32 := 7#32
  let v17 : BitVec 1 := Scalar.cmpi .eq v4 c7_i32
  let c2_i32 : BitVec 32 := 2#32
  let c1_i32 : BitVec 32 := 1#32
  let v18 : BitVec 32 := Scalar.select v17 c2_i32 c1_i32
  let v19 : BitVec 32 := Scalar.select v16 c0_i32_6 v18
  let v20 : Index := Scalar.indexCast v19
  let c0_7 : Index := 0#32
  let c0_8 : Index := 0#32
  ![v20.toNat, 0, 0]
def k0_mult2 (i : grid0.Coords) : BitVec 32 :=
  let c1536_i32_61 : BitVec 32 := 1536#32
  let c0_i32_60 : BitVec 32 := 0#32
  let arg1 : BitVec 32 := BitVec.ofNat 32 (i 1).val
  let c8_i32_56 : BitVec 32 := 8#32
  let v175 : BitVec 32 := Scalar.muli arg1 c8_i32_56
  let c1_i32_57 : BitVec 32 := 1#32
  let v176 : BitVec 32 := Scalar.addi v175 c1_i32_57
  let c256_i32_58 : BitVec 32 := 256#32
  let v177 : BitVec 32 := Scalar.muli v176 c256_i32_58
  let c128_i32_59 : BitVec 32 := 128#32
  let v178 : BitVec 32 := Scalar.subi v177 c128_i32_59
  let v179 : BitVec 32 := Scalar.maxsi c0_i32_60 v178
  let v180 : BitVec 32 := Scalar.minsi c1536_i32_61 v179
  v180
def k0_mult3 (i : grid0.Coords) : BitVec 32 :=
  let c1536_i32_136 : BitVec 32 := 1536#32
  let c0_i32_135 : BitVec 32 := 0#32
  let arg1 : BitVec 32 := BitVec.ofNat 32 (i 1).val
  let c8_i32_131 : BitVec 32 := 8#32
  let v347 : BitVec 32 := Scalar.muli arg1 c8_i32_131
  let c2_i32_132 : BitVec 32 := 2#32
  let v348 : BitVec 32 := Scalar.addi v347 c2_i32_132
  let c256_i32_133 : BitVec 32 := 256#32
  let v349 : BitVec 32 := Scalar.muli v348 c256_i32_133
  let c128_i32_134 : BitVec 32 := 128#32
  let v350 : BitVec 32 := Scalar.subi v349 c128_i32_134
  let v351 : BitVec 32 := Scalar.maxsi c0_i32_135 v350
  let v352 : BitVec 32 := Scalar.minsi c1536_i32_136 v351
  v352
def k0_mult4 (i : grid0.Coords) : BitVec 32 :=
  let c1536_i32_209 : BitVec 32 := 1536#32
  let c0_i32_208 : BitVec 32 := 0#32
  let arg1 : BitVec 32 := BitVec.ofNat 32 (i 1).val
  let c8_i32_205 : BitVec 32 := 8#32
  let v519 : BitVec 32 := Scalar.muli arg1 c8_i32_205
  let c3_i32 : BitVec 32 := 3#32
  let v520 : BitVec 32 := Scalar.addi v519 c3_i32
  let c256_i32_206 : BitVec 32 := 256#32
  let v521 : BitVec 32 := Scalar.muli v520 c256_i32_206
  let c128_i32_207 : BitVec 32 := 128#32
  let v522 : BitVec 32 := Scalar.subi v521 c128_i32_207
  let v523 : BitVec 32 := Scalar.maxsi c0_i32_208 v522
  let v524 : BitVec 32 := Scalar.minsi c1536_i32_209 v523
  v524
def k0_mult5 (i : grid0.Coords) : BitVec 32 :=
  let c1536_i32_282 : BitVec 32 := 1536#32
  let c0_i32_281 : BitVec 32 := 0#32
  let arg1 : BitVec 32 := BitVec.ofNat 32 (i 1).val
  let c8_i32_278 : BitVec 32 := 8#32
  let v691 : BitVec 32 := Scalar.muli arg1 c8_i32_278
  let c4_i32 : BitVec 32 := 4#32
  let v692 : BitVec 32 := Scalar.addi v691 c4_i32
  let c256_i32_279 : BitVec 32 := 256#32
  let v693 : BitVec 32 := Scalar.muli v692 c256_i32_279
  let c128_i32_280 : BitVec 32 := 128#32
  let v694 : BitVec 32 := Scalar.subi v693 c128_i32_280
  let v695 : BitVec 32 := Scalar.maxsi c0_i32_281 v694
  let v696 : BitVec 32 := Scalar.minsi c1536_i32_282 v695
  v696
def k0_mult6 (i : grid0.Coords) : BitVec 32 :=
  let c1536_i32_355 : BitVec 32 := 1536#32
  let c0_i32_354 : BitVec 32 := 0#32
  let arg1 : BitVec 32 := BitVec.ofNat 32 (i 1).val
  let c8_i32_351 : BitVec 32 := 8#32
  let v863 : BitVec 32 := Scalar.muli arg1 c8_i32_351
  let c5_i32 : BitVec 32 := 5#32
  let v864 : BitVec 32 := Scalar.addi v863 c5_i32
  let c256_i32_352 : BitVec 32 := 256#32
  let v865 : BitVec 32 := Scalar.muli v864 c256_i32_352
  let c128_i32_353 : BitVec 32 := 128#32
  let v866 : BitVec 32 := Scalar.subi v865 c128_i32_353
  let v867 : BitVec 32 := Scalar.maxsi c0_i32_354 v866
  let v868 : BitVec 32 := Scalar.minsi c1536_i32_355 v867
  v868
def k0_mult7 (i : grid0.Coords) : BitVec 32 :=
  let c1536_i32_428 : BitVec 32 := 1536#32
  let c0_i32_427 : BitVec 32 := 0#32
  let arg1 : BitVec 32 := BitVec.ofNat 32 (i 1).val
  let c8_i32_424 : BitVec 32 := 8#32
  let v1035 : BitVec 32 := Scalar.muli arg1 c8_i32_424
  let c6_i32 : BitVec 32 := 6#32
  let v1036 : BitVec 32 := Scalar.addi v1035 c6_i32
  let c256_i32_425 : BitVec 32 := 256#32
  let v1037 : BitVec 32 := Scalar.muli v1036 c256_i32_425
  let c128_i32_426 : BitVec 32 := 128#32
  let v1038 : BitVec 32 := Scalar.subi v1037 c128_i32_426
  let v1039 : BitVec 32 := Scalar.maxsi c0_i32_427 v1038
  let v1040 : BitVec 32 := Scalar.minsi c1536_i32_428 v1039
  v1040
def k0_mult8 (i : grid0.Coords) : BitVec 32 :=
  let c1536_i32_502 : BitVec 32 := 1536#32
  let c0_i32_501 : BitVec 32 := 0#32
  let arg1 : BitVec 32 := BitVec.ofNat 32 (i 1).val
  let c8_i32_497 : BitVec 32 := 8#32
  let v1207 : BitVec 32 := Scalar.muli arg1 c8_i32_497
  let c7_i32_498 : BitVec 32 := 7#32
  let v1208 : BitVec 32 := Scalar.addi v1207 c7_i32_498
  let c256_i32_499 : BitVec 32 := 256#32
  let v1209 : BitVec 32 := Scalar.muli v1208 c256_i32_499
  let c128_i32_500 : BitVec 32 := 128#32
  let v1210 : BitVec 32 := Scalar.subi v1209 c128_i32_500
  let v1211 : BitVec 32 := Scalar.maxsi c0_i32_501 v1210
  let v1212 : BitVec 32 := Scalar.minsi c1536_i32_502 v1211
  v1212
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "log2e" => some (((Real.log 2)⁻¹ : ℝ) : EReal)
  | "q_scale" => some (((Real.log 2)⁻¹ * 8⁻¹ : ℝ) : EReal)
  | _ => none
-- ==== Reference4Ideal.lean ====
abbrev S8 : Shape := ⟨1, ![8]⟩
abbrev S8x2048x8x64 : Shape := ⟨4, ![8, 2048, 8, 64]⟩
abbrev S8x2048x2x64 : Shape := ⟨4, ![8, 2048, 2, 64]⟩
abbrev S8x2048x2x4x64 : Shape := ⟨5, ![8, 2048, 2, 4, 64]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2x4x1x1 : Shape := ⟨5, ![1, 2, 4, 1, 1]⟩
abbrev S8x2x4x2048x1 : Shape := ⟨5, ![8, 2, 4, 2048, 1]⟩
abbrev S8x2x4x2048x2049 : Shape := ⟨5, ![8, 2, 4, 2048, 2049]⟩
abbrev S8x2x4x2048 : Shape := ⟨4, ![8, 2, 4, 2048]⟩
abbrev S8x2x64x4x2048 : Shape := ⟨5, ![8, 2, 64, 4, 2048]⟩
abbrev S8x2048x512 : Shape := ⟨3, ![8, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x2048x8x64, .f32⟩
  | .hbm, ⟨2, _⟩ => ⟨S8x2048x2x64, .f32⟩
  | .hbm, ⟨3, _⟩ => ⟨S8x2048x2x64, .f32⟩
  | .hbm, ⟨4, _⟩ => ⟨S8x2048x2x4x64, .f32⟩
  | .hbm, ⟨5, _⟩ => ⟨S8x2x2048x2048x4, .f32⟩
  | .hbm, ⟨6, _⟩ => ⟨S8x2x4x2048x2048, .f32⟩
  | .hbm, ⟨7, _⟩ => ⟨S_, .f32⟩
  | .hbm, ⟨8, _⟩ => ⟨S8x2x4x2048x2048, .f32⟩
  | .hbm, ⟨9, _⟩ => ⟨S8x2x4x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x2x4x2048x2048, .i1⟩
  | .hbm, ⟨23, _⟩ => ⟨S8x2x4x2048x2048, .f32⟩
  | .hbm, ⟨24, _⟩ => ⟨S8x2x4x2048x2048, .f32⟩
  | .hbm, ⟨25, _⟩ => ⟨S1x2x4x1x1, .f32⟩
  | .hbm, ⟨26, _⟩ => ⟨S8x2x4x2048x1, .f32⟩
  | .hbm, ⟨27, _⟩ => ⟨S8x2x4x2048x2049, .f32⟩
  | .hbm, ⟨28, _⟩ => ⟨S_, .f32⟩
  | .hbm, ⟨29, _⟩ => ⟨S8x2x4x2048, .f32⟩
  | .hbm, ⟨30, _⟩ => ⟨S_, .f32⟩
  | .hbm, ⟨31, _⟩ => ⟨S8x2x4x2048, .f32⟩
  | .hbm, ⟨32, _⟩ => ⟨S8x2x4x2048, .f32⟩
  | .hbm, ⟨33, _⟩ => ⟨S8x2x4x2048x1, .f32⟩
  | .hbm, ⟨34, _⟩ => ⟨S8x2x4x2048x2049, .f32⟩
  | .hbm, ⟨35, _⟩ => ⟨S8x2x4x2048x2049, .f32⟩
  | .hbm, ⟨36, _⟩ => ⟨S8x2x4x2048x2049, .f32⟩
  | .hbm, ⟨37, _⟩ => ⟨S_, .f32⟩
  | .hbm, ⟨38, _⟩ => ⟨S8x2x4x2048, .f32⟩
  | .hbm, ⟨39, _⟩ => ⟨S8x2x4x2048x1, .f32⟩
  | .hbm, ⟨40, _⟩ => ⟨S8x2x4x2048x2049, .f32⟩
  | .hbm, ⟨41, _⟩ => ⟨S8x2x4x2048x2049, .f32⟩
  | .hbm, ⟨42, _⟩ => ⟨S8x2x4x2048x2048, .f32⟩
  | .hbm, ⟨43, _⟩ => ⟨S8x2x64x4x2048, .f32⟩
  | .hbm, ⟨44, _⟩ => ⟨S8x2048x2x4x64, .f32⟩
  | .hbm, ⟨45, _⟩ => ⟨S8x2048x512, .f32⟩
  | .hbm, ⟨46, _⟩ => ⟨S8x2048x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.AttnMath.lean ====
/-
  The equation behind the differential attention, for one row of queries: weights to the base two, shifted by any number and
  divided by their sum at the end, against the two softmaxes subtracted and then multiplied with the values.
-/
module

public import Idealize.ShloMosaic.Lib.Pipeline.ValueKit

@[expose] public section

noncomputable section

open Idealize.ShloMosaic

namespace Cert.Attn

/-- A real factor that is not negative goes into a sum of extended reals. -/
theorem sum_mul_coe {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of reals, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section
variable {ι : Type} [Fintype ι] [Nonempty ι]

/-- The softmax does not depend on the number its scores are shifted by. -/
theorem shift (s : ι → ℝ) (a b : ℝ) (k : ι) :
    Real.exp (s k - a) / ∑ j, Real.exp (s j - a) = Real.exp (s k - b) / ∑ j, Real.exp (s j - b) := by
  have h : ∀ j, Real.exp (s j - a) = Real.exp (s j - b) * Real.exp (b - a) := fun j => by
    rw [← Real.exp_add]; congr 1; ring
  simp only [h]
  rw [← Finset.sum_mul, mul_div_mul_right _ _ (Real.exp_ne_zero _)]

/-- The sum of exponentials is positive. -/
theorem sum_exp_pos (s : ι → ℝ) (a : ℝ) : 0 < ∑ j, Real.exp (s j - a) :=
  Finset.sum_pos (fun _ _ => Real.exp_pos _) Finset.univ_nonempty

/-- A power of two whose exponent is a score over `log 2`. -/
theorem exp2_score (s M : ℝ) :
    Ideal.exp2 (((s * (Real.log 2)⁻¹ : ℝ) : EReal) - (M : EReal)) = ((Real.exp (s - M * Real.log 2) : ℝ) : EReal) := by
  have h2 : Real.log 2 ≠ 0 := (Real.log_pos (by norm_num)).ne'
  rw [← EReal.coe_sub, Ideal.exp2_coe, EReal.coe_eq_coe_iff]
  rw [Real.rpow_eq_pow]
  rw [Real.rpow_def_of_pos (by norm_num)]
  congr 1
  field_simp

/-- One softmax over real scores. -/
theorem softmax_coe (s : ι → ℝ) (m : ℝ) (k : ι) :
    Ideal.div (Ideal.exp ((s k : EReal) - (m : EReal))) (∑ j, Ideal.exp ((s j : EReal) - (m : EReal)))
      = ((Real.exp (s k - m) / ∑ j, Real.exp (s j - m) : ℝ) : EReal) := by
  simp only [← EReal.coe_sub, Ideal.exp_coe]
  rw [← coe_sum, Ideal.div_coe (sum_exp_pos s m).ne', ← EReal.coe_mul, mul_one_div]

/-- THE ROW: the mixture of unnormalised weights over the first sum is the mixture of the two softmaxes. -/
theorem row_eq (s0 s1 : ι → ℝ) {mx0 mx1 m0 m1 : EReal} (h0 : ∃ r : ℝ, mx0 = r) (h1 : ∃ r : ℝ, mx1 = r)
    (g0 : ∃ r : ℝ, m0 = r) (g1 : ∃ r : ℝ, m1 = r) (lam : EReal) (v : ι → EReal)
    (w0 w1 : ι → EReal) (e0 : ∀ k, w0 k = Ideal.exp2 (((s0 k * (Real.log 2)⁻¹ : ℝ) : EReal) - mx0))
    (e1 : ∀ k, w1 k = Ideal.exp2 (((s1 k * (Real.log 2)⁻¹ : ℝ) : EReal) - mx1)) :
    (∑ k, (w0 k - Ideal.div (lam * ∑ j, w0 j) (∑ j, w1 j) * w1 k) * v k) * Ideal.div 1 (∑ j, w0 j)
      = ∑ k, v k * (Ideal.div (Ideal.exp ((s0 k : EReal) - m0)) (∑ j, Ideal.exp ((s0 j : EReal) - m0))
          - lam * Ideal.div (Ideal.exp ((s1 k : EReal) - m1)) (∑ j, Ideal.exp ((s1 j : EReal) - m1))) := by
  obtain ⟨M0, rfl⟩ := h0
  obtain ⟨M1, rfl⟩ := h1
  obtain ⟨n0, rfl⟩ := g0
  obtain ⟨n1, rfl⟩ := g1
  have p0 := sum_exp_pos s0 (M0 * Real.log 2)
  have p1 := sum_exp_pos s1 (M1 * Real.log 2)
  simp only [e0, e1, exp2_score, softmax_coe]
  rw [← coe_sum, ← coe_sum, Ideal.div_coe p1.ne', Ideal.div_coe p0.ne', one_mul,
    sum_mul_coe _ _ (one_div_nonneg.mpr p0.le)]
  refine Finset.sum_congr rfl fun k _ => ?_
  rw [shift s0 n0 (M0 * Real.log 2) k, shift s1 n1 (M1 * Real.log 2) k]
  generalize (∑ j, Real.exp (s0 j - M0 * Real.log 2)) = L0 at *
  generalize (∑ j, Real.exp (s1 j - M1 * Real.log 2)) = L1 at *
  generalize Real.exp (s0 k - M0 * Real.log 2) = a
  generalize Real.exp (s1 k - M1 * Real.log 2) = b
  rw [mul_comm (_ - _) (v k), mul_assoc]
  congr 1
  rw [sub_eq_add_neg, EReal.right_distrib_of_nonneg_of_ne_top (by exact_mod_cast (one_div_nonneg.mpr p0.le)) (EReal.coe_ne_top _),
    EReal.neg_mul, ← sub_eq_add_neg, ← EReal.coe_mul, mul_one_div]
  congr 1
  rw [mul_assoc, mul_assoc, mul_assoc, ← EReal.coe_mul, ← EReal.coe_mul, ← EReal.coe_mul]
  congr 2
  field_simp

end

/-- The patterns of the two infinities and of eight. -/
theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem eight : Ideal.ofBits .f32 0x41000000#32 = ((8 : ℝ) : EReal) := by
  simp [Ideal.ofBits, Ideal.ieee, -EReal.coe_mul]; norm_num

/-- The greater of two reals is one. -/
theorem max_real {x y : EReal} (hx : ∃ r : ℝ, x = r) (hy : ∃ r : ℝ, y = r) : ∃ r : ℝ, max x y = r := by
  rcases max_choice x y with h | h <;> rw [h] <;> assumption

/-- The greatest of finitely many reals is one. -/
theorem sup_real {ι : Type} [Fintype ι] [Nonempty ι] (f : ι → EReal) (h : ∀ k, ∃ r : ℝ, f k = r) : ∃ r : ℝ, Finset.univ.fold max ⊥ f = r := by
  obtain ⟨k, _, hk⟩ := Finset.exists_mem_eq_sup Finset.univ Finset.univ_nonempty f
  exact ⟨(h k).choose, Eq.trans (Eq.trans rfl hk) (h k).choose_spec⟩

/-- A sum over 2048 keys as four tiles of 512. -/
theorem sum_tiles (f : Fin 2048 → EReal) :
    ∑ k, f k = ((∑ k : Fin 512, f ⟨k, by omega⟩) + (∑ k : Fin 512, f ⟨512 + k, by omega⟩) + (∑ k : Fin 512, f ⟨1024 + k, by omega⟩))
      + ∑ k : Fin 512, f ⟨1536 + k, by omega⟩ := by
  rw [show (∑ k, f k) = ∑ k : Fin ((512 + 512 + 512) + 512), f (Fin.cast (by norm_num) k) from rfl,
    Fin.sum_univ_add, Fin.sum_univ_add, Fin.sum_univ_add]
  rfl

/-- A sum over 512 keys as four groups of 128. -/
theorem sum_groups (f : Fin 512 → EReal) :
    ∑ k, f k = ((∑ k : Fin 128, f ⟨k, by omega⟩) + (∑ k : Fin 128, f ⟨128 + k, by omega⟩) + (∑ k : Fin 128, f ⟨256 + k, by omega⟩))
      + ∑ k : Fin 128, f ⟨384 + k, by omega⟩ := by
  rw [show (∑ k, f k) = ∑ k : Fin ((128 + 128 + 128) + 128), f (Fin.cast (by norm_num) k) from rfl,
    Fin.sum_univ_add, Fin.sum_univ_add, Fin.sum_univ_add]
  rfl

/-- A sum over 128 columns as four runs of 32. -/
theorem sum_runs (f : Fin 128 → EReal) :
    ∑ k, f k = ((∑ k : Fin 32, f ⟨k, by omega⟩) + (∑ k : Fin 32, f ⟨32 + k, by omega⟩) + (∑ k : Fin 32, f ⟨64 + k, by omega⟩))
      + ∑ k : Fin 32, f ⟨96 + k, by omega⟩ := by
  rw [show (∑ k, f k) = ∑ k : Fin ((32 + 32 + 32) + 32), f (Fin.cast (by norm_num) k) from rfl,
    Fin.sum_univ_add, Fin.sum_univ_add, Fin.sum_univ_add]
  rfl

/-- A sum over 64 columns as two halves. -/
theorem sum_halves (f : Fin 64 → EReal) :
    ∑ k, f k = (∑ k : Fin 32, f ⟨k, by omega⟩) + ∑ k : Fin 32, f ⟨32 + k, by omega⟩ := by
  rw [show (∑ k, f k) = ∑ k : Fin (32 + 32), f (Fin.cast (by norm_num) k) from rfl, Fin.sum_univ_add]
  rfl

end Cert.Attn

end
-- ==== Proof.AttnPre.lean ====
/-
  What the precondition says: every entry of the queries and of the keys is a real number.
-/
module

public import proofs.«01_k».proof.Pre_finite_qk
public import proofs.«01_k».proof.Proof.AttnMath

@[expose] public section

noncomputable section

open Idealize.ShloMosaic

namespace Cert.Attn.Pre

/-- The shapes the predicate's operations relate. -/
instance facts : Cert.Pre_finite_qk.Facts where
  bcast_S_S8x2048x8x64 := by decide
  reducesTo_S8x2048x8x64_S_d0_1_2_3 := by decide
  h_S_ := by decide

/-- A number whose absolute value is below infinity is real. -/
theorem real_of_lt {x : EReal} (h : max x (-x) < ⊤) : ∃ r : ℝ, x = r := by
  induction x using EReal.rec with
  | bot => simp at h
  | coe r => exact ⟨r, rfl⟩
  | top => simp at h

/-- A conjunction of bits that holds has every bit set. -/
theorem all_of_fold {ι : Type} (S : Finset ι) (f : ι → BitVec 1) (b : BitVec 1) (h : S.fold IntOp.andi b f = 1#1) : ∀ i ∈ S, f i = 1#1 := by
  have bits : ∀ c d : BitVec 1, IntOp.andi c d = 1#1 → c = 1#1 ∧ d = 1#1 := by decide
  induction S using Finset.cons_induction with
  | empty => intro i hi; simp at hi
  | cons a S ha ih =>
    rw [Finset.fold_cons] at h
    obtain ⟨h1, h2⟩ := bits _ _ h
    intro i hi
    rcases Finset.mem_cons.mp hi with rfl | hi
    · exact h1
    · exact ih h2 i hi

/-- A conjunction over a whole array that holds has every entry set. -/
theorem all_of {s t u : Shape} {a : List (Fin s.rank)} (x : IVec s 1) (init : IVec u 1) (h' : s.ReducesTo a t) (hu : 0 < u.numel) (j : t.Idx)
    (ht : t.rank = 0) (h : Host.reduce IntOp.andi x init h' hu j = 1#1) (i : s.Idx) : x i = 1#1 := by
  rw [Host.reduce_eq_fold] at h
  refine all_of_fold _ _ _ h i (Finset.mem_filter.mpr ⟨Finset.mem_univ i, ?_⟩)
  funext k
  exact absurd k.isLt (by omega)

open Cert.Pre_finite_qk Cert.Pre_finite_qk.Facts

/-- An array all of whose absolute values are below infinity holds real numbers. -/
theorem real_of_all (x : FVec Ideal S8x2048x8x64 .f32) (j : S_.Idx)
    (h : Host.reduce IntOp.andi (cmpf .olt (Host.absf x) (broadcastInDim S8x2048x8x64 ![] bcast_S_S8x2048x8x64 (constant S_ .f32 0x7F800000#32)))
      (constantI S_ 1 1#1) reducesTo_S8x2048x8x64_S_d0_1_2_3 h_S_ j = 1#1) (i : S8x2048x8x64.Idx) : ∃ r : ℝ, x i = (r : EReal) := by
  have hb := all_of _ _ _ _ j rfl h i
  refine real_of_lt ?_
  have hc : Ideal.ofBits .f32 0x7F800000#32 = ⊤ := pos_inf
  have hd : BitVec.ofBool (decide (max (x i) (-(x i)) < Ideal.ofBits .f32 0x7F800000#32)) = 1#1 := hb
  rw [hc] at hd
  by_contra hn
  rw [decide_eq_false hn] at hd
  exact absurd hd (by decide)

/-- Under the precondition every query entry and every key entry is a real number. -/
theorem real_qk (a b c d : FVec Ideal S64 .f32) (q k : FVec Ideal S8x2048x8x64 .f32) (p : FVec Ideal S16384x6912 .bf16) (g : FVec Ideal S128 .f32)
    (j : S_.Idx) (h : fn a b c d q k p g j = 1#1) : (∀ i, ∃ r : ℝ, q i = (r : EReal)) ∧ ∀ i, ∃ r : ℝ, k i = (r : EReal) := by
  have bits : ∀ c d : BitVec 1, IntOp.andi c d = 1#1 → c = 1#1 ∧ d = 1#1 := by decide
  obtain ⟨h1, h2⟩ := bits _ _ (show IntOp.andi _ _ = 1#1 from h)
  exact ⟨real_of_all q j h1, real_of_all k j h2⟩

end Cert.Attn.Pre

end
-- ==== Proof.AttnBlock.lean ====
/-
  The attention kernel's block, as one function of one block of 256 queries.  The kernel body treats eight such blocks one
  after the other; `blk` is what each of them computes, `out_eq` says that the body's result is the eight of them, one below
  the other.
-/
module

public import proofs.«01_k».proof.Proof.Gen.KernelIdeal.Frame

@[expose] public section

noncomputable section

open Idealize.ShloMosaic

namespace Cert.Attn

open Cert.KernelIdeal Cert.KernelIdeal.Gen
open Cert.KernelIdeal.Facts

variable {F : FTy → Type} [FloatOps F] [Named F]

/-- The block of queries, scaled. -/
def scaled (q : Vec F S1x256x128 .bf16) : FVec F S256x128 .bf16 :=
  truncf .bf16 (mulf (extf .f32 (shapeCast S256x128 q shapeCasts_S1x256x128_S256x128 : FVec F S256x128 .bf16) bitsLt_bf16_f32)
    (broadcast S256x128 (Named.named κ "q_scale" 0x3E38AA3B#32))) bitsLt_bf16_f32

/-- The scores of a block of queries against a tile of 512 keys. -/
def score (q : FVec F S256x128 .bf16) (k : Vec F S1x512x128 .bf16) : FVec F S256x512 .f32 :=
  matmul dot_S256x128_S512x128_S256x512_1_1_0_0_n_n none q (shapeCast S512x128 k shapeCasts_S1x512x128_S512x128 : FVec F S512x128 .bf16)
    (constant S256x512 .f32 0x00000000#32)

/-- One of the four groups of 128 columns of a tile. -/
def group0 (s : FVec F S256x512 .f32) : FVec F S256x128 .f32 := extractStridedSlice S256x128 ![0, 0] s slices_S256x512_o0_0_S256x128
def group1 (s : FVec F S256x512 .f32) : FVec F S256x128 .f32 := extractStridedSlice S256x128 ![0, 128] s slices_S256x512_o0_128_S256x128
def group2 (s : FVec F S256x512 .f32) : FVec F S256x128 .f32 := extractStridedSlice S256x128 ![0, 256] s slices_S256x512_o0_256_S256x128
def group3 (s : FVec F S256x512 .f32) : FVec F S256x128 .f32 := extractStridedSlice S256x128 ![0, 384] s slices_S256x512_o0_384_S256x128

/-- The maximum over the groups of the first tile, and of a further tile after what came before. -/
def maxFirst (s : FVec F S256x512 .f32) : FVec F S256x128 .f32 :=
  maximumf (maximumf (maximumf (group0 s) (group1 s)) (group2 s)) (group3 s)
def maxNext (a : FVec F S256x128 .f32) (s : FVec F S256x512 .f32) : FVec F S256x128 .f32 :=
  maximumf (maximumf (maximumf (maximumf a (group0 s)) (group1 s)) (group2 s)) (group3 s)

/-- The maximum of each row of four tiles. -/
def rowMax (s0 s1 s2 s3 : FVec F S256x512 .f32) : FVec F S256x1 .f32 :=
  shapeCast S256x1 (multiReduction .maximumf [1] S256 (maxNext (maxNext (maxNext (maxFirst s0) s1) s2) s3) 0xFF800000#32
    reduces_S256x128_S256 (.inl rfl) rfl) shapeCasts_S256_S256x1

/-- The weights of a tile, before they are divided by their sum. -/
def weight (s : FVec F S256x512 .f32) (mx : FVec F S256x1 .f32) : FVec F S256x512 .f32 :=
  exp2 (subf s (broadcastTo S256x512 mx broadcasts_S256x1_S256x512))

/-- The sum over the groups of the first tile, and of a further tile after what came before. -/
def sumFirst (s : FVec F S256x512 .f32) : FVec F S256x128 .f32 :=
  addf (addf (addf (group0 s) (group1 s)) (group2 s)) (group3 s)
def sumNext (a : FVec F S256x128 .f32) (s : FVec F S256x512 .f32) : FVec F S256x128 .f32 :=
  addf (addf (addf (addf a (group0 s)) (group1 s)) (group2 s)) (group3 s)

/-- The sum of each row of four tiles. -/
def rowSum (s0 s1 s2 s3 : FVec F S256x512 .f32) : FVec F S256x1 .f32 :=
  shapeCast S256x1 (multiReduction .add [1] S256 (sumNext (sumNext (sumNext (sumFirst s0) s1) s2) s3) 0x00000000#32
    reduces_S256x128_S256 (.inl rfl) rfl) shapeCasts_S256_S256x1

/-- The factor of the second weights: `lam` times the ratio of the sums. -/
def coef (lam : FVec F S1x1 .f32) (l0 l1 : FVec F S256x1 .f32) : FVec F S256x1 .f32 :=
  divf (mulf (broadcastTo S256x1 lam broadcasts_S1x1_S256x1) l0) l1

/-- The two heads' weights subtracted, times a tile of values. -/
def mix (p0 p1 : FVec F S256x512 .f32) (cf : FVec F S256x1 .f32) (v : Vec F S1x512x128 .bf16) : FVec F S256x128 .f32 :=
  matmul dot_S256x512_S512x128_S256x128_1_0_0_1_n_n none
    (truncf .bf16 (subf p0 (mulf (broadcastTo S256x512 cf broadcasts_S256x1_S256x512) p1)) bitsLt_bf16_f32)
    (shapeCast S512x128 v shapeCasts_S1x512x128_S512x128 : FVec F S512x128 .bf16) (constant S256x128 .f32 0x00000000#32)

/-- The mixture divided by the first sum. -/
def quot (l0 : FVec F S256x1 .f32) (o : FVec F S256x128 .f32) : FVec F S256x128 .f32 :=
  mulf o (broadcastTo S256x128 (divf (broadcast S256x1 (Scalar.ofBits .f32 0x3F800000#32)) l0) broadcasts_S256x1_S256x128)

/-- Each row scaled by the inverse of its root mean square. -/
def normed (o : FVec F S256x128 .f32) : FVec F S256x128 .f32 :=
  mulf o (broadcastTo S256x128 (rsqrt (addf (divf (shapeCast S256x1 (multiReduction .add [1] S256 (mulf o o) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)

/-- The end of the block: the quotient, normed, times the gain. -/
def finish (gain : FVec F S1x128 .f32) (l0 : FVec F S256x1 .f32) (o : FVec F S256x128 .f32) : Vec F S1x256x128 .bf16 :=
  shapeCast S1x256x128 (truncf .bf16 (mulf (normed (quot l0 o)) (broadcastTo S256x128 gain broadcasts_S1x128_S256x128)) bitsLt_bf16_f32)
    shapeCasts_S256x128_S1x256x128

/-- The four tiles of a head's keys or values. -/
def tile0 (k : Vec F S1x2048x128 .bf16) : Vec F S1x512x128 .bf16 := View.ld k r0_3
def tile1 (k : Vec F S1x2048x128 .bf16) : Vec F S1x512x128 .bf16 := View.ld k r0_4
def tile2 (k : Vec F S1x2048x128 .bf16) : Vec F S1x512x128 .bf16 := View.ld k r0_5
def tile3 (k : Vec F S1x2048x128 .bf16) : Vec F S1x512x128 .bf16 := View.ld k r0_6

/-- The rows' maxima for one head. -/
def maxOf (q : Vec F S1x256x128 .bf16) (k : Vec F S1x2048x128 .bf16) : FVec F S256x1 .f32 :=
  rowMax (score (scaled q) (tile0 k)) (score (scaled q) (tile1 k)) (score (scaled q) (tile2 k)) (score (scaled q) (tile3 k))

/-- The weights of each tile for one head. -/
def w0 (q : Vec F S1x256x128 .bf16) (k : Vec F S1x2048x128 .bf16) : FVec F S256x512 .f32 := weight (score (scaled q) (tile0 k)) (maxOf q k)
def w1 (q : Vec F S1x256x128 .bf16) (k : Vec F S1x2048x128 .bf16) : FVec F S256x512 .f32 := weight (score (scaled q) (tile1 k)) (maxOf q k)
def w2 (q : Vec F S1x256x128 .bf16) (k : Vec F S1x2048x128 .bf16) : FVec F S256x512 .f32 := weight (score (scaled q) (tile2 k)) (maxOf q k)
def w3 (q : Vec F S1x256x128 .bf16) (k : Vec F S1x2048x128 .bf16) : FVec F S256x512 .f32 := weight (score (scaled q) (tile3 k)) (maxOf q k)

/-- The rows' sums of weights for one head. -/
def sumOf (q : Vec F S1x256x128 .bf16) (k : Vec F S1x2048x128 .bf16) : FVec F S256x1 .f32 := rowSum (w0 q k) (w1 q k) (w2 q k) (w3 q k)

/-- The factor of the second head's weights. -/
def coefOf (lam : FVec F S1x1 .f32) (q : Vec F S1x256x128 .bf16) (k0 k1 : Vec F S1x2048x128 .bf16) : FVec F S256x1 .f32 :=
  coef lam (sumOf q k0) (sumOf q k1)

/-- The mixture of the values over all four tiles. -/
def mixOf (lam : FVec F S1x1 .f32) (q : Vec F S1x256x128 .bf16) (k0 k1 v : Vec F S1x2048x128 .bf16) : FVec F S256x128 .f32 :=
  addf (addf (addf (mix (w0 q k0) (w0 q k1) (coefOf lam q k0 k1) (tile0 v)) (mix (w1 q k0) (w1 q k1) (coefOf lam q k0 k1) (tile1 v)))
    (mix (w2 q k0) (w2 q k1) (coefOf lam q k0 k1) (tile2 v))) (mix (w3 q k0) (w3 q k1) (coefOf lam q k0 k1) (tile3 v))

/-- What one block of 256 queries gives. -/
def blk (lam : FVec F S1x1 .f32) (gain : FVec F S1x128 .f32) (q : Vec F S1x256x128 .bf16) (k0 k1 v : Vec F S1x2048x128 .bf16) :
    Vec F S1x256x128 .bf16 :=
  finish gain (sumOf q k0) (mixOf lam q k0 k1 v)

section
variable (x0 : Vec F S4x64 .f32) (x1 x2 x3 x4 : Vec F S1x2048x128 .bf16) (x5 : Vec F S1x128 .f32)

/-- The first block of queries. -/
theorem piece0 : k0_pay101 (k0_pay358 x0 x1 x2 x3 x4 x5) (k0_pay382 x0 x1 x2 x3 x4 x5) (k0_pay96 (k0_pay49 (k0_pay379 x0 x1 x2 x3 x4 x5)) (k0_pay50 (k0_pay367 x0 x1 x2 x3 x4 x5) (k0_pay369 x0 x1 x2 x3 x4 x5)) (k0_pay387 x0 x1 x2 x3 x4 x5) (k0_pay87 (k0_pay40 (k0_pay364 x0 x1 x2 x3 x4 x5) (k0_pay368 x0 x1 x2 x3 x4 x5)) (k0_pay42 (k0_pay366 x0 x1 x2 x3 x4 x5) (k0_pay369 x0 x1 x2 x3 x4 x5)) (k0_pay387 x0 x1 x2 x3 x4 x5) (k0_pay74 (k0_pay31 (k0_pay362 x0 x1 x2 x3 x4 x5) (k0_pay368 x0 x1 x2 x3 x4 x5)) (k0_pay33 (k0_pay363 x0 x1 x2 x3 x4 x5) (k0_pay369 x0 x1 x2 x3 x4 x5)) (k0_pay387 x0 x1 x2 x3 x4 x5) (k0_pay65 (k0_pay357 x0 x1 x2 x3 x4 x5) (k0_pay23 (k0_pay360 x0 x1 x2 x3 x4 x5) (k0_pay368 x0 x1 x2 x3 x4 x5)) (k0_pay25 (k0_pay361 x0 x1 x2 x3 x4 x5) (k0_pay369 x0 x1 x2 x3 x4 x5)) (k0_pay382 x0 x1 x2 x3 x4 x5) (k0_pay383 x0 x1 x2 x3 x4 x5) (View.ld x4 r0_3)) (View.ld x4 r0_4)) (View.ld x4 r0_5)) (View.ld x4 r0_6)) = blk (k0_pay2 (View.ld x0 r0_0)) (k0_pay3 (View.ld x5 r0_1)) (View.ld x1 r0_2) x2 x3 x4 := rfl

/-- The second block of queries. -/
theorem piece1 : k0_pay149 (k0_pay358 x0 x1 x2 x3 x4 x5) (k0_pay396 x0 x1 x2 x3 x4 x5) (k0_pay144 (k0_pay92 (k0_pay377 x0 x1 x2 x3 x4 x5) (k0_pay380 x0 x1 x2 x3 x4 x5)) (k0_pay94 (k0_pay378 x0 x1 x2 x3 x4 x5) (k0_pay381 x0 x1 x2 x3 x4 x5)) (k0_pay401 x0 x1 x2 x3 x4 x5) (k0_pay135 (k0_pay83 (k0_pay375 x0 x1 x2 x3 x4 x5) (k0_pay380 x0 x1 x2 x3 x4 x5)) (k0_pay85 (k0_pay376 x0 x1 x2 x3 x4 x5) (k0_pay381 x0 x1 x2 x3 x4 x5)) (k0_pay401 x0 x1 x2 x3 x4 x5) (k0_pay125 (k0_pay70 (k0_pay373 x0 x1 x2 x3 x4 x5) (k0_pay380 x0 x1 x2 x3 x4 x5)) (k0_pay72 (k0_pay374 x0 x1 x2 x3 x4 x5) (k0_pay381 x0 x1 x2 x3 x4 x5)) (k0_pay401 x0 x1 x2 x3 x4 x5) (k0_pay112 (k0_pay357 x0 x1 x2 x3 x4 x5) (k0_pay60 (k0_pay371 x0 x1 x2 x3 x4 x5) (k0_pay380 x0 x1 x2 x3 x4 x5)) (k0_pay62 (k0_pay372 x0 x1 x2 x3 x4 x5) (k0_pay381 x0 x1 x2 x3 x4 x5)) (k0_pay396 x0 x1 x2 x3 x4 x5) (k0_pay397 x0 x1 x2 x3 x4 x5) (View.ld x4 r0_3)) (View.ld x4 r0_4)) (View.ld x4 r0_5)) (View.ld x4 r0_6)) = blk (k0_pay2 (View.ld x0 r0_0)) (k0_pay3 (View.ld x5 r0_1)) (View.ld x1 r0_7) x2 x3 x4 := rfl

/-- The third block of queries. -/
theorem piece2 : k0_pay196 (k0_pay358 x0 x1 x2 x3 x4 x5) (k0_pay410 x0 x1 x2 x3 x4 x5) (k0_pay182 (k0_pay131 (k0_pay390 x0 x1 x2 x3 x4 x5) (k0_pay394 x0 x1 x2 x3 x4 x5)) (k0_pay133 (k0_pay391 x0 x1 x2 x3 x4 x5) (k0_pay395 x0 x1 x2 x3 x4 x5)) (k0_pay415 x0 x1 x2 x3 x4 x5) (k0_pay173 (k0_pay121 (k0_pay388 x0 x1 x2 x3 x4 x5) (k0_pay394 x0 x1 x2 x3 x4 x5)) (k0_pay123 (k0_pay389 x0 x1 x2 x3 x4 x5) (k0_pay395 x0 x1 x2 x3 x4 x5)) (k0_pay415 x0 x1 x2 x3 x4 x5) (k0_pay163 (k0_pay357 x0 x1 x2 x3 x4 x5) (k0_pay107 (k0_pay385 x0 x1 x2 x3 x4 x5) (k0_pay394 x0 x1 x2 x3 x4 x5)) (k0_pay109 (k0_pay386 x0 x1 x2 x3 x4 x5) (k0_pay395 x0 x1 x2 x3 x4 x5)) (k0_pay410 x0 x1 x2 x3 x4 x5) (k0_pay411 x0 x1 x2 x3 x4 x5) (View.ld x4 r0_3)) (View.ld x4 r0_4)) (View.ld x4 r0_5)) (k0_pay191 (k0_pay140 (k0_pay392 x0 x1 x2 x3 x4 x5) (k0_pay394 x0 x1 x2 x3 x4 x5)) (k0_pay142 (k0_pay393 x0 x1 x2 x3 x4 x5) (k0_pay395 x0 x1 x2 x3 x4 x5)) (k0_pay415 x0 x1 x2 x3 x4 x5)) (View.ld x4 r0_6) = blk (k0_pay2 (View.ld x0 r0_0)) (k0_pay3 (View.ld x5 r0_1)) (View.ld x1 r0_8) x2 x3 x4 := rfl

/-- The fourth block of queries. -/
theorem piece3 : k0_pay241 (k0_pay358 x0 x1 x2 x3 x4 x5) (k0_pay425 x0 x1 x2 x3 x4 x5) (k0_pay227 (k0_pay217 (k0_pay169 (k0_pay402 x0 x1 x2 x3 x4 x5) (k0_pay408 x0 x1 x2 x3 x4 x5)) (k0_pay171 (k0_pay403 x0 x1 x2 x3 x4 x5) (k0_pay409 x0 x1 x2 x3 x4 x5)) (k0_pay431 x0 x1 x2 x3 x4 x5) (k0_pay208 (k0_pay357 x0 x1 x2 x3 x4 x5) (k0_pay158 (k0_pay399 x0 x1 x2 x3 x4 x5) (k0_pay408 x0 x1 x2 x3 x4 x5)) (k0_pay160 (k0_pay400 x0 x1 x2 x3 x4 x5) (k0_pay409 x0 x1 x2 x3 x4 x5)) (k0_pay425 x0 x1 x2 x3 x4 x5) (k0_pay426 x0 x1 x2 x3 x4 x5) (View.ld x4 r0_3)) (View.ld x4 r0_4)) (k0_pay226 (k0_pay178 (k0_pay404 x0 x1 x2 x3 x4 x5) (k0_pay408 x0 x1 x2 x3 x4 x5)) (k0_pay180 (k0_pay405 x0 x1 x2 x3 x4 x5) (k0_pay409 x0 x1 x2 x3 x4 x5)) (k0_pay431 x0 x1 x2 x3 x4 x5)) (View.ld x4 r0_5)) (k0_pay236 (k0_pay187 (k0_pay406 x0 x1 x2 x3 x4 x5) (k0_pay408 x0 x1 x2 x3 x4 x5)) (k0_pay189 (k0_pay407 x0 x1 x2 x3 x4 x5) (k0_pay409 x0 x1 x2 x3 x4 x5)) (k0_pay431 x0 x1 x2 x3 x4 x5)) (View.ld x4 r0_6) = blk (k0_pay2 (View.ld x0 r0_0)) (k0_pay3 (View.ld x5 r0_1)) (View.ld x1 r0_9) x2 x3 x4 := rfl

/-- The fifth block of queries. -/
theorem piece4 : k0_pay285 (k0_pay358 x0 x1 x2 x3 x4 x5) (k0_pay232 (k0_pay420 x0 x1 x2 x3 x4 x5) (k0_pay423 x0 x1 x2 x3 x4 x5)) (k0_pay234 (k0_pay421 x0 x1 x2 x3 x4 x5) (k0_pay424 x0 x1 x2 x3 x4 x5)) (k0_pay440 x0 x1 x2 x3 x4 x5) (k0_pay445 x0 x1 x2 x3 x4 x5) (k0_pay272 (k0_pay262 (k0_pay252 (k0_pay357 x0 x1 x2 x3 x4 x5) (k0_pay203 (k0_pay413 x0 x1 x2 x3 x4 x5) (k0_pay423 x0 x1 x2 x3 x4 x5)) (k0_pay205 (k0_pay414 x0 x1 x2 x3 x4 x5) (k0_pay424 x0 x1 x2 x3 x4 x5)) (k0_pay440 x0 x1 x2 x3 x4 x5) (k0_pay441 x0 x1 x2 x3 x4 x5) (View.ld x4 r0_3)) (k0_pay261 (k0_pay213 (k0_pay416 x0 x1 x2 x3 x4 x5) (k0_pay423 x0 x1 x2 x3 x4 x5)) (k0_pay215 (k0_pay417 x0 x1 x2 x3 x4 x5) (k0_pay424 x0 x1 x2 x3 x4 x5)) (k0_pay445 x0 x1 x2 x3 x4 x5)) (View.ld x4 r0_4)) (k0_pay271 (k0_pay222 (k0_pay418 x0 x1 x2 x3 x4 x5) (k0_pay423 x0 x1 x2 x3 x4 x5)) (k0_pay224 (k0_pay419 x0 x1 x2 x3 x4 x5) (k0_pay424 x0 x1 x2 x3 x4 x5)) (k0_pay445 x0 x1 x2 x3 x4 x5)) (View.ld x4 r0_5)) (View.ld x4 r0_6) = blk (k0_pay2 (View.ld x0 r0_0)) (k0_pay3 (View.ld x5 r0_1)) (View.ld x1 r0_10) x2 x3 x4 := rfl

/-- The sixth block of queries. -/
theorem piece5 : k0_pay334 (k0_pay358 x0 x1 x2 x3 x4 x5) (k0_pay277 (k0_pay436 x0 x1 x2 x3 x4 x5) (k0_pay438 x0 x1 x2 x3 x4 x5)) (k0_pay279 (k0_pay437 x0 x1 x2 x3 x4 x5) (k0_pay439 x0 x1 x2 x3 x4 x5)) (k0_pay454 x0 x1 x2 x3 x4 x5) (k0_pay461 x0 x1 x2 x3 x4 x5) (k0_pay318 (k0_pay267 (k0_pay434 x0 x1 x2 x3 x4 x5) (k0_pay438 x0 x1 x2 x3 x4 x5)) (k0_pay269 (k0_pay435 x0 x1 x2 x3 x4 x5) (k0_pay439 x0 x1 x2 x3 x4 x5)) (k0_pay461 x0 x1 x2 x3 x4 x5) (k0_pay309 (k0_pay299 (k0_pay298 (k0_pay357 x0 x1 x2 x3 x4 x5) (k0_pay247 (k0_pay429 x0 x1 x2 x3 x4 x5) (k0_pay438 x0 x1 x2 x3 x4 x5)) (k0_pay249 (k0_pay430 x0 x1 x2 x3 x4 x5) (k0_pay439 x0 x1 x2 x3 x4 x5)) (k0_pay454 x0 x1 x2 x3 x4 x5) (k0_pay455 x0 x1 x2 x3 x4 x5)) (View.ld x4 r0_3)) (k0_pay308 (k0_pay257 (k0_pay432 x0 x1 x2 x3 x4 x5) (k0_pay438 x0 x1 x2 x3 x4 x5)) (k0_pay259 (k0_pay433 x0 x1 x2 x3 x4 x5) (k0_pay439 x0 x1 x2 x3 x4 x5)) (k0_pay461 x0 x1 x2 x3 x4 x5)) (View.ld x4 r0_4)) (View.ld x4 r0_5)) (View.ld x4 r0_6) = blk (k0_pay2 (View.ld x0 r0_0)) (k0_pay3 (View.ld x5 r0_1)) (View.ld x1 r0_11) x2 x3 x4 := rfl

/-- The seventh block of queries. -/
theorem piece6 : k0_pay353 (k0_pay358 x0 x1 x2 x3 x4 x5) (k0_pay323 (k0_pay450 x0 x1 x2 x3 x4 x5) (k0_pay452 x0 x1 x2 x3 x4 x5)) (k0_pay325 (k0_pay451 x0 x1 x2 x3 x4 x5) (k0_pay453 x0 x1 x2 x3 x4 x5)) (k0_pay471 x0 x1 x2 x3 x4 x5) (k0_pay474 x0 x1 x2 x3 x4 x5) (k0_pay347 (k0_pay314 (k0_pay448 x0 x1 x2 x3 x4 x5) (k0_pay452 x0 x1 x2 x3 x4 x5)) (k0_pay316 (k0_pay449 x0 x1 x2 x3 x4 x5) (k0_pay453 x0 x1 x2 x3 x4 x5)) (k0_pay474 x0 x1 x2 x3 x4 x5) (k0_pay339 (k0_pay357 x0 x1 x2 x3 x4 x5) (k0_pay293 (k0_pay443 x0 x1 x2 x3 x4 x5) (k0_pay452 x0 x1 x2 x3 x4 x5)) (k0_pay295 (k0_pay444 x0 x1 x2 x3 x4 x5) (k0_pay453 x0 x1 x2 x3 x4 x5)) (k0_pay471 x0 x1 x2 x3 x4 x5) (k0_pay472 x0 x1 x2 x3 x4 x5) (View.ld x4 r0_3)) (k0_pay344 (k0_pay357 x0 x1 x2 x3 x4 x5) (k0_pay304 (k0_pay446 x0 x1 x2 x3 x4 x5) (k0_pay452 x0 x1 x2 x3 x4 x5)) (k0_pay306 (k0_pay447 x0 x1 x2 x3 x4 x5) (k0_pay453 x0 x1 x2 x3 x4 x5)) (k0_pay471 x0 x1 x2 x3 x4 x5) (k0_pay472 x0 x1 x2 x3 x4 x5)) (View.ld x4 r0_4) (View.ld x4 r0_5)) (View.ld x4 r0_6) = blk (k0_pay2 (View.ld x0 r0_0)) (k0_pay3 (View.ld x5 r0_1)) (View.ld x1 r0_12) x2 x3 x4 := rfl

/-- The eighth block of queries. -/
theorem piece7 : k0_pay1 (k0_pay356 (k0_pay358 x0 x1 x2 x3 x4 x5) (k0_pay340 (k0_pay462 x0 x1 x2 x3 x4 x5) (k0_pay469 x0 x1 x2 x3 x4 x5)) (k0_pay342 (k0_pay463 x0 x1 x2 x3 x4 x5) (k0_pay470 x0 x1 x2 x3 x4 x5)) (k0_pay345 (k0_pay464 x0 x1 x2 x3 x4 x5) (k0_pay469 x0 x1 x2 x3 x4 x5)) (k0_pay346 (k0_pay465 x0 x1 x2 x3 x4 x5) (k0_pay470 x0 x1 x2 x3 x4 x5)) (k0_pay348 (k0_pay466 x0 x1 x2 x3 x4 x5) (k0_pay469 x0 x1 x2 x3 x4 x5)) (k0_pay350 (k0_pay468 x0 x1 x2 x3 x4 x5) (k0_pay470 x0 x1 x2 x3 x4 x5)) (k0_pay352 (k0_pay475 x0 x1 x2 x3 x4 x5)) (k0_pay354 (k0_pay357 x0 x1 x2 x3 x4 x5) (k0_pay475 x0 x1 x2 x3 x4 x5) (k0_pay476 x0 x1 x2 x3 x4 x5)) (k0_pay355 (k0_pay357 x0 x1 x2 x3 x4 x5) (k0_pay473 x0 x1 x2 x3 x4 x5) (k0_pay337 (k0_pay460 x0 x1 x2 x3 x4 x5) (k0_pay470 x0 x1 x2 x3 x4 x5)) (k0_pay475 x0 x1 x2 x3 x4 x5) (k0_pay476 x0 x1 x2 x3 x4 x5) (View.ld x4 r0_3)) (View.ld x4 r0_4) (View.ld x4 r0_5) (View.ld x4 r0_6)) = blk (k0_pay2 (View.ld x0 r0_0)) (k0_pay3 (View.ld x5 r0_1)) (View.ld x1 r0_13) x2 x3 x4 := rfl

/-- The body's result: the eight blocks, one below the other. -/
theorem out_eq : out0_6 x0 x1 x2 x3 x4 x5 = View.canon [⟨r0_13, blk (k0_pay2 (View.ld x0 r0_0)) (k0_pay3 (View.ld x5 r0_1)) (View.ld x1 r0_13) x2 x3 x4⟩,
    ⟨r0_12, blk (k0_pay2 (View.ld x0 r0_0)) (k0_pay3 (View.ld x5 r0_1)) (View.ld x1 r0_12) x2 x3 x4⟩,
    ⟨r0_11, blk (k0_pay2 (View.ld x0 r0_0)) (k0_pay3 (View.ld x5 r0_1)) (View.ld x1 r0_11) x2 x3 x4⟩,
    ⟨r0_10, blk (k0_pay2 (View.ld x0 r0_0)) (k0_pay3 (View.ld x5 r0_1)) (View.ld x1 r0_10) x2 x3 x4⟩,
    ⟨r0_9, blk (k0_pay2 (View.ld x0 r0_0)) (k0_pay3 (View.ld x5 r0_1)) (View.ld x1 r0_9) x2 x3 x4⟩,
    ⟨r0_8, blk (k0_pay2 (View.ld x0 r0_0)) (k0_pay3 (View.ld x5 r0_1)) (View.ld x1 r0_8) x2 x3 x4⟩,
    ⟨r0_7, blk (k0_pay2 (View.ld x0 r0_0)) (k0_pay3 (View.ld x5 r0_1)) (View.ld x1 r0_7) x2 x3 x4⟩,
    ⟨r0_2, blk (k0_pay2 (View.ld x0 r0_0)) (k0_pay3 (View.ld x5 r0_1)) (View.ld x1 r0_2) x2 x3 x4⟩] := by
  unfold out0_6
  rw [piece0, piece1, piece2, piece3, piece4, piece5, piece6, piece7]

end

end Cert.Attn

end
-- ==== Proof.AttnEntry.lean ====
/-
  One entry of what a block of 256 queries gives, on the extended reals: the two heads' weights to the base two, their mixture
  with the values, divided by the first sum, and normed.
-/
module

public import proofs.«01_k».proof.Proof.AttnBlock
public import proofs.«01_k».proof.Proof.AttnMath

@[expose] public section

noncomputable section

open Idealize.ShloMosaic

namespace Cert.Attn

open Cert.KernelIdeal Cert.KernelIdeal.Gen
open Cert.KernelIdeal.Facts

/-- The factor of the queries. -/
def kap : EReal := (((Real.log 2)⁻¹ * 8⁻¹ : ℝ) : EReal)

/-- A row over its root mean square. -/
def normRow (X : Fin 128 → EReal) (d : Fin 128) : EReal :=
  X d * Ideal.rsqrt (Ideal.div (∑ e, X e * X e) (Ideal.ofBits .f32 0x43000000#32) + Ideal.ofBits .f32 0x358637BD#32)

theorem scaled_at (q : Vec Ideal S1x256x128 .bf16) (p : Fin 256) (d : Fin 128) :
    scaled q (ix2 p d : S256x128.Idx) = q (ix3 0 p d) * kap := by
  unfold scaled
  pointwise
  rfl

theorem score_at (q : FVec Ideal S256x128 .bf16) (k : Vec Ideal S1x512x128 .bf16) (p : Fin 256) (n : Fin 512) :
    score q k (ix2 p n : S256x512.Idx) = ∑ d : Fin 128, q (ix2 p d) * k (ix3 0 n d) := by
  unfold score
  pointwise

theorem tile0_at (k : Vec Ideal S1x2048x128 .bf16) (n : Fin 512) (d : Fin 128) :
    tile0 k (ix3 0 n d : S1x512x128.Idx) = k (ix3 0 ⟨n, by omega⟩ d) := by
  unfold tile0
  pointwise

theorem tile1_at (k : Vec Ideal S1x2048x128 .bf16) (n : Fin 512) (d : Fin 128) :
    tile1 k (ix3 0 n d : S1x512x128.Idx) = k (ix3 0 ⟨512 + n, by omega⟩ d) := by
  unfold tile1
  pointwise

theorem tile2_at (k : Vec Ideal S1x2048x128 .bf16) (n : Fin 512) (d : Fin 128) :
    tile2 k (ix3 0 n d : S1x512x128.Idx) = k (ix3 0 ⟨1024 + n, by omega⟩ d) := by
  unfold tile2
  pointwise

theorem tile3_at (k : Vec Ideal S1x2048x128 .bf16) (n : Fin 512) (d : Fin 128) :
    tile3 k (ix3 0 n d : S1x512x128.Idx) = k (ix3 0 ⟨1536 + n, by omega⟩ d) := by
  unfold tile3
  pointwise

theorem weight_at (s : FVec Ideal S256x512 .f32) (mx : FVec Ideal S256x1 .f32) (p : Fin 256) (n : Fin 512) :
    weight s mx (ix2 p n : S256x512.Idx) = Ideal.exp2 (s (ix2 p n) - mx (ix2 p 0)) := by
  unfold weight
  pointwise
  rfl

theorem group0_at (s : FVec Ideal S256x512 .f32) (p : Fin 256) (n : Fin 128) :
    group0 s (ix2 p n : S256x128.Idx) = s (ix2 p ⟨n, by omega⟩) := by unfold group0; pointwise
theorem group1_at (s : FVec Ideal S256x512 .f32) (p : Fin 256) (n : Fin 128) :
    group1 s (ix2 p n : S256x128.Idx) = s (ix2 p ⟨128 + n, by omega⟩) := by unfold group1; pointwise
theorem group2_at (s : FVec Ideal S256x512 .f32) (p : Fin 256) (n : Fin 128) :
    group2 s (ix2 p n : S256x128.Idx) = s (ix2 p ⟨256 + n, by omega⟩) := by unfold group2; pointwise
theorem group3_at (s : FVec Ideal S256x512 .f32) (p : Fin 256) (n : Fin 128) :
    group3 s (ix2 p n : S256x128.Idx) = s (ix2 p ⟨384 + n, by omega⟩) := by unfold group3; pointwise

/-- The sum over the lanes of a tile's groups is the sum over the tile. -/
theorem sum_group (s : FVec Ideal S256x512 .f32) (p : Fin 256) :
    (∑ n : Fin 128, group0 s (ix2 p n : S256x128.Idx)) + (∑ n : Fin 128, group1 s (ix2 p n : S256x128.Idx))
      + (∑ n : Fin 128, group2 s (ix2 p n : S256x128.Idx)) + (∑ n : Fin 128, group3 s (ix2 p n : S256x128.Idx))
      = ∑ n : Fin 512, s (ix2 p n) := by
  rw [sum_groups]
  simp only [group0_at, group1_at, group2_at, group3_at]

theorem rowSum_at (s0 s1 s2 s3 : FVec Ideal S256x512 .f32) (p : Fin 256) :
    rowSum s0 s1 s2 s3 (ix2 p 0 : S256x1.Idx) = (∑ n : Fin 512, s0 (ix2 p n)) + (∑ n : Fin 512, s1 (ix2 p n))
      + (∑ n : Fin 512, s2 (ix2 p n)) + ∑ n : Fin 512, s3 (ix2 p n) := by
  have h : rowSum s0 s1 s2 s3 (ix2 p 0 : S256x1.Idx)
      = ∑ n : Fin 128, sumNext (sumNext (sumNext (sumFirst s0) s1) s2) s3 (ix2 p n : S256x128.Idx) := by
    unfold rowSum
    generalize sumNext (sumNext (sumNext (sumFirst s0) s1) s2) s3 = a
    pointwise
  rw [h, ← sum_group s0, ← sum_group s1, ← sum_group s2, ← sum_group s3]
  simp only [← add_assoc]
  simp only [← Finset.sum_add_distrib]
  rfl

/-- The maximum of real scores is real. -/
theorem rowMax_real (s0 s1 s2 s3 : FVec Ideal S256x512 .f32) (p : Fin 256)
    (h0 : ∀ n, ∃ r : ℝ, s0 (ix2 p n) = (r : EReal)) (h1 : ∀ n, ∃ r : ℝ, s1 (ix2 p n) = (r : EReal))
    (h2 : ∀ n, ∃ r : ℝ, s2 (ix2 p n) = (r : EReal)) (h3 : ∀ n, ∃ r : ℝ, s3 (ix2 p n) = (r : EReal)) :
    ∃ r : ℝ, rowMax s0 s1 s2 s3 (ix2 p 0 : S256x1.Idx) = (r : EReal) := by
  have h : rowMax s0 s1 s2 s3 (ix2 p 0 : S256x1.Idx)
      = Finset.univ.fold max (Ideal.ofBits .f32 0xFF800000#32) fun n : Fin 128 =>
          maxNext (maxNext (maxNext (maxFirst s0) s1) s2) s3 (ix2 p n : S256x128.Idx) := by
    unfold rowMax
    generalize maxNext (maxNext (maxNext (maxFirst s0) s1) s2) s3 = a
    pointwise
  rw [h, neg_inf]
  refine sup_real _ fun n => ?_
  have first : ∀ (s : FVec Ideal S256x512 .f32), (∀ n, ∃ r : ℝ, s (ix2 p n) = (r : EReal)) →
      ∃ r : ℝ, maxFirst s (ix2 p n : S256x128.Idx) = (r : EReal) := fun s hs => by
    show ∃ r : ℝ, max (max (max (group0 s (ix2 p n : S256x128.Idx)) (group1 s (ix2 p n : S256x128.Idx))) (group2 s (ix2 p n : S256x128.Idx)))
      (group3 s (ix2 p n : S256x128.Idx)) = (r : EReal)
    rw [group0_at, group1_at, group2_at, group3_at]
    exact max_real (max_real (max_real (hs _) (hs _)) (hs _)) (hs _)
  have next : ∀ (a : FVec Ideal S256x128 .f32) (s : FVec Ideal S256x512 .f32), (∃ r : ℝ, a (ix2 p n) = (r : EReal)) →
      (∀ n, ∃ r : ℝ, s (ix2 p n) = (r : EReal)) → ∃ r : ℝ, maxNext a s (ix2 p n : S256x128.Idx) = (r : EReal) := fun a s ha hs => by
    show ∃ r : ℝ, max (max (max (max (a (ix2 p n)) (group0 s (ix2 p n : S256x128.Idx))) (group1 s (ix2 p n : S256x128.Idx)))
      (group2 s (ix2 p n : S256x128.Idx))) (group3 s (ix2 p n : S256x128.Idx)) = (r : EReal)
    rw [group0_at, group1_at, group2_at, group3_at]
    exact max_real (max_real (max_real (max_real ha (hs _)) (hs _)) (hs _)) (hs _)
  exact next _ _ (next _ _ (next _ _ (first _ h0) h1) h2) h3

theorem coef_at (lam : FVec Ideal S1x1 .f32) (l0 l1 : FVec Ideal S256x1 .f32) (p : Fin 256) :
    coef lam l0 l1 (ix2 p 0 : S256x1.Idx) = Ideal.div (lam (ix2 0 0) * l0 (ix2 p 0)) (l1 (ix2 p 0)) := by
  unfold coef
  pointwise

theorem mix_at (p0 p1 : FVec Ideal S256x512 .f32) (cf : FVec Ideal S256x1 .f32) (v : Vec Ideal S1x512x128 .bf16) (p : Fin 256) (d : Fin 128) :
    mix p0 p1 cf v (ix2 p d : S256x128.Idx) = ∑ n : Fin 512, (p0 (ix2 p n) - cf (ix2 p 0) * p1 (ix2 p n)) * v (ix3 0 n d) := by
  unfold mix
  pointwise

theorem quot_at (l0 : FVec Ideal S256x1 .f32) (o : FVec Ideal S256x128 .f32) (p : Fin 256) (d : Fin 128) :
    quot l0 o (ix2 p d : S256x128.Idx) = o (ix2 p d) * Ideal.div 1 (l0 (ix2 p 0)) := by
  unfold quot
  pointwise

theorem normed_at (o : FVec Ideal S256x128 .f32) (p : Fin 256) (d : Fin 128) :
    normed o (ix2 p d : S256x128.Idx) = normRow (fun e => o (ix2 p e)) d := by
  unfold normed normRow
  pointwise

theorem finish_at (gain : FVec Ideal S1x128 .f32) (l0 : FVec Ideal S256x1 .f32) (o : FVec Ideal S256x128 .f32) (p : Fin 256) (d : Fin 128) :
    finish gain l0 o (ix3 0 p d : S1x256x128.Idx)
      = normRow (fun e => o (ix2 p e) * Ideal.div 1 (l0 (ix2 p 0))) d * gain (ix2 0 d) := by
  have h : finish gain l0 o (ix3 0 p d : S1x256x128.Idx) = normed (quot l0 o) (ix2 p d : S256x128.Idx) * gain (ix2 0 d) := by
    unfold finish
    generalize normed (quot l0 o) = a
    pointwise
  rw [h, normed_at]
  simp only [quot_at]

/-- The score of a query of the block against any key of the head. -/
def sc (q : Vec Ideal S1x256x128 .bf16) (k : Vec Ideal S1x2048x128 .bf16) (p : Fin 256) (n : Fin 2048) : EReal :=
  ∑ d : Fin 128, q (ix3 0 p d) * kap * k (ix3 0 n d)

/-- The weight of a key, before the division by the sum. -/
def wt (q : Vec Ideal S1x256x128 .bf16) (k : Vec Ideal S1x2048x128 .bf16) (p : Fin 256) (n : Fin 2048) : EReal :=
  Ideal.exp2 (sc q k p n - maxOf q k (ix2 p 0 : S256x1.Idx))

theorem score0_at (q : Vec Ideal S1x256x128 .bf16) (k : Vec Ideal S1x2048x128 .bf16) (p : Fin 256) (n : Fin 512) :
    score (scaled q) (tile0 k) (ix2 p n : S256x512.Idx) = sc q k p ⟨n, by omega⟩ := by
  rw [score_at]; simp only [scaled_at, tile0_at]; rfl
theorem score1_at (q : Vec Ideal S1x256x128 .bf16) (k : Vec Ideal S1x2048x128 .bf16) (p : Fin 256) (n : Fin 512) :
    score (scaled q) (tile1 k) (ix2 p n : S256x512.Idx) = sc q k p ⟨512 + n, by omega⟩ := by
  rw [score_at]; simp only [scaled_at, tile1_at]; rfl
theorem score2_at (q : Vec Ideal S1x256x128 .bf16) (k : Vec Ideal S1x2048x128 .bf16) (p : Fin 256) (n : Fin 512) :
    score (scaled q) (tile2 k) (ix2 p n : S256x512.Idx) = sc q k p ⟨1024 + n, by omega⟩ := by
  rw [score_at]; simp only [scaled_at, tile2_at]; rfl
theorem score3_at (q : Vec Ideal S1x256x128 .bf16) (k : Vec Ideal S1x2048x128 .bf16) (p : Fin 256) (n : Fin 512) :
    score (scaled q) (tile3 k) (ix2 p n : S256x512.Idx) = sc q k p ⟨1536 + n, by omega⟩ := by
  rw [score_at]; simp only [scaled_at, tile3_at]; rfl

theorem w0_at (q : Vec Ideal S1x256x128 .bf16) (k : Vec Ideal S1x2048x128 .bf16) (p : Fin 256) (n : Fin 512) :
    w0 q k (ix2 p n : S256x512.Idx) = wt q k p ⟨n, by omega⟩ := by
  unfold w0; rw [weight_at, score0_at]; rfl
theorem w1_at (q : Vec Ideal S1x256x128 .bf16) (k : Vec Ideal S1x2048x128 .bf16) (p : Fin 256) (n : Fin 512) :
    w1 q k (ix2 p n : S256x512.Idx) = wt q k p ⟨512 + n, by omega⟩ := by
  unfold w1; rw [weight_at, score1_at]; rfl
theorem w2_at (q : Vec Ideal S1x256x128 .bf16) (k : Vec Ideal S1x2048x128 .bf16) (p : Fin 256) (n : Fin 512) :
    w2 q k (ix2 p n : S256x512.Idx) = wt q k p ⟨1024 + n, by omega⟩ := by
  unfold w2; rw [weight_at, score2_at]; rfl
theorem w3_at (q : Vec Ideal S1x256x128 .bf16) (k : Vec Ideal S1x2048x128 .bf16) (p : Fin 256) (n : Fin 512) :
    w3 q k (ix2 p n : S256x512.Idx) = wt q k p ⟨1536 + n, by omega⟩ := by
  unfold w3; rw [weight_at, score3_at]; rfl

/-- A block's row sum is the sum of the weights of all the keys. -/
theorem sumOf_at (q : Vec Ideal S1x256x128 .bf16) (k : Vec Ideal S1x2048x128 .bf16) (p : Fin 256) :
    sumOf q k (ix2 p 0 : S256x1.Idx) = ∑ n, wt q k p n := by
  unfold sumOf
  rw [rowSum_at, sum_tiles]
  simp only [w0_at, w1_at, w2_at, w3_at]

/-- The row maximum is real where the scores are. -/
theorem maxOf_real (q : Vec Ideal S1x256x128 .bf16) (k : Vec Ideal S1x2048x128 .bf16) (p : Fin 256)
    (h : ∀ n, ∃ r : ℝ, sc q k p n = (r : EReal)) : ∃ r : ℝ, maxOf q k (ix2 p 0 : S256x1.Idx) = (r : EReal) := by
  unfold maxOf
  refine rowMax_real _ _ _ _ p ?_ ?_ ?_ ?_
  · intro n; rw [score0_at]; exact h _
  · intro n; rw [score1_at]; exact h _
  · intro n; rw [score2_at]; exact h _
  · intro n; rw [score3_at]; exact h _

/-- The mixture over all the keys. -/
theorem mixOf_at (lam : FVec Ideal S1x1 .f32) (q : Vec Ideal S1x256x128 .bf16) (k0 k1 v : Vec Ideal S1x2048x128 .bf16) (p : Fin 256) (d : Fin 128) :
    mixOf lam q k0 k1 v (ix2 p d : S256x128.Idx) = ∑ n, (wt q k0 p n
      - Ideal.div (lam (ix2 0 0) * ∑ j, wt q k0 p j) (∑ j, wt q k1 p j) * wt q k1 p n) * v (ix3 0 n d) := by
  have hc : coefOf lam q k0 k1 (ix2 p 0 : S256x1.Idx) = Ideal.div (lam (ix2 0 0) * ∑ j, wt q k0 p j) (∑ j, wt q k1 p j) := by
    unfold coefOf
    rw [coef_at, sumOf_at, sumOf_at]
  rw [sum_tiles, ← hc]
  unfold mixOf
  show mix _ _ _ _ (ix2 p d) + mix _ _ _ _ (ix2 p d) + mix _ _ _ _ (ix2 p d) + mix _ _ _ _ (ix2 p d) = _
  rw [mix_at, mix_at, mix_at, mix_at]
  simp only [w0_at, w1_at, w2_at, w3_at, tile0_at, tile1_at, tile2_at, tile3_at]

/-- One entry of a block of queries. -/
theorem blk_at (lam : FVec Ideal S1x1 .f32) (gain : FVec Ideal S1x128 .f32) (q : Vec Ideal S1x256x128 .bf16)
    (k0 k1 v : Vec Ideal S1x2048x128 .bf16) (p : Fin 256) (d : Fin 128) :
    blk lam gain q k0 k1 v (ix3 0 p d : S1x256x128.Idx) = normRow (fun e => (∑ n, (wt q k0 p n
      - Ideal.div (lam (ix2 0 0) * ∑ j, wt q k0 p j) (∑ j, wt q k1 p j) * wt q k1 p n) * v (ix3 0 n e))
        * Ideal.div 1 (∑ j, wt q k0 p j)) d * gain (ix2 0 d) := by
  unfold blk
  rw [finish_at]
  simp only [mixOf_at, sumOf_at]

/-- The factor `lam`, from the four vectors. -/
theorem lam_at (x : Vec Ideal S4x64 .f32) : k0_pay2 (View.ld x r0_0) (ix2 0 0 : S1x1.Idx)
    = Ideal.exp (∑ d : Fin 64, x (ix2 0 d) * x (ix2 1 d)) - Ideal.exp (∑ d : Fin 64, x (ix2 2 d) * x (ix2 3 d))
      + Ideal.ofBits .f32 0x3E4CCCCD#32 := by
  pointwise [k0_pay2]

/-- The gain, times one less the first `lam`. -/
theorem gain_at (x : Vec Ideal S1x128 .f32) (d : Fin 128) : k0_pay3 (View.ld x r0_1) (ix2 0 d : S1x128.Idx)
    = x (ix2 0 d) * Ideal.ofBits .f32 0x3F4CCCCD#32 := by
  pointwise [k0_pay3]

end Cert.Attn

end
-- ==== Proof.AttnReference.lean ====
/-
  One entry of what the reference computes, on the extended reals: the scores over eight, two softmaxes over the keys, their
  difference times the values, and the norm of the row.
-/
module

public import proofs.«01_k».proof.Proof.Gen.ReferenceIdeal.Run
public import proofs.«01_k».proof.Proof.AttnEntry

@[expose] public section

noncomputable section

open Idealize.ShloMosaic Idealize.ShloMosaic.TcCoe

namespace Cert.Attn.Host

open Cert.ReferenceIdeal Cert.ReferenceIdeal.Gen
open Cert.ReferenceIdeal.Facts

section
variable {F : FTy → Type} [FloatOps F]

/-- The heads, two by two. -/
def heads (q : FVec F S8x2048x8x64 .f32) : FVec F S8x2048x4x2x64 .f32 :=
  shapeCast S8x2048x4x2x64 q shapeCasts_S8x2048x8x64_S8x2048x4x2x64

/-- The products of every query with every key. -/
def products (q k : FVec F S8x2048x4x2x64 .f32) : FVec F S8x4x2x2048x2048 .f32 :=
  Host.dotGeneral dot_S8x2048x4x2x64_S8x2048x4x2x64_S8x4x2x2048x2048_4_4_1_1_023_023 none q k

/-- The scores of every query against every key, for both heads of each pair. -/
def scores (q k : FVec F S8x2048x8x64 .f32) : FVec F S8x4x2x2048x2048 .f32 :=
  Host.divf (products (heads q) (heads k)) (broadcastInDim S8x4x2x2048x2048 ![] bcast_S_S8x4x2x2048x2048 (constant S_ .f32 0x41000000#32))

/-- The greatest score of each query. -/
def greatest (s : FVec F S8x4x2x2048x2048 .f32) : FVec F S8x4x2x2048 .f32 :=
  maximumf (broadcastInDim S8x4x2x2048 ![] bcast_S_S8x4x2x2048 (constant S_ .f32 0xFF800000#32))
    (Host.reduce FloatOps.maximumf s (constant S_ .f32 0xFF800000#32) reducesTo_S8x4x2x2048x2048_S8x4x2x2048_d4 h_S_)

/-- One number per query, repeated over the keys. -/
def overKeys (a : FVec F S8x4x2x2048 .f32) : FVec F S8x4x2x2048x2048 .f32 :=
  broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3 a)

/-- The exponentials of the shifted scores. -/
def exps (s : FVec F S8x4x2x2048x2048 .f32) : FVec F S8x4x2x2048x2048 .f32 :=
  Host.exp (subf s (overKeys (greatest s)))

/-- The exponentials over their sum. -/
def soft (e : FVec F S8x4x2x2048x2048 .f32) : FVec F S8x4x2x2048x2048 .f32 :=
  Host.divf e (overKeys (Host.reduceAdd e (constant S_ .f32 0x00000000#32) reducesTo_S8x4x2x2048x2048_S8x4x2x2048_d4 h_S_))

/-- The factor of the second head. -/
def factor (a b c d : FVec F S64 .f32) : FVec F S_ .f32 :=
  addf (subf (Host.exp (Host.reduceAdd (mulf a b) (constant S_ .f32 0x00000000#32) reducesTo_S64_S_d0 h_S_))
      (Host.exp (Host.reduceAdd (mulf c d) (constant S_ .f32 0x00000000#32) reducesTo_S64_S_d0 h_S_)))
    (constant S_ .f32 0x3E4CCCCD#32)

/-- The difference of the two heads of each pair. -/
def differ (l : FVec F S_ .f32) (p : FVec F S8x4x2x2048x2048 .f32) : FVec F S8x4x2048x2048 .f32 :=
  subf (shapeCast S8x4x2048x2048 (extractStridedSlice S8x4x1x2048x2048 ![0, 0, 0, 0, 0] p slices_S8x4x2x2048x2048_S8x4x1x2048x2048_0_0_0_0_0)
      shapeCasts_S8x4x1x2048x2048_S8x4x2048x2048)
    (mulf (broadcastInDim S8x4x2048x2048 ![] bcast_S_S8x4x2048x2048 l)
      (shapeCast S8x4x2048x2048 (extractStridedSlice S8x4x1x2048x2048 ![0, 0, 1, 0, 0] p slices_S8x4x2x2048x2048_S8x4x1x2048x2048_0_0_1_0_0)
        shapeCasts_S8x4x1x2048x2048_S8x4x2048x2048))

/-- The values, by sequence, position and pair of heads. -/
def values (proj : FVec F S16384x6912 .bf16) : FVec F S8x2048x4x128 .f32 :=
  shapeCast S8x2048x4x128 (extf .f32 (extractStridedSlice S16384x512 ![0, 5632] proj slices_S16384x6912_S16384x512_0_5632) bitsLt_bf16_f32)
    shapeCasts_S16384x512_S8x2048x4x128

/-- The weighted sums of the values. -/
def mixed (v : FVec F S8x2048x4x128 .f32) (p : FVec F S8x4x2048x2048 .f32) : FVec F S8x2048x4x128 .f32 :=
  transpose S8x2048x4x128 [0, 3, 1, 2]
    (Host.dotGeneral dot_S8x2048x4x128_S8x4x2048x2048_S8x4x128x2048_1_3_3_2_02_01 none v p) transposes_S8x4x128x2048_S8x2048x4x128_0_3_1_2

/-- Each row over its root mean square. -/
def normedRows (o : FVec F S8x2048x4x128 .f32) : FVec F S8x2048x4x128 .f32 :=
  mulf o (broadcastInDim S8x2048x4x128 ![0, 1, 2, 3] bcast_S8x2048x4x1_S8x2048x4x128_0_1_2_3
    (Host.rsqrt (addf (Host.divf (broadcastInDim S8x2048x4x1 ![0, 1, 2] bcast_S8x2048x4_S8x2048x4x1_0_1_2
        (Host.reduceAdd (mulf o o) (constant S_ .f32 0x00000000#32) reducesTo_S8x2048x4x128_S8x2048x4_d3 h_S_))
        (broadcastInDim S8x2048x4x1 ![] bcast_S_S8x2048x4x1 (constant S_ .f32 0x43000000#32)))
      (broadcastInDim S8x2048x4x1 ![] bcast_S_S8x2048x4x1 (constant S_ .f32 0x358637BD#32)))))

/-- The end: the gain, the constant factor, and the heads side by side. -/
def finished (n : FVec F S8x2048x4x128 .f32) (g : FVec F S128 .f32) : FVec F S8x2048x512 .bf16 :=
  truncf .bf16 (shapeCast S8x2048x512 (mulf (mulf n (broadcastInDim S8x2048x4x128 ![0, 1, 2, 3] bcast_S1x1x1x128_S8x2048x4x128_0_1_2_3
      (broadcastInDim S1x1x1x128 ![3] bcast_S128_S1x1x1x128_3 g)))
    (broadcastInDim S8x2048x4x128 ![] bcast_S_S8x2048x4x128 (constant S_ .f32 0x3F4CCCCD#32))) shapeCasts_S8x2048x4x128_S8x2048x512 : FVec F S8x2048x512 .f32)
    bitsLt_bf16_f32

/-- All of the reference. -/
def result (a b c d : FVec F S64 .f32) (q k : FVec F S8x2048x8x64 .f32) (proj : FVec F S16384x6912 .bf16) (g : FVec F S128 .f32) :
    FVec F S8x2048x512 .bf16 :=
  finished (normedRows (mixed (values proj) (differ (factor a b c d) (soft (exps (scores q k)))))) g

set_option maxRecDepth 8192 in
/-- The reference's run leaves `result` of its arguments. -/
theorem result_eq (m : (ℓ : Loc nD τ sig) → Buf (Elt F) ℓ) (c : Dev nD) : Value.res_out0 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end

/-- The number of a head: the pair and the place in it. -/
abbrev head (h : Fin 4) (e : Fin 2) : Fin 8 := ⟨(h : ℕ) * 2 + e, by omega⟩

theorem heads_at (q : FVec Ideal S8x2048x8x64 .f32) (b : Fin 8) (s : Fin 2048) (h : Fin 4) (e : Fin 2) (d : Fin 64) :
    heads q (ix5 b s h e d : S8x2048x4x2x64.Idx) = q (ix4 b s (head h e) d) := by
  unfold heads
  pointwise

theorem products_at (q k : FVec Ideal S8x2048x4x2x64 .f32) (b : Fin 8) (h : Fin 4) (e : Fin 2) (s n : Fin 2048) :
    products q k (ix5 b h e s n : S8x4x2x2048x2048.Idx) = ∑ d : Fin 64, q (ix5 b s h e d) * k (ix5 b n h e d) := by
  unfold products
  pointwise

theorem scores_at (q k : FVec Ideal S8x2048x8x64 .f32) (b : Fin 8) (h : Fin 4) (e : Fin 2) (s n : Fin 2048) :
    scores q k (ix5 b h e s n : S8x4x2x2048x2048.Idx)
      = Ideal.div (∑ d : Fin 64, q (ix4 b s (head h e) d) * k (ix4 b n (head h e) d)) (Ideal.ofBits .f32 0x41000000#32) := by
  have hp : products (heads q) (heads k) (ix5 b h e s n : S8x4x2x2048x2048.Idx)
      = ∑ d : Fin 64, q (ix4 b s (head h e) d) * k (ix4 b n (head h e) d) := by
    rw [products_at]; simp only [heads_at]
  rw [← hp]
  unfold scores
  generalize products (heads q) (heads k) = z
  pointwise

/-- The maximum along one axis of real numbers, from minus infinity, is real. -/
theorem reduce_real {s t u : Shape} {a : Fin s.rank} [Nonempty (Fin (s.size a))] (x : FVec Ideal s .f32) (init : FVec Ideal u .f32)
    (h' : s.ReducesTo [a] t) (h : s.Reduces [a] t) (hu : 0 < u.numel) (j : t.Idx) (hi : init (Shape.Idx.first hu) = (⊥ : EReal))
    (hx : ∀ i, ∃ r : ℝ, x i = (r : EReal)) : ∃ r : ℝ, Host.reduce (FloatOps.maximumf (F := Ideal) (φ := .f32)) x init h' hu j = (r : EReal) := by
  rw [Host.reduce_eq_fold_single _ x init h' h hu j, hi]
  exact sup_real _ fun k => hx _

/-- The maximum with minus infinity changes nothing. -/
theorem max_bot {s : Shape} (a b : FVec Ideal s .f32) (j : s.Idx) (ha : a j = (⊥ : EReal)) : maximumf a b j = b j := by
  show max (a j) (b j) = b j
  rw [ha]
  exact bot_sup_eq _

/-- The greatest of real scores is real. -/
theorem greatest_real (x : FVec Ideal S8x4x2x2048x2048 .f32) (hx : ∀ i, ∃ r : ℝ, x i = (r : EReal)) (j : S8x4x2x2048.Idx) :
    ∃ r : ℝ, greatest x j = (r : EReal) := by
  haveI : Nonempty (Fin (S8x4x2x2048x2048.size 4)) := ⟨⟨0, by decide⟩⟩
  unfold greatest
  rw [max_bot _ _ j neg_inf]
  exact reduce_real (a := 4) x _ _ (by decide) _ j neg_inf hx

theorem overKeys_at (a : FVec Ideal S8x4x2x2048 .f32) (b : Fin 8) (h : Fin 4) (e : Fin 2) (s n : Fin 2048) :
    overKeys a (ix5 b h e s n : S8x4x2x2048x2048.Idx) = a (ix4 b h e s) := by
  unfold overKeys
  pointwise

theorem exps_at (x : FVec Ideal S8x4x2x2048x2048 .f32) (b : Fin 8) (h : Fin 4) (e : Fin 2) (s n : Fin 2048) :
    exps x (ix5 b h e s n : S8x4x2x2048x2048.Idx) = Ideal.exp (x (ix5 b h e s n) - greatest x (ix4 b h e s : S8x4x2x2048.Idx)) := by
  exact congrArg (fun z => Ideal.exp (x (ix5 b h e s n) - z)) (overKeys_at (greatest x) b h e s n)

theorem soft_at (x : FVec Ideal S8x4x2x2048x2048 .f32) (b : Fin 8) (h : Fin 4) (e : Fin 2) (s n : Fin 2048) :
    soft x (ix5 b h e s n : S8x4x2x2048x2048.Idx) = Ideal.div (x (ix5 b h e s n)) (∑ j : Fin 2048, x (ix5 b h e s j)) := by
  unfold soft overKeys
  pointwise

theorem factor_at (a b c d : FVec Ideal S64 .f32) : factor a b c d (ix0 : S_.Idx)
    = Ideal.exp (∑ i : Fin 64, a (ix1 i) * b (ix1 i)) - Ideal.exp (∑ i : Fin 64, c (ix1 i) * d (ix1 i)) + Ideal.ofBits .f32 0x3E4CCCCD#32 := by
  unfold factor
  pointwise

theorem differ_at (l : FVec Ideal S_ .f32) (p : FVec Ideal S8x4x2x2048x2048 .f32) (b : Fin 8) (h : Fin 4) (s n : Fin 2048) :
    differ l p (ix4 b h s n : S8x4x2048x2048.Idx) = p (ix5 b h 0 s n) - l ix0 * p (ix5 b h 1 s n) := by
  unfold differ
  pointwise

theorem values_at (proj : FVec Ideal S16384x6912 .bf16) (b : Fin 8) (n : Fin 2048) (h : Fin 4) (d : Fin 128) :
    values proj (ix4 b n h d : S8x2048x4x128.Idx) = proj (ix2 ⟨(b : ℕ) * 2048 + n, by omega⟩ ⟨5632 + ((h : ℕ) * 128 + d), by omega⟩) := by
  unfold values
  pointwise

theorem mixed_at (v : FVec Ideal S8x2048x4x128 .f32) (p : FVec Ideal S8x4x2048x2048 .f32) (b : Fin 8) (s : Fin 2048) (h : Fin 4) (d : Fin 128) :
    mixed v p (ix4 b s h d : S8x2048x4x128.Idx) = ∑ n : Fin 2048, v (ix4 b n h d) * p (ix4 b h s n) := by
  unfold mixed
  pointwise

theorem normedRows_at (o : FVec Ideal S8x2048x4x128 .f32) (b : Fin 8) (s : Fin 2048) (h : Fin 4) (d : Fin 128) :
    normedRows o (ix4 b s h d : S8x2048x4x128.Idx) = normRow (fun e => o (ix4 b s h e)) d := by
  unfold normedRows normRow
  pointwise

theorem finished_at (n : FVec Ideal S8x2048x4x128 .f32) (g : FVec Ideal S128 .f32) (b : Fin 8) (s : Fin 2048) (h : Fin 4) (d : Fin 128) :
    finished n g (ix3 b s ⟨(h : ℕ) * 128 + d, by omega⟩ : S8x2048x512.Idx)
      = n (ix4 b s h d) * g (ix1 d) * Ideal.ofBits .f32 0x3F4CCCCD#32 := by
  have h1 : (⟨((h : ℕ) * 128 + d) / 128, by omega⟩ : Fin 4) = h := by ext; show ((h : ℕ) * 128 + d) / 128 = h; omega
  have h2 : (⟨((h : ℕ) * 128 + d) % 128, by omega⟩ : Fin 128) = d := by ext; show ((h : ℕ) * 128 + d) % 128 = d; omega
  unfold finished
  pointwise

/-- The score of a query against a key, for one head. -/
def sco (q k : FVec Ideal S8x2048x8x64 .f32) (b : Fin 8) (s : Fin 2048) (g : Fin 8) (n : Fin 2048) : EReal :=
  Ideal.div (∑ d : Fin 64, q (ix4 b s g d) * k (ix4 b n g d)) (Ideal.ofBits .f32 0x41000000#32)

/-- The softmax of a query's scores. -/
def softmax (q k : FVec Ideal S8x2048x8x64 .f32) (b : Fin 8) (h : Fin 4) (e : Fin 2) (s : Fin 2048) (n : Fin 2048) : EReal :=
  Ideal.div (Ideal.exp (sco q k b s (head h e) n - greatest (scores q k) (ix4 b h e s : S8x4x2x2048.Idx)))
    (∑ j, Ideal.exp (sco q k b s (head h e) j - greatest (scores q k) (ix4 b h e s : S8x4x2x2048.Idx)))

theorem soft_scores_at (q k : FVec Ideal S8x2048x8x64 .f32) (b : Fin 8) (h : Fin 4) (e : Fin 2) (s n : Fin 2048) :
    soft (exps (scores q k)) (ix5 b h e s n : S8x4x2x2048x2048.Idx) = softmax q k b h e s n := by
  rw [soft_at]
  unfold softmax sco
  simp only [exps_at, scores_at]

/-- One entry of the reference's result. -/
theorem result_at (a b c d : FVec Ideal S64 .f32) (q k : FVec Ideal S8x2048x8x64 .f32) (proj : FVec Ideal S16384x6912 .bf16)
    (g : FVec Ideal S128 .f32) (i : Fin 8) (s : Fin 2048) (h : Fin 4) (j : Fin 128) :
    result a b c d q k proj g (ix3 i s ⟨(h : ℕ) * 128 + j, by omega⟩ : S8x2048x512.Idx)
      = normRow (fun e => ∑ n : Fin 2048, proj (ix2 ⟨(i : ℕ) * 2048 + n, by omega⟩ ⟨5632 + ((h : ℕ) * 128 + e), by omega⟩)
          * (softmax q k i h 0 s n - factor a b c d (ix0 : S_.Idx) * softmax q k i h 1 s n)) j
        * g (ix1 j) * Ideal.ofBits .f32 0x3F4CCCCD#32 := by
  unfold result
  rw [finished_at, normedRows_at]
  simp only [mixed_at, values_at, differ_at, soft_scores_at]

end Cert.Attn.Host

end
-- ==== Proof.AttnLayout.lean ====
/-
  What the host hands the differential attention: the queries and keys with the two heads of each pair interleaved by halves,
  the keys masked to the first or to the second head, and the small arrays.
-/
module

public import proofs.«01_k».proof.Proof.Gen.KernelIdeal.Frame
public import proofs.«01_k».proof.Proof.AttnReference
public import Idealize.ShloMosaic.Lib.StableHlo.RunRead

@[expose] public section

noncomputable section

open Idealize.ShloMosaic Idealize.ShloMosaic.TcCoe

namespace Cert.Attn.Launch

open Cert.KernelIdeal Cert.KernelIdeal.Gen
open Cert.KernelIdeal.Facts

/-- The divisor of the lane numbers. -/
def divisor : IVec S_ 32 :=
  select (cmpi .eq (constantI S_ 32 64#32) (constantI S_ 32 0#32)) (constantI S_ 32 1#32) (constantI S_ 32 64#32)

/-- The lane numbers' remainders, with the divisor's sign. -/
def remainders : IVec S512 32 :=
  let r := Host.remsi (iotaInDim S512 32 0) (broadcastInDim S512 ![] bcast_S_S512 divisor)
  select (andi (cmpi .ne (cmpi .slt r (broadcastInDim S512 ![] bcast_S_S512 (constantI S_ 32 0#32)))
        (broadcastInDim S512 ![] bcast_S_S512 (cmpi .slt divisor (constantI S_ 32 0#32))))
      (cmpi .ne r (broadcastInDim S512 ![] bcast_S_S512 (constantI S_ 32 0#32))))
    (addi r (broadcastInDim S512 ![] bcast_S_S512 divisor)) r

/-- Which lanes belong to the first head of their pair. -/
def first : IVec S512 1 := cmpi .slt remainders (broadcastInDim S512 ![] bcast_S_S512 (constantI S_ 32 32#32))

/-- The lanes of the first head come in runs of 32. -/
theorem first_at : ∀ n : Fin 512, first (ix1 n) = if (n : ℕ) % 64 < 32 then 1#1 else 0#1 := by decide +kernel

section
variable {F : FTy → Type} [FloatOps F]

/-- The mask of the first head: one on its lanes, zero elsewhere. -/
def mask : FVec F S1x512 .f32 := shapeCast S1x512 (uitofp .f32 first) shapeCasts_S512_S1x512

/-- The mask of the second head. -/
def maskOther : FVec F S1x512 .f32 := subf (broadcastInDim S1x512 ![] bcast_S_S1x512 (constant S_ .f32 0x3F800000#32)) mask

/-- The heads of each pair interleaved by halves. -/
def paired (q : FVec F S8x2048x8x64 .f32) : FVec F S16384x512 .f32 :=
  shapeCast S16384x512 (transpose S16384x4x2x2x32 [0, 1, 3, 2, 4] (shapeCast S16384x4x2x2x32 q shapeCasts_S8x2048x8x64_S16384x4x2x2x32)
    transposes_S16384x4x2x2x32_S16384x4x2x2x32_0_1_3_2_4) shapeCasts_S16384x4x2x2x32_S16384x512

/-- An array of all the rows, by sequence. -/
def bySequence (x : FVec F S16384x512 .f32) : FVec F S8x2048x512 .bf16 :=
  shapeCast S8x2048x512 (truncf .bf16 x bitsLt_bf16_f32) shapeCasts_S16384x512_S8x2048x512

/-- The keys under a mask. -/
def masked (k : FVec F S8x2048x8x64 .f32) (w : FVec F S1x512 .f32) : FVec F S16384x512 .f32 :=
  mulf (paired k) (broadcastInDim S16384x512 ![0, 1] bcast_S1x512_S16384x512_0_1 w)

/-- The four vectors one under the other. -/
def rows (a b c d : FVec F S64 .f32) : FVec F S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩]
    concatenates_S1x64_S1x64_S1x64_S1x64_S4x64_d0

variable (m : (ℓ : Loc nD τ sig) → Buf (Elt F) ℓ) (c : Dev nD)

/-- The vectors as the launch finds them. -/
theorem V_rows : V m c main_v4 = rows (m ((c : Thread nD τ).loc main_arg0)) (m ((c : Thread nD τ).loc main_arg1))
    (m ((c : Thread nD τ).loc main_arg2)) (m ((c : Thread nD τ).loc main_arg3)) := rfl
/-- The queries as the launch finds them. -/
theorem V_queries : V m c main_v27 = bySequence (paired (m ((c : Thread nD τ).loc main_arg4))) := rfl
/-- The first head's keys as the launch finds them. -/
theorem V_keys0 : V m c main_v28 = bySequence (masked (m ((c : Thread nD τ).loc main_arg5)) mask) := by
  unfold V
  after_reads_simp
  rfl
/-- The second head's keys as the launch finds them. -/
theorem V_keys1 : V m c main_v29 = bySequence (masked (m ((c : Thread nD τ).loc main_arg5)) maskOther) := by
  unfold V
  after_reads_simp
  rfl
/-- The values as the launch finds them. -/
theorem V_values : V m c main_v30 = (shapeCast S8x2048x6912 (m ((c : Thread nD τ).loc main_arg6) : FVec F S16384x6912 .bf16)
    shapeCasts_S16384x6912_S8x2048x6912 : FVec F S8x2048x6912 .bf16) := rfl
/-- The gain as the launch finds it. -/
theorem V_gain : V m c main_v26 = (shapeCast S1x128 (m ((c : Thread nD τ).loc main_arg7) : FVec F S128 .f32)
    shapeCasts_S128_S1x128 : FVec F S1x128 .f32) := rfl

end

/-- The lane of a pair, a half, a head of the pair and a place in the half. -/
abbrev lane (h : Fin 4) (u e : Fin 2) (i : Fin 32) : Fin 512 := ⟨(h : ℕ) * 128 + ((u : ℕ) * 64 + e * 32 + i), by omega⟩

/-- The place in a head. -/
abbrev place (u : Fin 2) (i : Fin 32) : Fin 64 := ⟨(u : ℕ) * 32 + i, by omega⟩

/-- The row of a sequence and a position. -/
abbrev row (b : Fin 8) (s : Fin 2048) : Fin 16384 := ⟨(b : ℕ) * 2048 + s, by omega⟩

theorem paired_at (q : FVec Ideal S8x2048x8x64 .f32) (b : Fin 8) (s : Fin 2048) (h : Fin 4) (u e : Fin 2) (i : Fin 32) :
    paired q (ix2 (row b s) (lane h u e i) : S16384x512.Idx) = q (ix4 b s (Host.head h e) (place u i)) := by
  have h1 : (⟨((h : ℕ) * 128 + ((u : ℕ) * 64 + e * 32 + i)) / 128 * 2 + ((h : ℕ) * 128 + ((u : ℕ) * 64 + e * 32 + i)) / 32 % 2, by omega⟩ : Fin 8)
      = Host.head h e := by ext; show _ / 128 * 2 + _ / 32 % 2 = (h : ℕ) * 2 + e; omega
  have h2 : (⟨((h : ℕ) * 128 + ((u : ℕ) * 64 + e * 32 + i)) / 64 % 2 * 32 + ((h : ℕ) * 128 + ((u : ℕ) * 64 + e * 32 + i)) % 32, by omega⟩ : Fin 64)
      = place u i := by ext; show _ / 64 % 2 * 32 + _ % 32 = (u : ℕ) * 32 + i; omega
  unfold paired
  pointwise
  rw [h1, h2]

end Cert.Attn.Launch

end
-- ==== Proof.AttnScore.lean ====
/-
  One score: the kernel's sum over a pair's 128 lanes, with the other head's keys masked away, is the reference's sum over the
  head's 64 places, over eight and over `log 2`.
-/
module

public import proofs.«01_k».proof.Proof.AttnLayout

@[expose] public section

noncomputable section

open Idealize.ShloMosaic Idealize.ShloMosaic.TcCoe

namespace Cert.Attn

/-- The lane inside a pair. -/
abbrev lane (u e : Fin 2) (i : Fin 32) : Fin 128 := ⟨(u : ℕ) * 64 + e * 32 + i, by omega⟩

/-- A sum over a pair's lanes, by half and head. -/
theorem sum_lanes (f : Fin 128 → EReal) :
    ∑ d, f d = (∑ i : Fin 32, f (lane 0 0 i)) + (∑ i : Fin 32, f (lane 0 1 i)) + (∑ i : Fin 32, f (lane 1 0 i)) + ∑ i : Fin 32, f (lane 1 1 i) := by
  have h0 : ∀ i : Fin 32, (⟨i, by omega⟩ : Fin 128) = lane 0 0 i := fun i => by ext; show (i : ℕ) = 0 * 64 + 0 * 32 + i; omega
  have h1 : ∀ i : Fin 32, (⟨32 + i, by omega⟩ : Fin 128) = lane 0 1 i := fun i => by ext; show 32 + (i : ℕ) = 0 * 64 + 1 * 32 + i; omega
  have h2 : ∀ i : Fin 32, (⟨64 + i, by omega⟩ : Fin 128) = lane 1 0 i := fun i => by ext; show 64 + (i : ℕ) = 1 * 64 + 0 * 32 + i; omega
  have h3 : ∀ i : Fin 32, (⟨96 + i, by omega⟩ : Fin 128) = lane 1 1 i := fun i => by ext; show 96 + (i : ℕ) = 1 * 64 + 1 * 32 + i; omega
  rw [sum_runs]
  simp only [h0, h1, h2, h3]

/-- A sum over a head's places, by half. -/
theorem sum_places (f : Fin 64 → EReal) :
    ∑ d, f d = (∑ i : Fin 32, f (Launch.place 0 i)) + ∑ i : Fin 32, f (Launch.place 1 i) := by
  have h0 : ∀ i : Fin 32, (⟨i, by omega⟩ : Fin 64) = Launch.place 0 i := fun i => by ext; show (i : ℕ) = 0 * 32 + i; omega
  have h1 : ∀ i : Fin 32, (⟨32 + i, by omega⟩ : Fin 64) = Launch.place 1 i := fun i => by ext; show 32 + (i : ℕ) = 1 * 32 + i; omega
  rw [sum_halves]
  simp only [h0, h1]

/-- The score of one head as a real number. -/
def real (q k : Fin 2 → Fin 32 → ℝ) : ℝ := ((∑ i, q 0 i * k 0 i) + ∑ i, q 1 i * k 1 i) / 8

/-- The kernel's sum over the lanes. -/
theorem lanes_score (Q K : Fin 128 → EReal) (q k : Fin 2 → Fin 2 → Fin 32 → ℝ) (c : Fin 2) (hQ : ∀ u e i, Q (lane u e i) = (q u e i : EReal))
    (hK : ∀ u e i, K (lane u e i) = ((k u e i * (if e = c then 1 else 0) : ℝ) : EReal)) :
    ∑ d, Q d * kap * K d = ((real (fun u => q u c) (fun u => k u c) * (Real.log 2)⁻¹ : ℝ) : EReal) := by
  have pull : ∀ (f g : Fin 32 → ℝ) (w : ℝ), ∑ i, f i * ((Real.log 2)⁻¹ * 8⁻¹) * (g i * w) = (∑ i, f i * g i) * ((Real.log 2)⁻¹ * 8⁻¹ * w) := fun f g w => by
    rw [Finset.sum_mul]
    exact Finset.sum_congr rfl fun i _ => by ring
  rw [sum_lanes]
  simp only [hQ, hK, kap, ← EReal.coe_mul, ← coe_sum, ← EReal.coe_add, pull]
  congr 1
  unfold real
  match c with
  | 0 => simp; ring
  | 1 => simp; ring

/-- The reference's sum over the places. -/
theorem places_score (A B : Fin 64 → EReal) (q k : Fin 2 → Fin 32 → ℝ) (hA : ∀ u i, A (Launch.place u i) = (q u i : EReal))
    (hB : ∀ u i, B (Launch.place u i) = (k u i : EReal)) :
    Ideal.div (∑ d, A d * B d) (Ideal.ofBits .f32 0x41000000#32) = ((real q k : ℝ) : EReal) := by
  rw [sum_places, eight, Ideal.div_coe (by norm_num)]
  simp only [hA, hB, ← EReal.coe_mul, ← coe_sum, ← EReal.coe_add]
  congr 1
  unfold real
  ring

namespace Launch

open Cert.KernelIdeal Cert.KernelIdeal.Gen
open Cert.KernelIdeal.Facts

/-- The first head's mask at a lane. -/
theorem mask_at (h : Fin 4) (u e : Fin 2) (i : Fin 32) :
    (mask : FVec Ideal S1x512 .f32) (ix2 0 (lane h u e i) : S1x512.Idx) = (((if e = 0 then 1 else 0 : ℝ)) : EReal) := by
  have hm : (mask : FVec Ideal S1x512 .f32) (ix2 0 (lane h u e i) : S1x512.Idx) = FloatOps.uitofp (F := Ideal) .f32 (first (ix1 (lane h u e i))) := by
    unfold mask
    generalize first = z
    pointwise
  rw [hm, first_at]
  have hl : ((lane h u e i : Fin 512) : ℕ) % 64 < 32 ↔ e = 0 := by
    show ((h : ℕ) * 128 + ((u : ℕ) * 64 + e * 32 + i)) % 64 < 32 ↔ e = 0
    rw [Fin.ext_iff]
    show _ ↔ (e : ℕ) = 0
    omega
  by_cases he : e = 0
  · rw [if_pos (hl.mpr he), if_pos he]
    show ((((1#1 : BitVec 1).toNat : ℝ)) : EReal) = _
    simp
  · rw [if_neg (fun h => he (hl.mp h)), if_neg he]
    show ((((0#1 : BitVec 1).toNat : ℝ)) : EReal) = _
    simp

/-- One less the first head's bit is the second head's. -/
theorem one_sub_ite (e : Fin 2) : ((1 : ℝ) - if e = 0 then 1 else 0) = if e = 1 then 1 else 0 := by
  fin_cases e <;> simp

/-- The second head's mask at a lane. -/
theorem maskOther_at (h : Fin 4) (u e : Fin 2) (i : Fin 32) :
    (maskOther : FVec Ideal S1x512 .f32) (ix2 0 (lane h u e i) : S1x512.Idx) = (((if e = 1 then 1 else 0 : ℝ)) : EReal) := by
  have hm : (maskOther : FVec Ideal S1x512 .f32) (ix2 0 (lane h u e i) : S1x512.Idx) = 1 - (mask : FVec Ideal S1x512 .f32) (ix2 0 (lane h u e i) : S1x512.Idx) := by
    unfold maskOther
    generalize (mask : FVec Ideal S1x512 .f32) = z
    pointwise
  rw [hm, mask_at]
  exact (EReal.coe_sub 1 _).symm.trans (congrArg _ (one_sub_ite e))

/-- The rows by sequence. -/
theorem bySequence_at (x : FVec Ideal S16384x512 .f32) (b : Fin 8) (s : Fin 2048) (n : Fin 512) :
    bySequence x (ix3 b s n : S8x2048x512.Idx) = x (ix2 (row b s) n) := by
  unfold bySequence
  pointwise

/-- The keys under a mask. -/
theorem masked_at (k : FVec Ideal S8x2048x8x64 .f32) (w : FVec Ideal S1x512 .f32) (r : Fin 16384) (n : Fin 512) :
    masked k w (ix2 r n : S16384x512.Idx) = paired k (ix2 r n) * w (ix2 0 n) := by
  unfold masked
  generalize paired k = z
  pointwise

/-- The queries at a lane. -/
theorem queries_at (q : FVec Ideal S8x2048x8x64 .f32) (b : Fin 8) (s : Fin 2048) (h : Fin 4) (u e : Fin 2) (i : Fin 32) :
    bySequence (paired q) (ix3 b s (lane h u e i) : S8x2048x512.Idx) = q (ix4 b s (Host.head h e) (place u i)) := by
  rw [bySequence_at, paired_at]

/-- The first head's keys at a lane. -/
theorem keys0_at (k : FVec Ideal S8x2048x8x64 .f32) (b : Fin 8) (s : Fin 2048) (h : Fin 4) (u e : Fin 2) (i : Fin 32) :
    bySequence (masked k mask) (ix3 b s (lane h u e i) : S8x2048x512.Idx)
      = k (ix4 b s (Host.head h e) (place u i)) * (((if e = 0 then 1 else 0 : ℝ)) : EReal) := by
  rw [bySequence_at, masked_at, paired_at, mask_at]

/-- The second head's keys at a lane. -/
theorem keys1_at (k : FVec Ideal S8x2048x8x64 .f32) (b : Fin 8) (s : Fin 2048) (h : Fin 4) (u e : Fin 2) (i : Fin 32) :
    bySequence (masked k maskOther) (ix3 b s (lane h u e i) : S8x2048x512.Idx)
      = k (ix4 b s (Host.head h e) (place u i)) * (((if e = 1 then 1 else 0 : ℝ)) : EReal) := by
  rw [bySequence_at, masked_at, paired_at, maskOther_at]

/-- The four vectors in their array. -/
theorem rows_at (a b c d : FVec Ideal S64 .f32) (n : Fin 64) :
    rows a b c d (ix2 0 n : S4x64.Idx) = a (ix1 n) ∧ rows a b c d (ix2 1 n : S4x64.Idx) = b (ix1 n)
      ∧ rows a b c d (ix2 2 n : S4x64.Idx) = c (ix1 n) ∧ rows a b c d (ix2 3 n : S4x64.Idx) = d (ix1 n) := by
  unfold rows
  refine ⟨?_, ?_, ?_, ?_⟩ <;> pointwise

end Launch

end Cert.Attn

end
-- ==== Proof.AttnKernel.lean ====
/-
  The differential attention's result: what each grid point leaves in its block, and what the array holds after the run.
  A grid point has one sequence and one pair of heads; it computes eight blocks of 256 queries.
-/
module

public import proofs.«01_k».proof.Proof.AttnScore

@[expose] public section

set_option maxRecDepth 65536

noncomputable section

open Idealize.ShloMosaic Idealize.ShloMosaic.TcCoe Idealize.SL.Sem
open Idealize.ShloMosaic.Pipeline (Dat)

namespace Cert.Attn

open Cert.KernelIdeal Cert.KernelIdeal.Gen
open Cert.KernelIdeal.Facts

/-- A rectangular load of an array of three axes reads the array at the load's place. -/
theorem ld_at {Val : EltTy → Type} {e : EltTy} {A B C a b d : ℕ} (X : (⟨3, ![A, B, C]⟩ : Shape).Idx → Val e) (o0 o1 o2 : ℕ)
    (inb : ∀ i, (![o0, o1, o2] : Fin 3 → ℕ) i + (![a, b, d] : Fin 3 → ℕ) i ≤ (⟨3, ![A, B, C]⟩ : Shape).size i)
    (p : Fin a) (k : Fin b) (l : Fin d) (P : Fin A) (K : Fin B) (L : Fin C) (hP : (P : ℕ) = o0 + p) (hK : (K : ℕ) = o1 + k) (hL : (L : ℕ) = o2 + l) :
    View.ld (Val := Val) (e' := e) X (Rect.unit (s := ⟨3, ![A, B, C]⟩) ![o0, o1, o2] ![a, b, d] inb) (ix3 p k l) = X (ix3 P K L) := by
  refine View.ld_unit_apply_of X ![o0, o1, o2] ![a, b, d] inb (ix3 p k l) (ix3 P K L) fun i => ?_
  fin_cases i
  · exact hP
  · exact hK
  · exact hL

/-- Which block of each array a grid point works on. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] ∧ win0_4.index t = ![t.val / 4, 0, 44 + t.val % 4] ∧ win0_5.index t = ![0, 0]
    ∧ win0_6.index t = ![t.val / 4, 0, t.val % 4] :=
  (by decide +kernel : ∀ t : Fin grid0.N, _)

/-- A grid point's number is below 32. -/
theorem point_lt (t : Fin cfg0.N) : t.val < 32 := lt_of_lt_of_eq t.isLt N_0

/-- The sequence of a grid point. -/
abbrev seq (t : Fin cfg0.N) : Fin 8 := ⟨t.val / 4, by have := point_lt t; omega⟩

/-- The pair of heads of a grid point. -/
abbrev pair (t : Fin cfg0.N) : Fin 4 := ⟨t.val % 4, by omega⟩

variable (m : (ℓ : Loc nD τ sig) → Buf (Elt Ideal) ℓ) (c : Dev nD)

/-- The queries the host is given. -/
abbrev argQ : FVec Ideal S8x2048x8x64 .f32 := m ((c : Thread nD τ).loc main_arg4)
/-- The keys the host is given. -/
abbrev argK : FVec Ideal S8x2048x8x64 .f32 := m ((c : Thread nD τ).loc main_arg5)

/-- A point's queries. -/
theorem queries_blk (t : Fin cfg0.N) (s : Fin 2048) (u e : Fin 2) (i : Fin 32) :
    (iblk m c 1 t : Vec Ideal S1x2048x128 .bf16) (ix3 0 s (lane u e i)) = argQ m c (ix4 (seq t) s (Host.head (pair t) e) (Launch.place u i)) := by
  have he : ((cfg0.win 1).blk t).view.emb (ix3 0 s (lane u e i)) = (ix3 (seq t) s (Launch.lane (pair t) u e i) : S8x2048x512.Idx) := by blk_ext [idx t]
  show V m c main_v27 (((cfg0.win 1).blk t).view.emb (ix3 0 s (lane u e i))) = _
  rw [he, Launch.V_queries]
  exact Launch.queries_at _ _ _ _ _ _ _

/-- A point's keys of the first head. -/
theorem keys0_blk (t : Fin cfg0.N) (s : Fin 2048) (u e : Fin 2) (i : Fin 32) :
    (iblk m c 2 t : Vec Ideal S1x2048x128 .bf16) (ix3 0 s (lane u e i))
      = argK m c (ix4 (seq t) s (Host.head (pair t) e) (Launch.place u i)) * (((if e = 0 then 1 else 0 : ℝ)) : EReal) := by
  have he : ((cfg0.win 2).blk t).view.emb (ix3 0 s (lane u e i)) = (ix3 (seq t) s (Launch.lane (pair t) u e i) : S8x2048x512.Idx) := by blk_ext [idx t]
  show V m c main_v28 (((cfg0.win 2).blk t).view.emb (ix3 0 s (lane u e i))) = _
  rw [he, Launch.V_keys0]
  exact Launch.keys0_at _ _ _ _ _ _ _

/-- A point's keys of the second head. -/
theorem keys1_blk (t : Fin cfg0.N) (s : Fin 2048) (u e : Fin 2) (i : Fin 32) :
    (iblk m c 3 t : Vec Ideal S1x2048x128 .bf16) (ix3 0 s (lane u e i))
      = argK m c (ix4 (seq t) s (Host.head (pair t) e) (Launch.place u i)) * (((if e = 1 then 1 else 0 : ℝ)) : EReal) := by
  have he : ((cfg0.win 3).blk t).view.emb (ix3 0 s (lane u e i)) = (ix3 (seq t) s (Launch.lane (pair t) u e i) : S8x2048x512.Idx) := by blk_ext [idx t]
  show V m c main_v29 (((cfg0.win 3).blk t).view.emb (ix3 0 s (lane u e i))) = _
  rw [he, Launch.V_keys1]
  exact Launch.keys1_at _ _ _ _ _ _ _

/-- The input projection's rows by sequence. -/
theorem merged_at (x : FVec Ideal S16384x6912 .bf16) (b : Fin 8) (n : Fin 2048) (j : Fin 6912) :
    (shapeCast S8x2048x6912 x shapeCasts_S16384x6912_S8x2048x6912 : FVec Ideal S8x2048x6912 .bf16) (ix3 b n j)
      = x (ix2 ⟨(b : ℕ) * 2048 + n, by omega⟩ j) := by
  pointwise

/-- A point's values. -/
theorem values_blk (t : Fin cfg0.N) (n : Fin 2048) (d : Fin 128) :
    (iblk m c 4 t : Vec Ideal S1x2048x128 .bf16) (ix3 0 n d)
      = (m ((c : Thread nD τ).loc main_arg6) : FVec Ideal S16384x6912 .bf16)
          (ix2 ⟨(seq t : ℕ) * 2048 + n, by omega⟩ ⟨5632 + ((pair t : ℕ) * 128 + d), by omega⟩) := by
  have he : ((cfg0.win 4).blk t).view.emb (ix3 0 n d) = (ix3 (seq t) n ⟨5632 + ((pair t : ℕ) * 128 + d), by omega⟩ : S8x2048x6912.Idx) := by blk_ext [idx t]
  show V m c main_v30 (((cfg0.win 4).blk t).view.emb (ix3 0 n d)) = _
  rw [he, Launch.V_values]
  exact merged_at _ _ _ _

/-- Every point has the four vectors. -/
theorem rows_blk (t : Fin cfg0.N) (r : Fin 4) (d : Fin 64) :
    (iblk m c 0 t : Vec Ideal S4x64 .f32) (ix2 r d)
      = Launch.rows (F := Ideal) (m ((c : Thread nD τ).loc main_arg0)) (m ((c : Thread nD τ).loc main_arg1)) (m ((c : Thread nD τ).loc main_arg2))
          (m ((c : Thread nD τ).loc main_arg3)) (ix2 r d : S4x64.Idx) := by
  have he : ((cfg0.win 0).blk t).view.emb (ix2 r d) = (ix2 r d : S4x64.Idx) := by blk_ext [idx t]
  show V m c main_v4 (((cfg0.win 0).blk t).view.emb (ix2 r d)) = _
  rw [he, Launch.V_rows]

/-- Every point has the gain. -/
theorem gain_blk (t : Fin cfg0.N) (d : Fin 128) :
    (iblk m c 5 t : Vec Ideal S1x128 .f32) (ix2 0 d) = (m ((c : Thread nD τ).loc main_arg7) : FVec Ideal S128 .f32) (ix1 d) := by
  have he : ((cfg0.win 5).blk t).view.emb (ix2 0 d) = (ix2 0 d : S1x128.Idx) := by blk_ext [idx t]
  show V m c main_v26 (((cfg0.win 5).blk t).view.emb (ix2 0 d)) = _
  rw [he, Launch.V_gain]
  pointwise

/-- The reference's result of the kernel's arguments. -/
abbrev want : FVec Ideal S8x2048x512 .bf16 :=
  Host.result (m ((c : Thread nD τ).loc main_arg0)) (m ((c : Thread nD τ).loc main_arg1)) (m ((c : Thread nD τ).loc main_arg2))
    (m ((c : Thread nD τ).loc main_arg3)) (argQ m c) (argK m c) (m ((c : Thread nD τ).loc main_arg6)) (m ((c : Thread nD τ).loc main_arg7))

/-- The factor `lam` of a point is the reference's. -/
theorem lam_blk (t : Fin cfg0.N) : k0_pay2 (View.ld (iblk m c 0 t : Vec Ideal S4x64 .f32) r0_0) (ix2 0 0 : S1x1.Idx)
    = Host.factor (m ((c : Thread nD τ).loc main_arg0)) (m ((c : Thread nD τ).loc main_arg1)) (m ((c : Thread nD τ).loc main_arg2))
        (m ((c : Thread nD τ).loc main_arg3)) (ix0 : Cert.ReferenceIdeal.S_.Idx) := by
  have hr := fun n => Launch.rows_at (m ((c : Thread nD τ).loc main_arg0)) (m ((c : Thread nD τ).loc main_arg1)) (m ((c : Thread nD τ).loc main_arg2))
        (m ((c : Thread nD τ).loc main_arg3)) n
  rw [lam_at, Host.factor_at]
  simp only [rows_blk, (hr _).1, (hr _).2.1, (hr _).2.2.1, (hr _).2.2.2]

section
variable (hq : ∀ i, ∃ r : ℝ, argQ m c i = (r : EReal)) (hk : ∀ i, ∃ r : ℝ, argK m c i = (r : EReal))

/-- A head's score of a query against a key, as a real number. -/
def number (t : Fin cfg0.N) (e : Fin 2) (s n : Fin 2048) : ℝ :=
  real (fun u i => (hq (ix4 (seq t) s (Host.head (pair t) e) (Launch.place u i))).choose)
    (fun u i => (hk (ix4 (seq t) n (Host.head (pair t) e) (Launch.place u i))).choose)

/-- The reference's score is that number. -/
theorem sco_eq (t : Fin cfg0.N) (e : Fin 2) (s n : Fin 2048) :
    Host.sco (argQ m c) (argK m c) (seq t) s (Host.head (pair t) e) n = ((number m c hq hk t e s n : ℝ) : EReal) :=
  places_score _ _ _ _ (fun u i => (hq _).choose_spec) (fun u i => (hk _).choose_spec)

include hq hk in
/-- The reference's greatest score is real. -/
theorem greatest_blk (t : Fin cfg0.N) (e : Fin 2) (s : Fin 2048) :
    ∃ r : ℝ, Host.greatest (Host.scores (argQ m c) (argK m c)) (ix4 (seq t) (pair t) e s : Cert.ReferenceIdeal.S8x4x2x2048.Idx) = (r : EReal) := by
  refine Host.greatest_real _ (fun i => ?_) _
  obtain ⟨b, h, f, s', n, rfl⟩ : ∃ (b : Fin 8) (h : Fin 4) (f : Fin 2) (s' n : Fin 2048), i = ix5 b h f s' n := ⟨i 0, i 1, i 2, i 3, i 4, eq_ix5 i⟩
  rw [Host.scores_at]
  exact ⟨_, places_score _ _ _ _ (fun u i => (hq (ix4 b s' (Host.head h f) (Launch.place u i))).choose_spec)
    (fun u i => (hk (ix4 b n (Host.head h f) (Launch.place u i))).choose_spec)⟩

/-- The first head's score in a block of queries. -/
theorem sc0_eq (t : Fin cfg0.N) (q : Vec Ideal S1x256x128 .bf16) (p : Fin 256) (s n : Fin 2048)
    (h : ∀ d : Fin 128, q (ix3 0 p d) = (iblk m c 1 t : Vec Ideal S1x2048x128 .bf16) (ix3 0 s d)) :
    sc q (iblk m c 2 t) p n = ((number m c hq hk t 0 s n * (Real.log 2)⁻¹ : ℝ) : EReal) :=
  lanes_score (fun d => q (ix3 0 p d)) (fun d => (iblk m c 2 t : Vec Ideal S1x2048x128 .bf16) (ix3 0 n d))
    (fun u e i => (hq (ix4 (seq t) s (Host.head (pair t) e) (Launch.place u i))).choose)
    (fun u e i => (hk (ix4 (seq t) n (Host.head (pair t) e) (Launch.place u i))).choose) 0
    (fun u e i => ((h _).trans (queries_blk m c t s u e i)).trans (hq _).choose_spec)
    (fun u e i => (keys0_blk m c t n u e i).trans ((congrArg (· * _) (hk _).choose_spec).trans (EReal.coe_mul _ _).symm))

/-- The second head's score in a block of queries. -/
theorem sc1_eq (t : Fin cfg0.N) (q : Vec Ideal S1x256x128 .bf16) (p : Fin 256) (s n : Fin 2048)
    (h : ∀ d : Fin 128, q (ix3 0 p d) = (iblk m c 1 t : Vec Ideal S1x2048x128 .bf16) (ix3 0 s d)) :
    sc q (iblk m c 3 t) p n = ((number m c hq hk t 1 s n * (Real.log 2)⁻¹ : ℝ) : EReal) :=
  lanes_score (fun d => q (ix3 0 p d)) (fun d => (iblk m c 3 t : Vec Ideal S1x2048x128 .bf16) (ix3 0 n d))
    (fun u e i => (hq (ix4 (seq t) s (Host.head (pair t) e) (Launch.place u i))).choose)
    (fun u e i => (hk (ix4 (seq t) n (Host.head (pair t) e) (Launch.place u i))).choose) 1
    (fun u e i => ((h _).trans (queries_blk m c t s u e i)).trans (hq _).choose_spec)
    (fun u e i => (keys1_blk m c t n u e i).trans ((congrArg (· * _) (hk _).choose_spec).trans (EReal.coe_mul _ _).symm))

include hq hk

/-- One entry of a block of 256 queries is the reference's. -/
theorem blk_eq (t : Fin cfg0.N) (q : Vec Ideal S1x256x128 .bf16) (p : Fin 256) (s : Fin 2048) (d : Fin 128)
    (h : ∀ d : Fin 128, q (ix3 0 p d) = (iblk m c 1 t : Vec Ideal S1x2048x128 .bf16) (ix3 0 s d)) :
    blk (k0_pay2 (View.ld (iblk m c 0 t : Vec Ideal S4x64 .f32) r0_0)) (k0_pay3 (View.ld (iblk m c 5 t : Vec Ideal S1x128 .f32) r0_1))
        q (iblk m c 2 t) (iblk m c 3 t) (iblk m c 4 t) (ix3 0 p d : S1x256x128.Idx)
      = want m c (ix3 (seq t) s ⟨(pair t : ℕ) * 128 + d, by omega⟩ : S8x2048x512.Idx) := by
  refine (blk_at _ _ _ _ _ _ p d).trans (Eq.trans ?_ (Host.result_at _ _ _ _ _ _ _ _ (seq t) s (pair t) d).symm)
  rw [gain_at, gain_blk, lam_blk, ← mul_assoc]
  congr 3
  funext e
  simp only [values_blk]
  refine (row_eq (number m c hq hk t 0 s) (number m c hq hk t 1 s) (maxOf_real _ _ p fun n => ⟨_, sc0_eq m c hq hk t q p s n h⟩)
    (maxOf_real _ _ p fun n => ⟨_, sc1_eq m c hq hk t q p s n h⟩) (greatest_blk m c hq hk t 0 s) (greatest_blk m c hq hk t 1 s) _ _ _ _
    (fun n => ?_) (fun n => ?_)).trans ?_
  · unfold wt
    rw [sc0_eq m c hq hk t q p s n h]
  · unfold wt
    rw [sc1_eq m c hq hk t q p s n h]
  · unfold Host.softmax
    simp only [sco_eq m c hq hk]

/-- A block of 256 queries loaded from a point's queries, read at an index. -/
theorem piece_eq (t : Fin cfg0.N) (o : ℕ) (inb : ∀ i, (![0, o, 0] : Fin 3 → ℕ) i + S1x256x128.size i ≤ S1x2048x128.size i)
    (x : S1x256x128.Idx) (y : S1x2048x128.Idx) (h1 : (y 1 : ℕ) = o + x 1) (h2 : (y 2 : ℕ) = x 2) :
    blk (k0_pay2 (View.ld (iblk m c 0 t : Vec Ideal S4x64 .f32) r0_0)) (k0_pay3 (View.ld (iblk m c 5 t : Vec Ideal S1x128 .f32) r0_1))
        (View.ld (iblk m c 1 t : Vec Ideal S1x2048x128 .bf16) (Rect.unit (s := S1x2048x128) ![0, o, 0] S1x256x128.size inb))
        (iblk m c 2 t) (iblk m c 3 t) (iblk m c 4 t) x
      = want m c (ix3 (seq t) (y 1) ⟨(pair t : ℕ) * 128 + (y 2 : ℕ), by have : (y 2 : ℕ) < 128 := (y 2).isLt; omega⟩ : S8x2048x512.Idx) := by
  have hx : x = ix3 0 (x 1) (x 2) := (eq_ix3 x).trans (by congr 1; exact Subsingleton.elim (α := Fin 1) _ _)
  refine (congrArg _ hx).trans ((blk_eq m c hq hk t _ (x 1) (y 1) (x 2) (fun d => ?_)).trans ?_)
  · exact ld_at (iblk m c 1 t : Vec Ideal S1x2048x128 .bf16) 0 o 0 inb 0 (x 1) d 0 (y 1) d rfl h1 (by omega)
  · congr 2
    ext
    show (pair t : ℕ) * 128 + (x 2 : ℕ) = (pair t : ℕ) * 128 + (y 2 : ℕ)
    rw [h2]

/-- What a point leaves in its block of the result is the block of the reference's result. -/
theorem point (t : Fin cfg0.N) (y : S1x2048x128.Idx) :
    out0_6 (iblk m c 0 t) (iblk m c 1 t) (iblk m c 2 t) (iblk m c 3 t) (iblk m c 4 t) (iblk m c 5 t) y
      = want m c (((cfg0.win 6).blk t).view.emb y) := by
  have hy : (y 2 : ℕ) < 128 := (y 2).isLt
  have hemb : ((cfg0.win 6).blk t).view.emb y = (ix3 (seq t) (y 1) ⟨(pair t : ℕ) * 128 + (y 2 : ℕ), by omega⟩ : S8x2048x512.Idx) := by blk_ext [idx t]
  rw [hemb, out_eq]
  canon_tiles x h
  all_goals exact piece_eq m c hq hk t _ _ x y (by omega) (by omega)

/-- The result array after the run is the reference's result. -/
theorem final : (dats m 0 c).arrAt 6 (cfgs 0).N = want m c := by
  refine (dats m 0 c).arrAt_eq_of_covers 6 _ (by decide +kernel) fun t _ y => ?_
  blk_simp
  rw [after0_6]
  exact point m c hq hk t y

end

end Cert.Attn

end
-- ==== Proof.AttnClaims.lean ====
/-
  The claims about the differential attention: the three programs run and change nothing they were given; the kernel on the
  extended reals is the printed one but for its named factor; and for finite queries and keys the kernel and its reference
  leave the same array.
-/
module

public import proofs.«01_k».proof.Defs
public import proofs.«01_k».proof.Proof.AttnPre
public import proofs.«01_k».proof.Proof.AttnKernel
public import proofs.«01_k».proof.Proof.Gen.KernelIdeal.Value
public import proofs.«01_k».proof.Proof.Gen.Kernel.Frame

@[expose] public section

noncomputable section

open Idealize.ShloMosaic Idealize.ShloMosaic.TcCoe Idealize.SL.Sem

namespace Cert.Attn

/-- The kernel runs on the machine's floats and changes nothing it was given. -/
theorem frame_kernel : Cert.quiescent_Kernel := fun m g _ => Cert.Kernel.Gen.frame m g

/-- The kernel runs on the extended reals and changes nothing it was given. -/
theorem frame_ideal : Cert.quiescent_KernelIdeal := fun m g _ => Cert.KernelIdeal.Gen.frame m g

/-- So it does for finite queries and keys. -/
theorem frame_ideal_pre : Cert.quiescent_KernelIdeal_pre_finite_qk := fun m g _ => frame_ideal m g trivial

/-- The reference runs on the extended reals and changes nothing it was given. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- So it does for finite queries and keys. -/
theorem frame_reference_pre : Cert.quiescent_ReferenceIdeal_pre_finite_qk := fun m g _ => frame_reference m g trivial

/-- The queries' factor is the number its pattern rounds. -/
theorem preserves : Cert.preserves_Kernel_KernelIdeal :=
  IdealRules.named_const.statement Cert.KernelIdeal.κ "q_scale" .f32 0x3E38AA3B#32 _ rfl

/-- On the extended reals, for finite queries and keys, the kernel and its reference leave the same array. -/
theorem algebraic : Cert.algebraic_KernelIdeal_ReferenceIdeal_pre_finite_qk := by
  intro m g m' g' hpre hagree
  refine ⟨fun c => want m c, ?_, ?_⟩
  · refine (θ_run Cert.KernelIdeal.defs _ _).mono (fun r h c => ⟨(h c).1.trans ?_, (h c).2⟩)
      (Cert.KernelIdeal.Value.run_blocks (F := Ideal) m g)
    have hr := Pre.real_qk _ _ _ _ _ _ _ _ (ix0 : Cert.Pre_finite_qk.S_.Idx) (congrFun (hpre c) ix0)
    exact final m c hr.1 hr.2
  · refine (θ_run Cert.ReferenceIdeal.defs _ _).mono (fun r h c => ⟨(h c).1.trans ?_, (h c).2⟩)
      (Cert.ReferenceIdeal.Value.run (F := Ideal) m' g')
    refine (Host.result_eq m' c).trans ?_
    obtain ⟨a0, a1, a2, a3, a4, a5, a6, a7⟩ := hagree c
    rw [a0, a1, a2, a3, a4, a5, a6, a7]

end Cert.Attn

end
-- ==== Proof.InProjLayout.lean ====
/-
  The input projection's column layout.  The kernel multiplies by a weight matrix whose columns the host has re-laid out;
  the reference multiplies by the weight matrix as given and re-lays out the columns of the product.  Both layouts read
  column `src n` of the original order at column `n`.
-/
module

public import proofs.«01_k».proof.Proof.Gen.Kernel3Ideal.Frame
public import proofs.«01_k».proof.Proof.Gen.Reference3Ideal.Run
public import Idealize.ShloMosaic.Lib.Pipeline.ValueKit

@[expose] public section

set_option maxRecDepth 65536

noncomputable section

open Idealize.ShloMosaic Idealize.ShloMosaic.TcCoe Idealize.SL.Sem

namespace Cert.InProj

/-- Inside a group of 128 columns (two heads of 64), the column of the original order found at place `j` when the first
    halves of both heads come before the second halves. -/
def halves (j : ℕ) : ℕ := j / 128 * 128 + j % 64 / 32 * 64 + j % 128 / 64 * 32 + j % 32

/-- The original column found at column `n` of the kernel's layout: gates, convolution inputs, queries, keys and values of
    the differential attention, queries, keys and values of the windowed attention. -/
def src (n : ℕ) : ℕ :=
  if n < 3072 then n + 3840
  else if n < 4608 then n - 3072 + 768
  else if n < 5120 then halves (n - 4608) + 2304
  else if n < 5632 then halves (n - 5120) + 2816
  else if n < 6144 then n - 5632 + 3328
  else if n < 6656 then halves (n - 6144)
  else if n < 6784 then halves (n - 6656) + 512
  else n - 6784 + 640

/-- Every column of the layout comes from a column of the original order. -/
theorem src_lt (n : ℕ) (h : n < 6912) : src n < 6912 := by
  unfold src halves
  split_ifs <;> omega

section
open Cert.Kernel3Ideal Cert.Kernel3Ideal.Gen

/-- Eight arrays laid side by side, read at a column. -/
theorem columns_at (u0 : FVec Ideal S1024x3072 .f32) (u1 : FVec Ideal S1024x1536 .f32) (u2 u3 u4 u5 : FVec Ideal S1024x512 .f32)
    (u6 u7 : FVec Ideal S1024x128 .f32) (k : Fin 1024) (n : Fin 6912) (v : EReal)
    (h0 : ∀ h : (n : ℕ) < 3072, u0 (ix2 k ⟨n, h⟩) = v)
    (h1 : ∀ h : (n : ℕ) - 3072 < 1536, 3072 ≤ (n : ℕ) → u1 (ix2 k ⟨n - 3072, h⟩) = v)
    (h2 : ∀ h : (n : ℕ) - 4608 < 512, 4608 ≤ (n : ℕ) → u2 (ix2 k ⟨n - 4608, h⟩) = v)
    (h3 : ∀ h : (n : ℕ) - 5120 < 512, 5120 ≤ (n : ℕ) → u3 (ix2 k ⟨n - 5120, h⟩) = v)
    (h4 : ∀ h : (n : ℕ) - 5632 < 512, 5632 ≤ (n : ℕ) → u4 (ix2 k ⟨n - 5632, h⟩) = v)
    (h5 : ∀ h : (n : ℕ) - 6144 < 512, 6144 ≤ (n : ℕ) → u5 (ix2 k ⟨n - 6144, h⟩) = v)
    (h6 : ∀ h : (n : ℕ) - 6656 < 128, 6656 ≤ (n : ℕ) → u6 (ix2 k ⟨n - 6656, h⟩) = v)
    (h7 : ∀ h : (n : ℕ) - 6784 < 128, 6784 ≤ (n : ℕ) → u7 (ix2 k ⟨n - 6784, h⟩) = v) :
    (concatenate S1024x6912 1 [⟨S1024x3072, u0⟩, ⟨S1024x1536, u1⟩, ⟨S1024x512, u2⟩, ⟨S1024x512, u3⟩, ⟨S1024x512, u4⟩,
      ⟨S1024x512, u5⟩, ⟨S1024x128, u6⟩, ⟨S1024x128, u7⟩]
      concatenates_S1024x3072_S1024x1536_S1024x512_S1024x512_S1024x512_S1024x512_S1024x128_S1024x128_S1024x6912_d1
      : FVec Ideal S1024x6912 .f32) (ix2 k n) = v := by
  pointwise
  have hn := n.isLt
  simp only [Nat.sub_sub, Nat.reduceAdd]
  repeat' split
  all_goals first
    | exact h0 _
    | exact h1 _ (by omega)
    | exact h2 _ (by omega)
    | exact h3 _ (by omega)
    | exact h4 _ (by omega)
    | exact h5 _ (by omega)
    | exact h6 _ (by omega)
    | exact h7 (by omega) (by omega)
    | exact absurd rfl ‹_›

/-- The weight matrix the kernel's call is given: the columns of the original in the kernel's layout. -/
def weightsWide (W : FVec Ideal S1024x6912 .f32) : FVec Ideal S1024x6912 .f32 :=
  concatenate S1024x6912 1
    [⟨S1024x3072, (extractStridedSlice S1024x3072 ![0, 3840] W slices_S1024x6912_S1024x3072_0_3840)⟩,
     ⟨S1024x1536, (extractStridedSlice S1024x1536 ![0, 768] W slices_S1024x6912_S1024x1536_0_768)⟩,
     ⟨S1024x512, (shapeCast S1024x512 (transpose S1024x4x2x2x32 [0, 1, 3, 2, 4] (shapeCast S1024x4x2x2x32 (extractStridedSlice S1024x512 ![0, 2304] W slices_S1024x6912_S1024x512_0_2304) shapeCasts_S1024x512_S1024x4x2x2x32) transposes_S1024x4x2x2x32_S1024x4x2x2x32_0_1_3_2_4) shapeCasts_S1024x4x2x2x32_S1024x512)⟩,
     ⟨S1024x512, (shapeCast S1024x512 (transpose S1024x4x2x2x32 [0, 1, 3, 2, 4] (shapeCast S1024x4x2x2x32 (extractStridedSlice S1024x512 ![0, 2816] W slices_S1024x6912_S1024x512_0_2816) shapeCasts_S1024x512_S1024x4x2x2x32) transposes_S1024x4x2x2x32_S1024x4x2x2x32_0_1_3_2_4) shapeCasts_S1024x4x2x2x32_S1024x512)⟩,
     ⟨S1024x512, (extractStridedSlice S1024x512 ![0, 3328] W slices_S1024x6912_S1024x512_0_3328)⟩,
     ⟨S1024x512, (shapeCast S1024x512 (transpose S1024x4x2x2x32 [0, 1, 3, 2, 4] (shapeCast S1024x4x2x2x32 (extractStridedSlice S1024x512 ![0, 0] W slices_S1024x6912_S1024x512_0_0) shapeCasts_S1024x512_S1024x4x2x2x32) transposes_S1024x4x2x2x32_S1024x4x2x2x32_0_1_3_2_4) shapeCasts_S1024x4x2x2x32_S1024x512)⟩,
     ⟨S1024x128, (shapeCast S1024x128 (transpose S1024x1x2x2x32 [0, 1, 3, 2, 4] (shapeCast S1024x1x2x2x32 (extractStridedSlice S1024x128 ![0, 512] W slices_S1024x6912_S1024x128_0_512) shapeCasts_S1024x128_S1024x1x2x2x32) transposes_S1024x1x2x2x32_S1024x1x2x2x32_0_1_3_2_4) shapeCasts_S1024x1x2x2x32_S1024x128)⟩,
     ⟨S1024x128, (extractStridedSlice S1024x128 ![0, 640] W slices_S1024x6912_S1024x128_0_640)⟩]
    concatenates_S1024x3072_S1024x1536_S1024x512_S1024x512_S1024x512_S1024x512_S1024x128_S1024x128_S1024x6912_d1

/-- The same in the narrow format. -/
def weights (W : FVec Ideal S1024x6912 .f32) : FVec Ideal S1024x6912 .bf16 := truncf .bf16 (weightsWide W) bitsLt_bf16_f32

/-- A slice of 512 columns from 2304, its halves exchanged, read at a column. -/
theorem halves_2304_at (W : FVec Ideal S1024x6912 .f32) (k : Fin 1024) (j : Fin 512) (h : halves j + 2304 < 6912) :
    (shapeCast S1024x512 (transpose S1024x4x2x2x32 [0, 1, 3, 2, 4] (shapeCast S1024x4x2x2x32 (extractStridedSlice S1024x512 ![0, 2304] W slices_S1024x6912_S1024x512_0_2304) shapeCasts_S1024x512_S1024x4x2x2x32) transposes_S1024x4x2x2x32_S1024x4x2x2x32_0_1_3_2_4) shapeCasts_S1024x4x2x2x32_S1024x512 : FVec Ideal S1024x512 .f32) (ix2 k j)
      = W (ix2 k ⟨halves j + 2304, h⟩) := by
  pointwise
  refine congrArg W (congrArg (ix2 k) (Fin.ext ?_))
  simp only [halves]
  have hj := j.isLt
  omega

/-- A slice of 512 columns from 2816, its halves exchanged, read at a column. -/
theorem halves_2816_at (W : FVec Ideal S1024x6912 .f32) (k : Fin 1024) (j : Fin 512) (h : halves j + 2816 < 6912) :
    (shapeCast S1024x512 (transpose S1024x4x2x2x32 [0, 1, 3, 2, 4] (shapeCast S1024x4x2x2x32 (extractStridedSlice S1024x512 ![0, 2816] W slices_S1024x6912_S1024x512_0_2816) shapeCasts_S1024x512_S1024x4x2x2x32) transposes_S1024x4x2x2x32_S1024x4x2x2x32_0_1_3_2_4) shapeCasts_S1024x4x2x2x32_S1024x512 : FVec Ideal S1024x512 .f32) (ix2 k j)
      = W (ix2 k ⟨halves j + 2816, h⟩) := by
  pointwise
  refine congrArg W (congrArg (ix2 k) (Fin.ext ?_))
  simp only [halves]
  have hj := j.isLt
  omega

/-- A slice of 512 columns from 0, its halves exchanged, read at a column. -/
theorem halves_0_at (W : FVec Ideal S1024x6912 .f32) (k : Fin 1024) (j : Fin 512) (h : halves j + 0 < 6912) :
    (shapeCast S1024x512 (transpose S1024x4x2x2x32 [0, 1, 3, 2, 4] (shapeCast S1024x4x2x2x32 (extractStridedSlice S1024x512 ![0, 0] W slices_S1024x6912_S1024x512_0_0) shapeCasts_S1024x512_S1024x4x2x2x32) transposes_S1024x4x2x2x32_S1024x4x2x2x32_0_1_3_2_4) shapeCasts_S1024x4x2x2x32_S1024x512 : FVec Ideal S1024x512 .f32) (ix2 k j)
      = W (ix2 k ⟨halves j + 0, h⟩) := by
  pointwise
  refine congrArg W (congrArg (ix2 k) (Fin.ext ?_))
  simp only [halves]
  have hj := j.isLt
  omega

/-- A slice of 128 columns from 512, its halves exchanged, read at a column. -/
theorem halves_512_at (W : FVec Ideal S1024x6912 .f32) (k : Fin 1024) (j : Fin 128) (h : halves j + 512 < 6912) :
    (shapeCast S1024x128 (transpose S1024x1x2x2x32 [0, 1, 3, 2, 4] (shapeCast S1024x1x2x2x32 (extractStridedSlice S1024x128 ![0, 512] W slices_S1024x6912_S1024x128_0_512) shapeCasts_S1024x128_S1024x1x2x2x32) transposes_S1024x1x2x2x32_S1024x1x2x2x32_0_1_3_2_4) shapeCasts_S1024x1x2x2x32_S1024x128 : FVec Ideal S1024x128 .f32) (ix2 k j)
      = W (ix2 k ⟨halves j + 512, h⟩) := by
  pointwise
  refine congrArg W (congrArg (ix2 k) (Fin.ext ?_))
  simp only [halves]
  have hj := j.isLt
  omega

/-- A slice of 3072 columns from 3840, read at a column. -/
theorem slice_3840_at (W : FVec Ideal S1024x6912 .f32) (k : Fin 1024) (j : Fin 3072) (h : (j : ℕ) + 3840 < 6912) :
    (extractStridedSlice S1024x3072 ![0, 3840] W slices_S1024x6912_S1024x3072_0_3840 : FVec Ideal S1024x3072 .f32) (ix2 k j)
      = W (ix2 k ⟨j + 3840, h⟩) := by
  pointwise
  refine congrArg W (congrArg (ix2 k) (Fin.ext ?_))
  dsimp only
  omega

/-- A slice of 1536 columns from 768, read at a column. -/
theorem slice_768_at (W : FVec Ideal S1024x6912 .f32) (k : Fin 1024) (j : Fin 1536) (h : (j : ℕ) + 768 < 6912) :
    (extractStridedSlice S1024x1536 ![0, 768] W slices_S1024x6912_S1024x1536_0_768 : FVec Ideal S1024x1536 .f32) (ix2 k j)
      = W (ix2 k ⟨j + 768, h⟩) := by
  pointwise
  refine congrArg W (congrArg (ix2 k) (Fin.ext ?_))
  dsimp only
  omega

/-- A slice of 512 columns from 3328, read at a column. -/
theorem slice_3328_at (W : FVec Ideal S1024x6912 .f32) (k : Fin 1024) (j : Fin 512) (h : (j : ℕ) + 3328 < 6912) :
    (extractStridedSlice S1024x512 ![0, 3328] W slices_S1024x6912_S1024x512_0_3328 : FVec Ideal S1024x512 .f32) (ix2 k j)
      = W (ix2 k ⟨j + 3328, h⟩) := by
  pointwise
  refine congrArg W (congrArg (ix2 k) (Fin.ext ?_))
  dsimp only
  omega

/-- A slice of 128 columns from 640, read at a column. -/
theorem slice_640_at (W : FVec Ideal S1024x6912 .f32) (k : Fin 1024) (j : Fin 128) (h : (j : ℕ) + 640 < 6912) :
    (extractStridedSlice S1024x128 ![0, 640] W slices_S1024x6912_S1024x128_0_640 : FVec Ideal S1024x128 .f32) (ix2 k j)
      = W (ix2 k ⟨j + 640, h⟩) := by
  pointwise
  refine congrArg W (congrArg (ix2 k) (Fin.ext ?_))
  dsimp only
  omega

/-- Column `n` of the kernel's weights is column `src n` of the weights given. -/
theorem weights_at (W : FVec Ideal S1024x6912 .f32) (k : Fin 1024) (n : Fin 6912) :
    weights W (ix2 k n) = W (ix2 k ⟨src n, src_lt n n.isLt⟩) := by
  show weightsWide W (ix2 k n) = _
  unfold weightsWide
  refine columns_at _ _ _ _ _ _ _ _ _ _ _ ?_ ?_ ?_ ?_ ?_ ?_ ?_ ?_
  · exact fun h => (slice_3840_at W k _ (by dsimp only; omega)).trans (congrArg W (congrArg (ix2 k) (Fin.ext (by
      simp only [src]; split_ifs <;> omega))))
  · exact fun h g => (slice_768_at W k _ (by dsimp only; omega)).trans (congrArg W (congrArg (ix2 k) (Fin.ext (by
      simp only [src]; split_ifs <;> omega))))
  · exact fun h g => (halves_2304_at W k _ (by unfold halves; dsimp only; omega)).trans (congrArg W (congrArg (ix2 k) (Fin.ext (by
      simp only [src]; split_ifs <;> omega))))
  · exact fun h g => (halves_2816_at W k _ (by unfold halves; dsimp only; omega)).trans (congrArg W (congrArg (ix2 k) (Fin.ext (by
      simp only [src]; split_ifs <;> omega))))
  · exact fun h g => (slice_3328_at W k _ (by dsimp only; omega)).trans (congrArg W (congrArg (ix2 k) (Fin.ext (by
      simp only [src]; split_ifs <;> omega))))
  · exact fun h g => (halves_0_at W k _ (by unfold halves; dsimp only; omega)).trans (congrArg W (congrArg (ix2 k) (Fin.ext (by
      simp only [src]; split_ifs <;> omega))))
  · exact fun h g => (halves_512_at W k _ (by unfold halves; dsimp only; omega)).trans (congrArg W (congrArg (ix2 k) (Fin.ext (by
      simp only [src]; split_ifs <;> omega))))
  · exact fun h g => (slice_640_at W k _ (by dsimp only; omega)).trans (congrArg W (congrArg (ix2 k) (Fin.ext (by
      simp only [src]; split_ifs <;> omega))))

end

section
open Cert.Reference3Ideal Cert.Reference3Ideal.Gen

/-- Eight arrays laid side by side, read at a column. -/
theorem result_columns_at (u0 : FVec Ideal S16384x3072 .f32) (u1 : FVec Ideal S16384x1536 .f32) (u2 u3 u4 u5 : FVec Ideal S16384x512 .f32)
    (u6 u7 : FVec Ideal S16384x128 .f32) (k : Fin 16384) (n : Fin 6912) (v : EReal)
    (h0 : ∀ h : (n : ℕ) < 3072, u0 (ix2 k ⟨n, h⟩) = v)
    (h1 : ∀ h : (n : ℕ) - 3072 < 1536, 3072 ≤ (n : ℕ) → u1 (ix2 k ⟨n - 3072, h⟩) = v)
    (h2 : ∀ h : (n : ℕ) - 4608 < 512, 4608 ≤ (n : ℕ) → u2 (ix2 k ⟨n - 4608, h⟩) = v)
    (h3 : ∀ h : (n : ℕ) - 5120 < 512, 5120 ≤ (n : ℕ) → u3 (ix2 k ⟨n - 5120, h⟩) = v)
    (h4 : ∀ h : (n : ℕ) - 5632 < 512, 5632 ≤ (n : ℕ) → u4 (ix2 k ⟨n - 5632, h⟩) = v)
    (h5 : ∀ h : (n : ℕ) - 6144 < 512, 6144 ≤ (n : ℕ) → u5 (ix2 k ⟨n - 6144, h⟩) = v)
    (h6 : ∀ h : (n : ℕ) - 6656 < 128, 6656 ≤ (n : ℕ) → u6 (ix2 k ⟨n - 6656, h⟩) = v)
    (h7 : ∀ h : (n : ℕ) - 6784 < 128, 6784 ≤ (n : ℕ) → u7 (ix2 k ⟨n - 6784, h⟩) = v) :
    (concatenate S16384x6912 1 [⟨S16384x3072, u0⟩, ⟨S16384x1536, u1⟩, ⟨S16384x512, u2⟩, ⟨S16384x512, u3⟩, ⟨S16384x512, u4⟩,
      ⟨S16384x512, u5⟩, ⟨S16384x128, u6⟩, ⟨S16384x128, u7⟩]
      concatenates_S16384x3072_S16384x1536_S16384x512_S16384x512_S16384x512_S16384x512_S16384x128_S16384x128_S16384x6912_d1
      : FVec Ideal S16384x6912 .f32) (ix2 k n) = v := by
  pointwise
  have hn := n.isLt
  simp only [Nat.sub_sub, Nat.reduceAdd]
  repeat' split
  all_goals first
    | exact h0 _
    | exact h1 _ (by omega)
    | exact h2 _ (by omega)
    | exact h3 _ (by omega)
    | exact h4 _ (by omega)
    | exact h5 _ (by omega)
    | exact h6 _ (by omega)
    | exact h7 (by omega) (by omega)
    | exact absurd rfl ‹_›

/-- The reference's re-layout of the product's columns. -/
def relayoutWide (P : FVec Ideal S16384x6912 .f32) : FVec Ideal S16384x6912 .f32 :=
  concatenate S16384x6912 1
    [⟨S16384x3072, (extractStridedSlice S16384x3072 ![0, 3840] P slices_S16384x6912_S16384x3072_0_3840)⟩,
     ⟨S16384x1536, (extractStridedSlice S16384x1536 ![0, 768] P slices_S16384x6912_S16384x1536_0_768)⟩,
     ⟨S16384x512, (shapeCast S16384x512 (transpose S16384x4x2x2x32 [0, 1, 3, 2, 4] (shapeCast S16384x4x2x2x32 (extractStridedSlice S16384x512 ![0, 2304] P slices_S16384x6912_S16384x512_0_2304) shapeCasts_S16384x512_S16384x4x2x2x32) transposes_S16384x4x2x2x32_S16384x4x2x2x32_0_1_3_2_4) shapeCasts_S16384x4x2x2x32_S16384x512)⟩,
     ⟨S16384x512, (shapeCast S16384x512 (transpose S16384x4x2x2x32 [0, 1, 3, 2, 4] (shapeCast S16384x4x2x2x32 (extractStridedSlice S16384x512 ![0, 2816] P slices_S16384x6912_S16384x512_0_2816) shapeCasts_S16384x512_S16384x4x2x2x32) transposes_S16384x4x2x2x32_S16384x4x2x2x32_0_1_3_2_4) shapeCasts_S16384x4x2x2x32_S16384x512)⟩,
     ⟨S16384x512, (extractStridedSlice S16384x512 ![0, 3328] P slices_S16384x6912_S16384x512_0_3328)⟩,
     ⟨S16384x512, (shapeCast S16384x512 (transpose S16384x4x2x2x32 [0, 1, 3, 2, 4] (shapeCast S16384x4x2x2x32 (extractStridedSlice S16384x512 ![0, 0] P slices_S16384x6912_S16384x512_0_0) shapeCasts_S16384x512_S16384x4x2x2x32) transposes_S16384x4x2x2x32_S16384x4x2x2x32_0_1_3_2_4) shapeCasts_S16384x4x2x2x32_S16384x512)⟩,
     ⟨S16384x128, (shapeCast S16384x128 (transpose S16384x1x2x2x32 [0, 1, 3, 2, 4] (shapeCast S16384x1x2x2x32 (extractStridedSlice S16384x128 ![0, 512] P slices_S16384x6912_S16384x128_0_512) shapeCasts_S16384x128_S16384x1x2x2x32) transposes_S16384x1x2x2x32_S16384x1x2x2x32_0_1_3_2_4) shapeCasts_S16384x1x2x2x32_S16384x128)⟩,
     ⟨S16384x128, (extractStridedSlice S16384x128 ![0, 640] P slices_S16384x6912_S16384x128_0_640)⟩]
    concatenates_S16384x3072_S16384x1536_S16384x512_S16384x512_S16384x512_S16384x512_S16384x128_S16384x128_S16384x6912_d1

/-- The same in the narrow format. -/
def relayout (P : FVec Ideal S16384x6912 .f32) : FVec Ideal S16384x6912 .bf16 := truncf .bf16 (relayoutWide P) bitsLt_bf16_f32

/-- A slice of 512 columns from 2304, its halves exchanged, read at a column. -/
theorem result_halves_2304_at (P : FVec Ideal S16384x6912 .f32) (k : Fin 16384) (j : Fin 512) (h : halves j + 2304 < 6912) :
    (shapeCast S16384x512 (transpose S16384x4x2x2x32 [0, 1, 3, 2, 4] (shapeCast S16384x4x2x2x32 (extractStridedSlice S16384x512 ![0, 2304] P slices_S16384x6912_S16384x512_0_2304) shapeCasts_S16384x512_S16384x4x2x2x32) transposes_S16384x4x2x2x32_S16384x4x2x2x32_0_1_3_2_4) shapeCasts_S16384x4x2x2x32_S16384x512 : FVec Ideal S16384x512 .f32) (ix2 k j)
      = P (ix2 k ⟨halves j + 2304, h⟩) := by
  pointwise
  refine congrArg P (congrArg (ix2 k) (Fin.ext ?_))
  simp only [halves]
  have hj := j.isLt
  omega

/-- A slice of 512 columns from 2816, its halves exchanged, read at a column. -/
theorem result_halves_2816_at (P : FVec Ideal S16384x6912 .f32) (k : Fin 16384) (j : Fin 512) (h : halves j + 2816 < 6912) :
    (shapeCast S16384x512 (transpose S16384x4x2x2x32 [0, 1, 3, 2, 4] (shapeCast S16384x4x2x2x32 (extractStridedSlice S16384x512 ![0, 2816] P slices_S16384x6912_S16384x512_0_2816) shapeCasts_S16384x512_S16384x4x2x2x32) transposes_S16384x4x2x2x32_S16384x4x2x2x32_0_1_3_2_4) shapeCasts_S16384x4x2x2x32_S16384x512 : FVec Ideal S16384x512 .f32) (ix2 k j)
      = P (ix2 k ⟨halves j + 2816, h⟩) := by
  pointwise
  refine congrArg P (congrArg (ix2 k) (Fin.ext ?_))
  simp only [halves]
  have hj := j.isLt
  omega

/-- A slice of 512 columns from 0, its halves exchanged, read at a column. -/
theorem result_halves_0_at (P : FVec Ideal S16384x6912 .f32) (k : Fin 16384) (j : Fin 512) (h : halves j + 0 < 6912) :
    (shapeCast S16384x512 (transpose S16384x4x2x2x32 [0, 1, 3, 2, 4] (shapeCast S16384x4x2x2x32 (extractStridedSlice S16384x512 ![0, 0] P slices_S16384x6912_S16384x512_0_0) shapeCasts_S16384x512_S16384x4x2x2x32) transposes_S16384x4x2x2x32_S16384x4x2x2x32_0_1_3_2_4) shapeCasts_S16384x4x2x2x32_S16384x512 : FVec Ideal S16384x512 .f32) (ix2 k j)
      = P (ix2 k ⟨halves j + 0, h⟩) := by
  pointwise
  refine congrArg P (congrArg (ix2 k) (Fin.ext ?_))
  simp only [halves]
  have hj := j.isLt
  omega

/-- A slice of 128 columns from 512, its halves exchanged, read at a column. -/
theorem result_halves_512_at (P : FVec Ideal S16384x6912 .f32) (k : Fin 16384) (j : Fin 128) (h : halves j + 512 < 6912) :
    (shapeCast S16384x128 (transpose S16384x1x2x2x32 [0, 1, 3, 2, 4] (shapeCast S16384x1x2x2x32 (extractStridedSlice S16384x128 ![0, 512] P slices_S16384x6912_S16384x128_0_512) shapeCasts_S16384x128_S16384x1x2x2x32) transposes_S16384x1x2x2x32_S16384x1x2x2x32_0_1_3_2_4) shapeCasts_S16384x1x2x2x32_S16384x128 : FVec Ideal S16384x128 .f32) (ix2 k j)
      = P (ix2 k ⟨halves j + 512, h⟩) := by
  pointwise
  refine congrArg P (congrArg (ix2 k) (Fin.ext ?_))
  simp only [halves]
  have hj := j.isLt
  omega

/-- A slice of 3072 columns from 3840, read at a column. -/
theorem result_slice_3840_at (P : FVec Ideal S16384x6912 .f32) (k : Fin 16384) (j : Fin 3072) (h : (j : ℕ) + 3840 < 6912) :
    (extractStridedSlice S16384x3072 ![0, 3840] P slices_S16384x6912_S16384x3072_0_3840 : FVec Ideal S16384x3072 .f32) (ix2 k j)
      = P (ix2 k ⟨j + 3840, h⟩) := by
  pointwise
  refine congrArg P (congrArg (ix2 k) (Fin.ext ?_))
  dsimp only
  omega

/-- A slice of 1536 columns from 768, read at a column. -/
theorem result_slice_768_at (P : FVec Ideal S16384x6912 .f32) (k : Fin 16384) (j : Fin 1536) (h : (j : ℕ) + 768 < 6912) :
    (extractStridedSlice S16384x1536 ![0, 768] P slices_S16384x6912_S16384x1536_0_768 : FVec Ideal S16384x1536 .f32) (ix2 k j)
      = P (ix2 k ⟨j + 768, h⟩) := by
  pointwise
  refine congrArg P (congrArg (ix2 k) (Fin.ext ?_))
  dsimp only
  omega

/-- A slice of 512 columns from 3328, read at a column. -/
theorem result_slice_3328_at (P : FVec Ideal S16384x6912 .f32) (k : Fin 16384) (j : Fin 512) (h : (j : ℕ) + 3328 < 6912) :
    (extractStridedSlice S16384x512 ![0, 3328] P slices_S16384x6912_S16384x512_0_3328 : FVec Ideal S16384x512 .f32) (ix2 k j)
      = P (ix2 k ⟨j + 3328, h⟩) := by
  pointwise
  refine congrArg P (congrArg (ix2 k) (Fin.ext ?_))
  dsimp only
  omega

/-- A slice of 128 columns from 640, read at a column. -/
theorem result_slice_640_at (P : FVec Ideal S16384x6912 .f32) (k : Fin 16384) (j : Fin 128) (h : (j : ℕ) + 640 < 6912) :
    (extractStridedSlice S16384x128 ![0, 640] P slices_S16384x6912_S16384x128_0_640 : FVec Ideal S16384x128 .f32) (ix2 k j)
      = P (ix2 k ⟨j + 640, h⟩) := by
  pointwise
  refine congrArg P (congrArg (ix2 k) (Fin.ext ?_))
  dsimp only
  omega

/-- Column `n` of the reference's result is column `src n` of the product. -/
theorem relayout_at (P : FVec Ideal S16384x6912 .f32) (r : Fin 16384) (n : Fin 6912) :
    relayout P (ix2 r n) = P (ix2 r ⟨src n, src_lt n n.isLt⟩) := by
  show relayoutWide P (ix2 r n) = _
  unfold relayoutWide
  refine result_columns_at _ _ _ _ _ _ _ _ _ _ _ ?_ ?_ ?_ ?_ ?_ ?_ ?_ ?_
  · exact fun h => (result_slice_3840_at P r _ (by dsimp only; omega)).trans (congrArg P (congrArg (ix2 r) (Fin.ext (by
      simp only [src]; split_ifs <;> omega))))
  · exact fun h g => (result_slice_768_at P r _ (by dsimp only; omega)).trans (congrArg P (congrArg (ix2 r) (Fin.ext (by
      simp only [src]; split_ifs <;> omega))))
  · exact fun h g => (result_halves_2304_at P r _ (by unfold halves; dsimp only; omega)).trans (congrArg P (congrArg (ix2 r) (Fin.ext (by
      simp only [src]; split_ifs <;> omega))))
  · exact fun h g => (result_halves_2816_at P r _ (by unfold halves; dsimp only; omega)).trans (congrArg P (congrArg (ix2 r) (Fin.ext (by
      simp only [src]; split_ifs <;> omega))))
  · exact fun h g => (result_slice_3328_at P r _ (by dsimp only; omega)).trans (congrArg P (congrArg (ix2 r) (Fin.ext (by
      simp only [src]; split_ifs <;> omega))))
  · exact fun h g => (result_halves_0_at P r _ (by unfold halves; dsimp only; omega)).trans (congrArg P (congrArg (ix2 r) (Fin.ext (by
      simp only [src]; split_ifs <;> omega))))
  · exact fun h g => (result_halves_512_at P r _ (by unfold halves; dsimp only; omega)).trans (congrArg P (congrArg (ix2 r) (Fin.ext (by
      simp only [src]; split_ifs <;> omega))))
  · exact fun h g => (result_slice_640_at P r _ (by dsimp only; omega)).trans (congrArg P (congrArg (ix2 r) (Fin.ext (by
      simp only [src]; split_ifs <;> omega))))

end

end Cert.InProj

end
-- ==== Proof.Mat.lean ====
/-
  A rectangular load of a matrix, read at a row and a column.
-/
module

public import Idealize.ShloMosaic.Lib.Pipeline.ValueKit

@[expose] public section

noncomputable section

open Idealize.ShloMosaic

namespace Cert.Mat

/-- A rectangular load of a matrix reads the matrix at the load's place. -/
theorem ld_at {Val : EltTy → Type} {e : EltTy} {A B a b : ℕ} (X : (⟨2, ![A, B]⟩ : Shape).Idx → Val e) (o0 o1 : ℕ)
    (inb : ∀ i, (![o0, o1] : Fin 2 → ℕ) i + (![a, b] : Fin 2 → ℕ) i ≤ (⟨2, ![A, B]⟩ : Shape).size i)
    (p : Fin a) (k : Fin b) (P : Fin A) (K : Fin B) (hP : (P : ℕ) = o0 + p) (hK : (K : ℕ) = o1 + k) :
    View.ld (Val := Val) (e' := e) X (Rect.unit (s := ⟨2, ![A, B]⟩) ![o0, o1] ![a, b] inb) (ix2 p k) = X (ix2 P K) := by
  refine View.ld_unit_apply_of X ![o0, o1] ![a, b] inb (ix2 p k) (ix2 P K) fun i => ?_
  fin_cases i
  · exact hP
  · exact hK

end Cert.Mat

end
-- ==== Proof.InProj.lean ====
/-
  The input projection: RMS-normalised rows times the weights.  Each of the 32 grid points computes 512 rows in nine column
  tiles; every entry is the sum, over the 1024 inputs, of the normalised row times a column of the weights.
-/
module

public import proofs.«01_k».proof.Proof.InProjLayout
public import proofs.«01_k».proof.Proof.Mat

@[expose] public section

set_option maxRecDepth 16384

noncomputable section

open Idealize.ShloMosaic Idealize.ShloMosaic.TcCoe Idealize.SL.Sem
open Idealize.ShloMosaic.Pipeline (Dat)

namespace Cert.InProj

/-! ## The reference -/

section
open Cert.Reference3Ideal Cert.Reference3Ideal.Gen

/-- The normalised rows the reference multiplies. -/
def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The product of the normalised rows with the weights, the two row axes merged. -/
def proj (X : FVec Ideal S8x2048x1024 .f32) (g : FVec Ideal S1024 .f32) (W : FVec Ideal S1024x6912 .f32) : FVec Ideal S16384x6912 .f32 :=
  shapeCast S16384x6912 (Host.dotGeneral dot_S8x2048x1024_S1024x6912_S8x2048x6912_2_0_01_1_n_n none (normed X g) W : FVec Ideal S8x2048x6912 .f32) shapeCasts_S8x2048x6912_S16384x6912

/-- The reference's result as a function of its three arguments. -/
def result (X : FVec Ideal S8x2048x1024 .f32) (g : FVec Ideal S1024 .f32) (W : FVec Ideal S1024x6912 .f32) : FVec Ideal S16384x6912 .bf16 :=
  relayout (proj X g W)

/-- The reference's run leaves that function of the arguments. -/
theorem reference_eq (m : (ℓ : Loc nD τ sig) → Buf (Elt Ideal) ℓ) (c : Dev nD) :
    Cert.Reference3Ideal.Value.res_main_v36 m c
      = result (m ((c.tc : Thread nD τ).loc main_arg0)) (m ((c.tc : Thread nD τ).loc main_arg1)) (m ((c.tc : Thread nD τ).loc main_arg2)) := rfl

/-- The entry of one row and one column: the normalised row times the column of the weights. -/
def entry (X : FVec Ideal S8x2048x1024 .f32) (g : FVec Ideal S1024 .f32) (W : FVec Ideal S1024x6912 .f32) (r : Fin 16384) (n : Fin 6912) : EReal :=
  ∑ k : Fin 1024, X (ix3 ⟨r / 2048, by omega⟩ ⟨r % 2048, by omega⟩ k)
      * Ideal.rsqrt (Ideal.div (∑ l : Fin 1024, X (ix3 ⟨r / 2048, by omega⟩ ⟨r % 2048, by omega⟩ l) * X (ix3 ⟨r / 2048, by omega⟩ ⟨r % 2048, by omega⟩ l))
          (Ideal.ofBits FTy.f32 1149239296#32) + Ideal.ofBits FTy.f32 897988541#32)
      * g (ix1 k) * W (ix2 k n)

/-- The product at a row and a column. -/
theorem proj_at (X : FVec Ideal S8x2048x1024 .f32) (g : FVec Ideal S1024 .f32) (W : FVec Ideal S1024x6912 .f32) (r : Fin 16384) (n : Fin 6912) :
    proj X g W (ix2 r n) = entry X g W r n := by
  pointwise [proj, normed]
  rfl

/-- The reference's result at a row and a column of the new layout. -/
theorem result_at (X : FVec Ideal S8x2048x1024 .f32) (g : FVec Ideal S1024 .f32) (W : FVec Ideal S1024x6912 .f32) (r : Fin 16384) (n : Fin 6912) :
    result X g W (ix2 r n) = entry X g W r ⟨src n, src_lt n n.isLt⟩ :=
  (relayout_at _ r n).trans (proj_at X g W r _)

end

/-! ## The kernel -/

section
open Cert.Kernel3Ideal Cert.Kernel3Ideal.Gen

variable (m : (ℓ : Loc nD τ sig) → Buf (Elt Ideal) ℓ)

/-- Which block of each array a grid point works on. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The merged rows at a row: its batch and its position. -/
theorem merged_at (X : FVec Ideal S8x2048x1024 .f32) (r : Fin 16384) (k : Fin 1024) :
    (shapeCast S16384x1024 X shapeCasts_S8x2048x1024_S16384x1024 : FVec Ideal S16384x1024 .f32) (ix2 r k)
      = X (ix3 ⟨r / 2048, by omega⟩ ⟨r % 2048, by omega⟩ k) := by
  pointwise

/-- A point's rows: row `p` of point `t` is row `512 t + p` of the merged rows. -/
theorem rows_at (c : Dev nD) (t : Fin cfg0.N) (p : Fin 512) (k : Fin 1024) (r : Fin 16384) (hr : (r : ℕ) = t.val * 512 + p) :
    (iblk m c 0 t : Vec Ideal S512x1024 .f32) (ix2 p k)
      = (m ((c : Thread nD τ).loc main_arg0) : FVec Ideal S8x2048x1024 .f32) (ix3 ⟨r / 2048, by omega⟩ ⟨r % 2048, by omega⟩ k) := by
  have he : ((cfg0.win 0).blk t).view.emb (ix2 p k) = (ix2 r k : S16384x1024.Idx) := by blk_ext [idx t]
  show (shapeCast S16384x1024 (m ((c : Thread nD τ).loc main_arg0) : FVec Ideal S8x2048x1024 .f32) shapeCasts_S8x2048x1024_S16384x1024)
    (((cfg0.win 0).blk t).view.emb (ix2 p k)) = _
  rw [he]
  exact merged_at _ r k

/-- Every point sees the whole gain. -/
theorem gain_at (c : Dev nD) (t : Fin cfg0.N) (k : Fin 1024) :
    (iblk m c 1 t : Vec Ideal S1x1024 .f32) (ix2 0 k) = (m ((c : Thread nD τ).loc main_arg1) : FVec Ideal S1024 .f32) (ix1 k) := by
  have he : ((cfg0.win 1).blk t).view.emb (ix2 0 k) = (ix2 0 k : S1x1024.Idx) := by blk_ext [idx t]
  show (shapeCast S1x1024 (m ((c : Thread nD τ).loc main_arg1) : FVec Ideal S1024 .f32) shapeCasts_S1024_S1x1024)
    (((cfg0.win 1).blk t).view.emb (ix2 0 k)) = _
  rw [he]
  pointwise

/-- Every point sees the whole weights. -/
theorem weights_blk (c : Dev nD) (t : Fin cfg0.N) (k : Fin 1024) (n : Fin 6912) :
    (iblk m c 2 t : Vec Ideal S1024x6912 .bf16) (ix2 k n)
      = (m ((c : Thread nD τ).loc main_arg2) : FVec Ideal S1024x6912 .f32) (ix2 k ⟨src n, src_lt n n.isLt⟩) := by
  have he : ((cfg0.win 2).blk t).view.emb (ix2 k n) = (ix2 k n : S1024x6912.Idx) := by blk_ext [idx t]
  show weights (m ((c : Thread nD τ).loc main_arg2)) (((cfg0.win 2).blk t).view.emb (ix2 k n)) = _
  rw [he]
  exact weights_at _ k n

/-- The entry a point computes at a row and a column of its block, from its rows, the gain and the weights. -/
def blockEntry (x0 : Vec Ideal S512x1024 .f32) (x1 : Vec Ideal S1x1024 .f32) (x2 : Vec Ideal S1024x6912 .bf16)
    (p : Fin 512) (n : Fin 6912) : EReal :=
  ∑ k : Fin 1024, x0 (ix2 p k)
      * Ideal.rsqrt (Ideal.div (∑ l : Fin 1024, x0 (ix2 p l) * x0 (ix2 p l)) (Ideal.ofBits FTy.f32 1149239296#32) + Ideal.ofBits FTy.f32 897988541#32)
      * x1 (ix2 0 k) * x2 (ix2 k n)

/-- What a column tile computes at an index, from a point's rows and gain and the tile of the weights. -/
theorem tile_at (v0 : Vec Ideal S512x1024 .f32) (v12 : Vec Ideal S1x1024 .f32) (w : Vec Ideal S1024x768 .bf16) (p : Fin 512) (n : Fin 768) :
    k0_pay2 v0 v12 w (ix2 p n)
      = ∑ k : Fin 1024, v0 (ix2 p k)
          * Ideal.rsqrt (Ideal.div (∑ l : Fin 1024, v0 (ix2 p l) * v0 (ix2 p l)) (Ideal.ofBits FTy.f32 1149239296#32) + Ideal.ofBits FTy.f32 897988541#32)
          * v12 (ix2 0 k) * w (ix2 k n) := by
  pointwise [k0_pay2, k0_pay1]

/-! The nine tiles are one computation on nine tiles of the weights. -/

/-- The second tile's computation is the first one's. -/
theorem pay3_eq (v0 : Vec Ideal S512x1024 .f32) (v12 : Vec Ideal S1x1024 .f32) (w : Vec Ideal S1024x768 .bf16) :
    k0_pay3 v0 v12 w = k0_pay2 v0 v12 w := rfl
/-- The third tile's computation is the first one's. -/
theorem pay4_eq (v0 : Vec Ideal S512x1024 .f32) (v12 : Vec Ideal S1x1024 .f32) (w : Vec Ideal S1024x768 .bf16) :
    k0_pay4 v0 v12 w = k0_pay2 v0 v12 w := rfl
/-- The fourth tile's computation is the first one's. -/
theorem pay5_eq (v0 : Vec Ideal S512x1024 .f32) (v12 : Vec Ideal S1x1024 .f32) (w : Vec Ideal S1024x768 .bf16) :
    k0_pay5 (k0_pay1 v0 v12) w = k0_pay2 v0 v12 w := rfl
/-- The fifth tile's computation is the first one's. -/
theorem pay6_eq (v0 : Vec Ideal S512x1024 .f32) (v12 : Vec Ideal S1x1024 .f32) (w : Vec Ideal S1024x768 .bf16) :
    k0_pay6 (k0_pay1 v0 v12) w = k0_pay2 v0 v12 w := rfl
/-- The sixth tile's computation is the first one's. -/
theorem pay7_eq (v0 : Vec Ideal S512x1024 .f32) (v12 : Vec Ideal S1x1024 .f32) (w : Vec Ideal S1024x768 .bf16) :
    k0_pay7 (k0_pay1 v0 v12) w = k0_pay2 v0 v12 w := rfl
/-- The seventh tile's computation is the first one's. -/
theorem pay8_eq (v0 : Vec Ideal S512x1024 .f32) (v12 : Vec Ideal S1x1024 .f32) (w : Vec Ideal S1024x768 .bf16) :
    k0_pay8 (k0_pay1 v0 v12) w = k0_pay2 v0 v12 w := rfl
/-- The eighth tile's computation is the first one's. -/
theorem pay9_eq (v0 : Vec Ideal S512x1024 .f32) (v12 : Vec Ideal S1x1024 .f32) (w : Vec Ideal S1024x768 .bf16) :
    k0_pay9 (k0_pay1 v0 v12) w = k0_pay2 v0 v12 w := rfl
/-- The ninth tile's computation is the first one's. -/
theorem pay10_eq (v0 : Vec Ideal S512x1024 .f32) (v12 : Vec Ideal S1x1024 .f32) (w : Vec Ideal S1024x768 .bf16) :
    k0_pay10 (k0_pay1 v0 v12) w = k0_pay2 v0 v12 w := rfl

/-- A tile read at its index is the block's entry at the tile's place, when it is loaded from the block's columns there. -/
theorem tile_eq (x0 : Vec Ideal S512x1024 .f32) (x1 : Vec Ideal S1x1024 .f32) (x2 : Vec Ideal S1024x6912 .bf16)
    (o : ℕ) (inb : ∀ i, (![0, o] : Fin 2 → ℕ) i + S1024x768.size i ≤ S1024x6912.size i)
    (x : S512x768.Idx) (y : S512x6912.Idx) (h0 : (y 0 : ℕ) = x 0) (h1 : (y 1 : ℕ) = o + x 1) :
    k0_pay2 (View.ld x0 r0_0) (View.ld x1 r0_1) (View.ld x2 (Rect.unit (s := S1024x6912) ![0, o] S1024x768.size inb)) x
      = blockEntry x0 x1 x2 (y 0) (y 1) := by
  have hx : x = ix2 (x 0) (x 1) := eq_ix2 x
  rw [hx]
  refine (tile_at _ _ _ _ _).trans ?_
  unfold blockEntry
  have r0 : ∀ k : Fin 1024, View.ld x0 r0_0 (ix2 (x 0) k) = x0 (ix2 (y 0) k) := fun k =>
    Mat.ld_at x0 0 0 _ (x 0) k (y 0) k (by omega) (by omega)
  have r1 : ∀ k : Fin 1024, View.ld x1 r0_1 (ix2 0 k) = x1 (ix2 0 k) := fun k =>
    Mat.ld_at x1 0 0 _ 0 k 0 k rfl (by omega)
  have r2 : ∀ k : Fin 1024, View.ld x2 (Rect.unit (s := S1024x6912) ![0, o] S1024x768.size inb) (ix2 k (x 1)) = x2 (ix2 k (y 1)) := fun k =>
    Mat.ld_at x2 0 o inb k (x 1) k (y 1) (by omega) (by omega)
  refine Finset.sum_congr rfl fun k _ => ?_
  rw [r0, r1, r2]
  simp only [r0]

/-- What a point leaves in its block of the result, entry by entry. -/
theorem block_at (x0 : Vec Ideal S512x1024 .f32) (x1 : Vec Ideal S1x1024 .f32) (x2 : Vec Ideal S1024x6912 .bf16) (y : S512x6912.Idx) :
    out0_3 x0 x1 x2 y = blockEntry x0 x1 x2 (y 0) (y 1) := by
  unfold_out out0_3
  simp only [pay3_eq, pay4_eq, pay5_eq, pay6_eq, pay7_eq, pay8_eq, pay9_eq, pay10_eq]
  canon_tiles x h
  all_goals exact tile_eq x0 x1 x2 _ _ x y (by omega) (by omega)

/-- What a point leaves in its block of the result is the block of the reference's result. -/
theorem point (c : Dev nD) (t : Fin cfg0.N) (y : S512x6912.Idx) :
    out0_3 (iblk m c 0 t) (iblk m c 1 t) (iblk m c 2 t) y
      = result (m ((c : Thread nD τ).loc main_arg0)) (m ((c : Thread nD τ).loc main_arg1)) (m ((c : Thread nD τ).loc main_arg2))
          (((cfg0.win 3).blk t).view.emb y) := by
  have ht : t.val < 32 := lt_of_lt_of_eq t.isLt N_0
  have hy : (y 0 : ℕ) < 512 := (y 0).isLt
  have hemb : ((cfg0.win 3).blk t).view.emb y = (ix2 ⟨t.val * 512 + (y 0 : ℕ), by omega⟩ (y 1) : S16384x6912.Idx) := by blk_ext [idx t]
  rw [hemb]
  refine (block_at _ _ _ y).trans (Eq.trans ?_ (result_at _ _ _ _ _).symm)
  unfold blockEntry entry
  have r0 := fun k => rows_at m c t (y 0) k ⟨t.val * 512 + (y 0 : ℕ), by omega⟩ rfl
  have r1 := gain_at m c t
  have r2 := fun k => weights_blk m c t k (y 1)
  refine Finset.sum_congr rfl fun k _ => ?_
  rw [r1, r2]
  simp only [r0]

/-- The result array after the run is the reference's result. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end

end Cert.InProj

end
-- ==== Proof.InProjClaims.lean ====
/-
  The claims about the input projection: the three programs run and change nothing they were given, and on the extended
  reals the kernel and its reference leave the same array.
-/
module

public import proofs.«01_k».proof.Defs
public import proofs.«01_k».proof.Proof.InProj
public import proofs.«01_k».proof.Proof.Gen.Kernel3Ideal.Value
public import proofs.«01_k».proof.Proof.Gen.Kernel3.Frame

@[expose] public section

noncomputable section

open Idealize.ShloMosaic Idealize.ShloMosaic.TcCoe Idealize.SL.Sem

namespace Cert.InProj

/-- The kernel runs on the machine's floats and changes nothing it was given. -/
theorem frame_kernel : Cert.quiescent_Kernel3 := fun m g _ => Cert.Kernel3.Gen.frame m g

/-- The kernel runs on the extended reals and changes nothing it was given. -/
theorem frame_ideal : Cert.quiescent_Kernel3Ideal := fun m g _ => Cert.Kernel3Ideal.Gen.frame m g

/-- The reference runs on the extended reals and changes nothing it was given. -/
theorem frame_reference : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- On the extended reals the kernel and its reference leave the same array. -/
theorem algebraic : Cert.algebraic_Kernel3Ideal_Reference3Ideal := by
  intro m g m' g' _ hagree
  refine ⟨fun c => result (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)), ?_, ?_⟩
  · refine (θ_run Cert.Kernel3Ideal.defs _ _).mono (fun r h c => ⟨(h c).1.trans (final m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    refine (reference_eq m' c).trans ?_
    rw [(hagree c).1, (hagree c).2.1, (hagree c).2.2]

end Cert.InProj

end
-- ==== Proof.FfnEntry.lean ====
/-
  The gated merge and the feed-forward part, row by row: the mathematics both programs compute, on one row of every array.
-/
module

public import Idealize.ShloMosaic.PureOps.Ideal

@[expose] public section

noncomputable section

open Idealize.ShloMosaic

namespace Cert.Ffn

/-- The three branches, each projected and gated, added up. -/
def merged (ga gb gc : Fin 1024 → EReal) (a b c : Fin 512 → EReal) (wa wb wc : Fin 512 → Fin 1024 → EReal) (k : Fin 1024) : EReal :=
  Ideal.logistic (ga k) * (∑ j, a j * wa j k) + Ideal.logistic (gb k) * (∑ j, b j * wb j k)
    + Ideal.logistic (gc k) * (∑ j, c j * wc j k)

/-- The layer's input plus the merged branches through the output projection. -/
def residual (x y : Fin 1024 → EReal) (wo : Fin 1024 → Fin 1024 → EReal) (n : Fin 1024) : EReal :=
  x n + ∑ k, y k * wo k n

/-- A row divided by its root mean square, times the gain. -/
def normed (r g : Fin 1024 → EReal) (n : Fin 1024) : EReal :=
  r n * Ideal.rsqrt (Ideal.div (∑ l, r l * r l) (Ideal.ofBits FTy.f32 1149239296#32) + Ideal.ofBits FTy.f32 897988541#32) * g n

/-- The hidden layer at one of its columns, from the two weight columns. -/
def hidden (h u v : Fin 1024 → EReal) : EReal :=
  (∑ k, h k * u k) * Ideal.logistic (∑ k, h k * u k) * (∑ k, h k * v k)

/-- The result's row. -/
def row (x : Fin 1024 → EReal) (ga gb gc : Fin 1024 → EReal) (a b c : Fin 512 → EReal) (wa wb wc : Fin 512 → Fin 1024 → EReal)
    (wo : Fin 1024 → Fin 1024 → EReal) (g : Fin 1024 → EReal) (w1 w3 : Fin 1024 → Fin 2816 → EReal) (w2 : Fin 2816 → Fin 1024 → EReal)
    (n : Fin 1024) : EReal :=
  residual x (merged ga gb gc a b c wa wb wc) wo n
    + ∑ f, hidden (normed (residual x (merged ga gb gc a b c wa wb wc) wo) g) (fun k => w1 k f) (fun k => w3 k f) * w2 f n

end Cert.Ffn

end
-- ==== Proof.FfnBlock.lean ====
/-
  The gated merge and the feed-forward part: what one grid point computes from its blocks.  The hidden layer is written to a
  scratch array in four column tiles and read back whole.
-/
module

public import proofs.«01_k».proof.Proof.FfnEntry
public import proofs.«01_k».proof.Proof.Mat
public import proofs.«01_k».proof.Proof.Gen.Kernel2Ideal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

/-- The residual stream a point computes. -/
def streamBlock (x0 : Vec Ideal S512x1024 .f32) (x1 x2 x3 : Vec Ideal S512x512 .bf16) (x4 x5 x6 : Vec Ideal S512x1024 .bf16)
    (x7 x8 x9 : Vec Ideal S512x1024 .bf16) (x10 : Vec Ideal S1024x1024 .bf16) : FVec Ideal S512x1024 .f32 :=
  k0_pay1 x4 x1 x7 x5 x2 x8 x6 x3 x9 x0 x10

/-- The four column tiles of the hidden layer, last one first. -/
def pieces (R : FVec Ideal S512x1024 .f32) (x11 : Vec Ideal S1x1024 .f32) (x12 x13 : Vec Ideal S1024x2816 .bf16) :
    List (View.Piece (Elt Ideal) S512x2816 .bf16) :=
  [⟨Rect.unit ![0, 2304] ![512, 512] inb_S512x2816_S512x512_0_2304,
      k0_pay7 (k0_pay2 R x11) (View.ld x12 (Rect.unit ![0, 2304] ![1024, 512] inb_S1024x2816_S1024x512_0_2304))
        (View.ld x13 (Rect.unit ![0, 2304] ![1024, 512] inb_S1024x2816_S1024x512_0_2304))⟩,
    ⟨Rect.unit ![0, 1536] ![512, 768] inb_S512x2816_S512x768_0_1536,
      k0_pay6 (k0_pay2 R x11) (View.ld x12 (Rect.unit ![0, 1536] ![1024, 768] inb_S1024x2816_S1024x768_0_1536))
        (View.ld x13 (Rect.unit ![0, 1536] ![1024, 768] inb_S1024x2816_S1024x768_0_1536))⟩,
    ⟨Rect.unit ![0, 768] ![512, 768] inb_S512x2816_S512x768_0_768,
      k0_pay5 (k0_pay4 R x11 (View.ld x12 (Rect.unit ![0, 768] ![1024, 768] inb_S1024x2816_S1024x768_0_768))
        (View.ld x13 (Rect.unit ![0, 768] ![1024, 768] inb_S1024x2816_S1024x768_0_768)))⟩,
    ⟨Rect.unit ![0, 0] ![512, 768] inb_S512x2816_S512x768_0_0,
      k0_pay3 R x11 (View.ld x12 (Rect.unit ![0, 0] ![1024, 768] inb_S1024x2816_S1024x768_0_0))
        (View.ld x13 (Rect.unit ![0, 0] ![1024, 768] inb_S1024x2816_S1024x768_0_0))⟩]

/-- The hidden layer as it is read back from the scratch array. -/
def hiddenBlock (R : FVec Ideal S512x1024 .f32) (x11 : Vec Ideal S1x1024 .f32) (x12 x13 : Vec Ideal S1024x2816 .bf16) : Vec Ideal S512x2816 .bf16 :=
  (View.whole cc0_scratch0).readCov (s := S512x2816) (pieces R x11 x12 x13)
    (Rect.unit (s := S512x2816) ![0, 0] ![512, 2816] inb_S512x2816_S512x2816_0_0).toLoadRect

/-- The block a point leaves from its residual stream. -/
def lastBlock (R : FVec Ideal S512x1024 .f32) (x11 : Vec Ideal S1x1024 .f32) (x12 x13 : Vec Ideal S1024x2816 .bf16)
    (x14 : Vec Ideal S2816x1024 .bf16) : FVec Ideal S512x1024 .f32 :=
  k0_pay8 R (hiddenBlock R x11 x12 x13) x14

/-- The first tile's computation is the third one's. -/
theorem pay3_eq (R : FVec Ideal S512x1024 .f32) (x11 : Vec Ideal S1x1024 .f32) (u v : Vec Ideal S1024x768 .bf16) :
    k0_pay3 R x11 u v = k0_pay6 (k0_pay2 R x11) u v := rfl

/-- The second tile's computation is the third one's. -/
theorem pay5_eq (R : FVec Ideal S512x1024 .f32) (x11 : Vec Ideal S1x1024 .f32) (u v : Vec Ideal S1024x768 .bf16) :
    k0_pay5 (k0_pay4 R x11 u v) = k0_pay6 (k0_pay2 R x11) u v := rfl

section
variable (m : (ℓ : Loc nD τ sig) → Buf (Elt Ideal) ℓ)

/-- What a point leaves in its block of the result. -/
theorem after_eq (c : Dev nD) (t : Fin cfg0.N) : (dats m 0 c).after 15 t
    = lastBlock (streamBlock (iblk m c 0 t) (iblk m c 1 t) (iblk m c 2 t) (iblk m c 3 t) (X0_4 m c t) (X0_5 m c t) (X0_6 m c t)
        (iblk m c 7 t) (iblk m c 8 t) (iblk m c 9 t) (iblk m c 10 t)) (iblk m c 11 t) (iblk m c 12 t) (iblk m c 13 t) (iblk m c 14 t) := by
  rw [after0_15]
  unfold outsAt0
  frame_out
  rfl

end

/-- The residual stream at a row and a column. -/
theorem streamBlock_at (x0 : Vec Ideal S512x1024 .f32) (x1 x2 x3 : Vec Ideal S512x512 .bf16) (x4 x5 x6 : Vec Ideal S512x1024 .bf16)
    (x7 x8 x9 : Vec Ideal S512x1024 .bf16) (x10 : Vec Ideal S1024x1024 .bf16) (p : Fin 512) (n : Fin 1024) :
    streamBlock x0 x1 x2 x3 x4 x5 x6 x7 x8 x9 x10 (ix2 p n)
      = residual (fun k => x0 (ix2 p k))
          (merged (fun k => x4 (ix2 p k)) (fun k => x5 (ix2 p k)) (fun k => x6 (ix2 p k))
            (fun j => x1 (ix2 p j)) (fun j => x2 (ix2 p j)) (fun j => x3 (ix2 p j))
            (fun j k => x7 (ix2 j k)) (fun j k => x8 (ix2 j k)) (fun j k => x9 (ix2 j k))) (fun k n => x10 (ix2 k n)) n := by
  unfold residual merged
  pointwise [streamBlock, k0_pay1]

/-- The normalised rows at a row and a column. -/
theorem normed_at (R : FVec Ideal S512x1024 .f32) (x11 : Vec Ideal S1x1024 .f32) (p : Fin 512) (n : Fin 1024) :
    k0_pay2 R x11 (ix2 p n) = normed (fun k => R (ix2 p k)) (fun k => x11 (ix2 0 k)) n := by
  unfold normed
  pointwise [k0_pay2]

/-- A hidden tile of 768 columns at a row and a column. -/
theorem tile768_at (h : FVec Ideal S512x1024 .bf16) (u v : Vec Ideal S1024x768 .bf16) (p : Fin 512) (f : Fin 768) :
    k0_pay6 h u v (ix2 p f) = hidden (fun k => h (ix2 p k)) (fun k => u (ix2 k f)) (fun k => v (ix2 k f)) := by
  unfold hidden
  pointwise [k0_pay6]

/-- The hidden tile of 512 columns at a row and a column. -/
theorem tile512_at (h : FVec Ideal S512x1024 .bf16) (u v : Vec Ideal S1024x512 .bf16) (p : Fin 512) (f : Fin 512) :
    k0_pay7 h u v (ix2 p f) = hidden (fun k => h (ix2 p k)) (fun k => u (ix2 k f)) (fun k => v (ix2 k f)) := by
  unfold hidden
  pointwise [k0_pay7]

/-- The last sum at a row and a column. -/
theorem pay8_at (R : FVec Ideal S512x1024 .f32) (H : Vec Ideal S512x2816 .bf16) (x14 : Vec Ideal S2816x1024 .bf16) (p : Fin 512) (n : Fin 1024) :
    k0_pay8 R H x14 (ix2 p n) = R (ix2 p n) + ∑ f : Fin 2816, H (ix2 p f) * x14 (ix2 f n) := by
  pointwise [k0_pay8]

/-- The four tiles cover the scratch array. -/
theorem pieces_cover (R : FVec Ideal S512x1024 .f32) (x11 : Vec Ideal S1x1024 .f32) (x12 x13 : Vec Ideal S1024x2816 .bf16) (p : Fin 512) (f : Fin 2816) :
    ∃ q ∈ pieces R x11 x12 x13, (ix2 p f : S512x2816.Idx) ∈ q.1.set := by
  have hp := p.isLt
  have hf := f.isLt
  unfold pieces
  by_cases h1 : (f : ℕ) < 768
  · refine ⟨_, List.mem_cons_of_mem _ (List.mem_cons_of_mem _ (List.mem_cons_of_mem _ List.mem_cons_self)), ?_⟩
    show (ix2 p f : S512x2816.Idx) ∈ (Rect.unit (s := S512x2816) ![0, 0] ![512, 768] inb_S512x2816_S512x768_0_0).set
    refine Rect.mem_set_unit.mpr fun a => ?_
    fin_cases a
    · exact ⟨Nat.zero_le _, by show (p : ℕ) < 0 + 512; omega⟩
    · exact ⟨Nat.zero_le _, by show (f : ℕ) < 0 + 768; omega⟩
  by_cases h2 : (f : ℕ) < 1536
  · refine ⟨_, List.mem_cons_of_mem _ (List.mem_cons_of_mem _ List.mem_cons_self), ?_⟩
    show (ix2 p f : S512x2816.Idx) ∈ (Rect.unit (s := S512x2816) ![0, 768] ![512, 768] inb_S512x2816_S512x768_0_768).set
    refine Rect.mem_set_unit.mpr fun a => ?_
    fin_cases a
    · exact ⟨Nat.zero_le _, by show (p : ℕ) < 0 + 512; omega⟩
    · exact ⟨by show 768 ≤ (f : ℕ); omega, by show (f : ℕ) < 768 + 768; omega⟩
  by_cases h3 : (f : ℕ) < 2304
  · refine ⟨_, List.mem_cons_of_mem _ List.mem_cons_self, ?_⟩
    show (ix2 p f : S512x2816.Idx) ∈ (Rect.unit (s := S512x2816) ![0, 1536] ![512, 768] inb_S512x2816_S512x768_0_1536).set
    refine Rect.mem_set_unit.mpr fun a => ?_
    fin_cases a
    · exact ⟨Nat.zero_le _, by show (p : ℕ) < 0 + 512; omega⟩
    · exact ⟨by show 1536 ≤ (f : ℕ); omega, by show (f : ℕ) < 1536 + 768; omega⟩
  · refine ⟨_, List.mem_cons_self, ?_⟩
    show (ix2 p f : S512x2816.Idx) ∈ (Rect.unit (s := S512x2816) ![0, 2304] ![512, 512] inb_S512x2816_S512x512_0_2304).set
    refine Rect.mem_set_unit.mpr fun a => ?_
    fin_cases a
    · exact ⟨Nat.zero_le _, by show (p : ℕ) < 0 + 512; omega⟩
    · exact ⟨by show 2304 ≤ (f : ℕ); omega, by show (f : ℕ) < 2304 + 512; omega⟩

/-- A tile of 768 hidden columns is the hidden layer at the tile's place. -/
theorem tile768_eq (h : FVec Ideal S512x1024 .bf16) (x12 x13 : Vec Ideal S1024x2816 .bf16) (o : ℕ)
    (inb : ∀ i, (![0, o] : Fin 2 → ℕ) i + (![1024, 768] : Fin 2 → ℕ) i ≤ S1024x2816.size i)
    (x : S512x768.Idx) (p : Fin 512) (f : Fin 2816) (h0 : (p : ℕ) = x 0) (h1 : (f : ℕ) = o + x 1) :
    k0_pay6 h (View.ld x12 (Rect.unit (s := S1024x2816) ![0, o] ![1024, 768] inb)) (View.ld x13 (Rect.unit (s := S1024x2816) ![0, o] ![1024, 768] inb)) x
      = hidden (fun k => h (ix2 p k)) (fun k => x12 (ix2 k f)) (fun k => x13 (ix2 k f)) := by
  obtain ⟨p', f', rfl⟩ : ∃ (p' : Fin 512) (f' : Fin 768), x = ix2 p' f' := ⟨x 0, x 1, eq_ix2 x⟩
  obtain rfl : p = p' := Fin.ext h0
  refine (tile768_at _ _ _ _ _).trans ?_
  have r : ∀ (X : Vec Ideal S1024x2816 .bf16) (k : Fin 1024),
      View.ld X (Rect.unit (s := S1024x2816) ![0, o] ![1024, 768] inb) (ix2 k f') = X (ix2 k f) := fun X k =>
    Mat.ld_at X 0 o inb k f' k f (by omega) h1
  exact congrArg₂ (hidden _) (funext fun k => r x12 k) (funext fun k => r x13 k)

/-- The tile of 512 hidden columns is the hidden layer at the tile's place. -/
theorem tile512_eq (h : FVec Ideal S512x1024 .bf16) (x12 x13 : Vec Ideal S1024x2816 .bf16) (o : ℕ)
    (inb : ∀ i, (![0, o] : Fin 2 → ℕ) i + (![1024, 512] : Fin 2 → ℕ) i ≤ S1024x2816.size i)
    (x : S512x512.Idx) (p : Fin 512) (f : Fin 2816) (h0 : (p : ℕ) = x 0) (h1 : (f : ℕ) = o + x 1) :
    k0_pay7 h (View.ld x12 (Rect.unit (s := S1024x2816) ![0, o] ![1024, 512] inb)) (View.ld x13 (Rect.unit (s := S1024x2816) ![0, o] ![1024, 512] inb)) x
      = hidden (fun k => h (ix2 p k)) (fun k => x12 (ix2 k f)) (fun k => x13 (ix2 k f)) := by
  obtain ⟨p', f', rfl⟩ : ∃ (p' : Fin 512) (f' : Fin 512), x = ix2 p' f' := ⟨x 0, x 1, eq_ix2 x⟩
  obtain rfl : p = p' := Fin.ext h0
  refine (tile512_at _ _ _ _ _).trans ?_
  have r : ∀ (X : Vec Ideal S1024x2816 .bf16) (k : Fin 1024),
      View.ld X (Rect.unit (s := S1024x2816) ![0, o] ![1024, 512] inb) (ix2 k f') = X (ix2 k f) := fun X k =>
    Mat.ld_at X 0 o inb k f' k f (by omega) h1
  exact congrArg₂ (hidden _) (funext fun k => r x12 k) (funext fun k => r x13 k)

/-- The hidden layer read back at a row and a column. -/
theorem hiddenBlock_at (R : FVec Ideal S512x1024 .f32) (x11 : Vec Ideal S1x1024 .f32) (x12 x13 : Vec Ideal S1024x2816 .bf16) (p : Fin 512) (f : Fin 2816) :
    hiddenBlock R x11 x12 x13 (ix2 p f) = hidden (fun k => k0_pay2 R x11 (ix2 p k)) (fun k => x12 (ix2 k f)) (fun k => x13 (ix2 k f)) := by
  have hi : (Rect.unit (s := S512x2816) ![0, 0] ![512, 2816] inb_S512x2816_S512x2816_0_0).toLoadRect.idx (ix2 p f) = (ix2 p f : S512x2816.Idx) := by
    funext a
    fin_cases a
    · exact Fin.ext (by show 0 + 1 * (p : ℕ) = p; omega)
    · exact Fin.ext (by show 0 + 1 * (f : ℕ) = f; omega)
  unfold hiddenBlock
  rw [View.readCov_eq_canon']
  refine (congrArg (View.canon (pieces R x11 x12 x13)) hi).trans ?_
  refine View.canon_eq_of_allAt _ _ _ (pieces_cover R x11 x12 x13 p f) ?_
  unfold pieces
  rw [pay5_eq, pay3_eq]
  refine View.allAt_cons_unit _ _ _ _ _ (fun x hx => tile512_eq _ x12 x13 2304 _ x p f ((hx 0).trans (Nat.zero_add _)) (hx 1)) ?_
  refine View.allAt_cons_unit _ _ _ _ _ (fun x hx => tile768_eq _ x12 x13 1536 _ x p f ((hx 0).trans (Nat.zero_add _)) (hx 1)) ?_
  refine View.allAt_cons_unit _ _ _ _ _ (fun x hx => tile768_eq _ x12 x13 768 _ x p f ((hx 0).trans (Nat.zero_add _)) (hx 1)) ?_
  refine View.allAt_cons_unit _ _ _ _ _ (fun x hx => tile768_eq _ x12 x13 0 _ x p f ((hx 0).trans (Nat.zero_add _)) (hx 1)) ?_
  exact View.allAt_nil _ _

/-- The block a point leaves, at a row and a column. -/
theorem lastBlock_at (R : FVec Ideal S512x1024 .f32) (x11 : Vec Ideal S1x1024 .f32) (x12 x13 : Vec Ideal S1024x2816 .bf16)
    (x14 : Vec Ideal S2816x1024 .bf16) (p : Fin 512) (n : Fin 1024) :
    lastBlock R x11 x12 x13 x14 (ix2 p n)
      = R (ix2 p n) + ∑ f : Fin 2816, hidden (normed (fun k => R (ix2 p k)) (fun k => x11 (ix2 0 k))) (fun k => x12 (ix2 k f)) (fun k => x13 (ix2 k f))
          * x14 (ix2 f n) := by
  unfold lastBlock
  rw [pay8_at]
  simp only [hiddenBlock_at, normed_at]

end Cert.Ffn

end
-- ==== Proof.FfnReference.lean ====
/-
  The gated merge and the feed-forward part: what the reference computes, entry by entry.
-/
module

public import proofs.«01_k».proof.Proof.FfnEntry
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Ffn

open Cert.Reference2Ideal Cert.Reference2Ideal.Gen

/-- The three gates of every row. -/
def gates (P : FVec Ideal S16384x6912 .bf16) : FVec Ideal S16384x3x1024 .f32 :=
  shapeCast _ (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extf .f32 (extractStridedSlice S16384x3072 ![0, 0] P slices_S16384x6912_S16384x3072_0_0) bitsLt_bf16_f32))))) shapeCasts_S16384x3072_S16384x3x1024

/-- The first gate at a row and a column. -/
def gate0 (P : FVec Ideal S16384x6912 .bf16) : FVec Ideal S16384x1024 .f32 :=
  shapeCast _ (extractStridedSlice S16384x1x1024 ![0, 0, 0] (gates P) slices_S16384x3x1024_S16384x1x1024_0_0_0) shapeCasts_S16384x1x1024_S16384x1024

/-- The second gate at a row and a column. -/
def gate1 (P : FVec Ideal S16384x6912 .bf16) : FVec Ideal S16384x1024 .f32 :=
  shapeCast _ (extractStridedSlice S16384x1x1024 ![0, 1, 0] (gates P) slices_S16384x3x1024_S16384x1x1024_0_1_0) shapeCasts_S16384x1x1024_S16384x1024

/-- The third gate at a row and a column. -/
def gate2 (P : FVec Ideal S16384x6912 .bf16) : FVec Ideal S16384x1024 .f32 :=
  shapeCast _ (extractStridedSlice S16384x1x1024 ![0, 2, 0] (gates P) slices_S16384x3x1024_S16384x1x1024_0_2_0) shapeCasts_S16384x1x1024_S16384x1024

/-- A branch's output through its projection. -/
def branch (O : FVec Ideal S16384x512 .bf16) (W : FVec Ideal S512x1024 .f32) : FVec Ideal S16384x1024 .f32 :=
  Host.dotGeneral dot_S16384x512_S512x1024_S16384x1024_1_0_0_1_n_n none (extf .f32 O bitsLt_bf16_f32) W

/-- The merged branches from the gates. -/
def merge (g0 g1 g2 b0 b1 b2 : FVec Ideal S16384x1024 .f32) : FVec Ideal S16384x1024 .f32 :=
  addf (addf (mulf g0 b0) (mulf g1 b1)) (mulf g2 b2)

/-- The residual stream after the merge. -/
def stream (X : FVec Ideal S8x2048x1024 .f32) (Y : FVec Ideal S16384x1024 .f32) (WO : FVec Ideal S1024x1024 .f32) : FVec Ideal S16384x1024 .f32 :=
  addf (shapeCast _ X shapeCasts_S8x2048x1024_S16384x1024) (Host.dotGeneral dot_S16384x1024_S1024x1024_S16384x1024_1_0_0_1_n_n none Y WO)

/-- The normalised rows. -/
def normedRows (R : FVec Ideal S16384x1024 .f32) (g : FVec Ideal S1024 .f32) : FVec Ideal S16384x1024 .f32 :=
  mulf (mulf R (broadcastInDim S16384x1024 ![0, 1] bcast_S16384x1_S16384x1024_0_1 (Host.rsqrt (addf (Host.divf (broadcastInDim S16384x1 ![0] bcast_S16384_S16384x1_0 (Host.reduceAdd (mulf R R) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The normalised rows through one of the two hidden weight matrices. -/
def wide (H : FVec Ideal S16384x1024 .f32) (W : FVec Ideal S1024x2816 .f32) : FVec Ideal S16384x2816 .f32 :=
  Host.dotGeneral dot_S16384x1024_S1024x2816_S16384x2816_1_0_0_1_n_n none H W

/-- The hidden layer from the two products. -/
def hiddenRows (U V : FVec Ideal S16384x2816 .f32) : FVec Ideal S16384x2816 .f32 :=
  mulf (mulf U (Host.divf (broadcastInDim S16384x2816 ![] bcast_S_S16384x2816 (constant S_ .f32 0x3F800000#32)) (addf (broadcastInDim S16384x2816 ![] bcast_S_S16384x2816 (constant S_ .f32 0x3F800000#32)) (Host.exp (Host.negf U))))) V

/-- The residual stream plus the hidden layer through the last weights. -/
def last (R : FVec Ideal S16384x1024 .f32) (H : FVec Ideal S16384x2816 .f32) (W2 : FVec Ideal S2816x1024 .f32) : FVec Ideal S16384x1024 .f32 :=
  addf R (Host.dotGeneral dot_S16384x2816_S2816x1024_S16384x1024_1_0_0_1_n_n none H W2)

/-- The residual stream of the arguments. -/
def streamOf (X : FVec Ideal S8x2048x1024 .f32) (A B C : FVec Ideal S16384x512 .bf16) (P : FVec Ideal S16384x6912 .bf16)
    (WA WB WC : FVec Ideal S512x1024 .f32) (WO : FVec Ideal S1024x1024 .f32) : FVec Ideal S16384x1024 .f32 :=
  stream X (merge (gate0 P) (gate1 P) (gate2 P) (branch A WA) (branch B WB) (branch C WC)) WO

/-- The reference's result as a function of its arguments. -/
def result (X : FVec Ideal S8x2048x1024 .f32) (A B C : FVec Ideal S16384x512 .bf16) (P : FVec Ideal S16384x6912 .bf16)
    (WA WB WC : FVec Ideal S512x1024 .f32) (WO : FVec Ideal S1024x1024 .f32) (g : FVec Ideal S1024 .f32)
    (W1 W3 : FVec Ideal S1024x2816 .f32) (W2 : FVec Ideal S2816x1024 .f32) : FVec Ideal S16384x1024 .f32 :=
  last (streamOf X A B C P WA WB WC WO)
    (hiddenRows (wide (normedRows (streamOf X A B C P WA WB WC WO) g) W1) (wide (normedRows (streamOf X A B C P WA WB WC WO) g) W3)) W2

/-- The reference's run leaves that function of the arguments. -/
theorem reference_eq (m : (ℓ : Loc nD τ sig) → Buf (Elt Ideal) ℓ) (c : Dev nD) :
    Cert.Reference2Ideal.Value.res_main_v47 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := rfl

/-! ## The reference, entry by entry -/

/-- A gate: the logistic function of the projection's column in the gate's stretch. -/
theorem gates_at (P : FVec Ideal S16384x6912 .bf16) (r : Fin 16384) (i : Fin 3) (k : Fin 1024) :
    gates P (ix3 r i k) = Ideal.logistic (P (ix2 r ⟨i * 1024 + k, by omega⟩)) := by
  pointwise [gates]
  rfl

/-- The first gate. -/
theorem gate0_at (P : FVec Ideal S16384x6912 .bf16) (r : Fin 16384) (k : Fin 1024) :
    gate0 P (ix2 r k) = gates P (ix3 r 0 k) := by
  pointwise [gate0]

/-- The second gate. -/
theorem gate1_at (P : FVec Ideal S16384x6912 .bf16) (r : Fin 16384) (k : Fin 1024) :
    gate1 P (ix2 r k) = gates P (ix3 r 1 k) := by
  pointwise [gate1]

/-- The third gate. -/
theorem gate2_at (P : FVec Ideal S16384x6912 .bf16) (r : Fin 16384) (k : Fin 1024) :
    gate2 P (ix2 r k) = gates P (ix3 r 2 k) := by
  pointwise [gate2]

/-- A branch at a row and a column. -/
theorem branch_at (O : FVec Ideal S16384x512 .bf16) (W : FVec Ideal S512x1024 .f32) (r : Fin 16384) (k : Fin 1024) :
    branch O W (ix2 r k) = ∑ j : Fin 512, O (ix2 r j) * W (ix2 j k) := by
  pointwise [branch]

/-- The residual stream at a row and a column. -/
theorem stream_at (X : FVec Ideal S8x2048x1024 .f32) (Y : FVec Ideal S16384x1024 .f32) (WO : FVec Ideal S1024x1024 .f32) (r : Fin 16384) (n : Fin 1024) :
    stream X Y WO (ix2 r n)
      = residual (fun k => X (ix3 ⟨r / 2048, by omega⟩ ⟨r % 2048, by omega⟩ k)) (fun k => Y (ix2 r k)) (fun k n => WO (ix2 k n)) n := by
  unfold residual
  pointwise [stream]

/-- The normalised rows at a row and a column. -/
theorem normedRows_at (R : FVec Ideal S16384x1024 .f32) (g : FVec Ideal S1024 .f32) (r : Fin 16384) (n : Fin 1024) :
    normedRows R g (ix2 r n) = normed (fun k => R (ix2 r k)) (fun k => g (ix1 k)) n := by
  unfold normed
  pointwise [normedRows]

/-- A hidden product at a row and a column. -/
theorem wide_at (H : FVec Ideal S16384x1024 .f32) (W : FVec Ideal S1024x2816 .f32) (r : Fin 16384) (f : Fin 2816) :
    wide H W (ix2 r f) = ∑ k : Fin 1024, H (ix2 r k) * W (ix2 k f) := by
  pointwise [wide]

/-- The hidden layer at a row and a column. -/
theorem hiddenRows_at (U V : FVec Ideal S16384x2816 .f32) (r : Fin 16384) (f : Fin 2816) :
    hiddenRows U V (ix2 r f) = U (ix2 r f) * Ideal.logistic (U (ix2 r f)) * V (ix2 r f) := by
  pointwise [hiddenRows]
  rfl

/-- The last sum at a row and a column. -/
theorem last_at (R : FVec Ideal S16384x1024 .f32) (H : FVec Ideal S16384x2816 .f32) (W2 : FVec Ideal S2816x1024 .f32) (r : Fin 16384) (n : Fin 1024) :
    last R H W2 (ix2 r n) = R (ix2 r n) + ∑ f : Fin 2816, H (ix2 r f) * W2 (ix2 f n) := by
  pointwise [last]

/-- The residual stream of the arguments at a row and a column. -/
theorem streamOf_at (X : FVec Ideal S8x2048x1024 .f32) (A B C : FVec Ideal S16384x512 .bf16) (P : FVec Ideal S16384x6912 .bf16)
    (WA WB WC : FVec Ideal S512x1024 .f32) (WO : FVec Ideal S1024x1024 .f32) (r : Fin 16384) (n : Fin 1024) :
    streamOf X A B C P WA WB WC WO (ix2 r n)
      = residual (fun k => X (ix3 ⟨r / 2048, by omega⟩ ⟨r % 2048, by omega⟩ k))
          (merged (fun k => P (ix2 r ⟨k, by omega⟩)) (fun k => P (ix2 r ⟨1024 + k, by omega⟩)) (fun k => P (ix2 r ⟨2048 + k, by omega⟩))
            (fun j => A (ix2 r j)) (fun j => B (ix2 r j)) (fun j => C (ix2 r j))
            (fun j k => WA (ix2 j k)) (fun j k => WB (ix2 j k)) (fun j k => WC (ix2 j k))) (fun k n => WO (ix2 k n)) n := by
  unfold streamOf
  rw [stream_at]
  refine congrArg (fun y => residual _ y _ n) (funext fun k => ?_)
  unfold merged merge
  show gate0 P (ix2 r k) * branch A WA (ix2 r k) + gate1 P (ix2 r k) * branch B WB (ix2 r k) + gate2 P (ix2 r k) * branch C WC (ix2 r k) = _
  rw [gate0_at, gate1_at, gate2_at, gates_at, gates_at, gates_at, branch_at, branch_at, branch_at]
  have e0 : (⟨((0 : Fin 3) : ℕ) * 1024 + k, by omega⟩ : Fin 6912) = ⟨k, by omega⟩ := Fin.ext (by simp)
  have e1 : (⟨((1 : Fin 3) : ℕ) * 1024 + k, by omega⟩ : Fin 6912) = ⟨1024 + k, by omega⟩ := Fin.ext (by simp)
  have e2 : (⟨((2 : Fin 3) : ℕ) * 1024 + k, by omega⟩ : Fin 6912) = ⟨2048 + k, by omega⟩ := Fin.ext (by simp)
  rw [e0, e1, e2]

/-- The reference's result at a row and a column. -/
theorem result_at (X : FVec Ideal S8x2048x1024 .f32) (A B C : FVec Ideal S16384x512 .bf16) (P : FVec Ideal S16384x6912 .bf16)
    (WA WB WC : FVec Ideal S512x1024 .f32) (WO : FVec Ideal S1024x1024 .f32) (g : FVec Ideal S1024 .f32)
    (W1 W3 : FVec Ideal S1024x2816 .f32) (W2 : FVec Ideal S2816x1024 .f32) (r : Fin 16384) (n : Fin 1024) :
    result X A B C P WA WB WC WO g W1 W3 W2 (ix2 r n)
      = row (fun k => X (ix3 ⟨r / 2048, by omega⟩ ⟨r % 2048, by omega⟩ k))
          (fun k => P (ix2 r ⟨k, by omega⟩)) (fun k => P (ix2 r ⟨1024 + k, by omega⟩)) (fun k => P (ix2 r ⟨2048 + k, by omega⟩))
          (fun j => A (ix2 r j)) (fun j => B (ix2 r j)) (fun j => C (ix2 r j))
          (fun j k => WA (ix2 j k)) (fun j k => WB (ix2 j k)) (fun j k => WC (ix2 j k)) (fun k n => WO (ix2 k n))
          (fun k => g (ix1 k)) (fun k f => W1 (ix2 k f)) (fun k f => W3 (ix2 k f)) (fun f n => W2 (ix2 f n)) n := by
  unfold result row
  rw [last_at, streamOf_at]
  congr 1
  refine Finset.sum_congr rfl fun f _ => ?_
  congr 1
  rw [hiddenRows_at, wide_at, wide_at]
  unfold hidden
  simp only [normedRows_at, streamOf_at]

end Cert.Ffn

end
-- ==== Proof.FfnKernel.lean ====
/-
  The gated merge and the feed-forward part: the array the kernel leaves.  The 32 grid points read 512 rows each of the layer's
  input, of the three attention outputs and of the three gates, and the whole weights, and write 512 rows of the result.
-/
module

public import proofs.«01_k».proof.Proof.FfnBlock
public import proofs.«01_k».proof.Proof.FfnReference

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- Where each window's block begins at each point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1] ∧ win0_6.index t = ![t.val, 2]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, _)

/-- The merged rows at a row: its batch and its position. -/
theorem rows_merged (X : FVec Ideal S8x2048x1024 .f32) (r : Fin 16384) (k : Fin 1024) :
    (shapeCast S16384x1024 X shapeCasts_S8x2048x1024_S16384x1024 : FVec Ideal S16384x1024 .f32) (ix2 r k)
      = X (ix3 ⟨r / 2048, by omega⟩ ⟨r % 2048, by omega⟩ k) := by
  pointwise

/-- A point's rows of the layer's input. -/
theorem in0_at (c : Dev nD) (t : Fin cfg0.N) (p : Fin 512) (k : Fin 1024) (r : Fin 16384) (hr : (r : ℕ) = t.val * 512 + p) :
    (iblk m c 0 t : Vec Ideal S512x1024 .f32) (ix2 p k)
      = (m ((c : Thread nD τ).loc main_arg0) : FVec Ideal S8x2048x1024 .f32) (ix3 ⟨r / 2048, by omega⟩ ⟨r % 2048, by omega⟩ k) := by
  have he : ((cfg0.win 0).blk t).view.emb (ix2 p k) = (ix2 r k : S16384x1024.Idx) := by blk_ext [idx t]
  show (shapeCast S16384x1024 (m ((c : Thread nD τ).loc main_arg0) : FVec Ideal S8x2048x1024 .f32) shapeCasts_S8x2048x1024_S16384x1024)
    (((cfg0.win 0).blk t).view.emb (ix2 p k)) = _
  rw [he]
  exact rows_merged _ r k

/-- A point's rows of the first attention output. -/
theorem in1_at (c : Dev nD) (t : Fin cfg0.N) (p : Fin 512) (k : Fin 512) (r : Fin 16384) (hr : (r : ℕ) = t.val * 512 + p) :
    (iblk m c 1 t : Vec Ideal S512x512 .bf16) (ix2 p k) = (m ((c : Thread nD τ).loc main_arg1) : FVec Ideal S16384x512 .bf16) (ix2 r k) := by
  have he : ((cfg0.win 1).blk t).view.emb (ix2 p k) = (ix2 r k : S16384x512.Idx) := by blk_ext [idx t]
  show (m ((c : Thread nD τ).loc main_arg1) : FVec Ideal S16384x512 .bf16) (((cfg0.win 1).blk t).view.emb (ix2 p k)) = _
  rw [he]

/-- A point's rows of the second attention output. -/
theorem in2_at (c : Dev nD) (t : Fin cfg0.N) (p : Fin 512) (k : Fin 512) (r : Fin 16384) (hr : (r : ℕ) = t.val * 512 + p) :
    (iblk m c 2 t : Vec Ideal S512x512 .bf16) (ix2 p k) = (m ((c : Thread nD τ).loc main_arg2) : FVec Ideal S16384x512 .bf16) (ix2 r k) := by
  have he : ((cfg0.win 2).blk t).view.emb (ix2 p k) = (ix2 r k : S16384x512.Idx) := by blk_ext [idx t]
  show (m ((c : Thread nD τ).loc main_arg2) : FVec Ideal S16384x512 .bf16) (((cfg0.win 2).blk t).view.emb (ix2 p k)) = _
  rw [he]

/-- A point's rows of the third attention output. -/
theorem in3_at (c : Dev nD) (t : Fin cfg0.N) (p : Fin 512) (k : Fin 512) (r : Fin 16384) (hr : (r : ℕ) = t.val * 512 + p) :
    (iblk m c 3 t : Vec Ideal S512x512 .bf16) (ix2 p k) = (m ((c : Thread nD τ).loc main_arg3) : FVec Ideal S16384x512 .bf16) (ix2 r k) := by
  have he : ((cfg0.win 3).blk t).view.emb (ix2 p k) = (ix2 r k : S16384x512.Idx) := by blk_ext [idx t]
  show (m ((c : Thread nD τ).loc main_arg3) : FVec Ideal S16384x512 .bf16) (((cfg0.win 3).blk t).view.emb (ix2 p k)) = _
  rw [he]

/-- A point's rows of the first gate, before the logistic function. -/
theorem in4_at (c : Dev nD) (t : Fin cfg0.N) (p : Fin 512) (k : Fin 1024) (r : Fin 16384) (hr : (r : ℕ) = t.val * 512 + p) :
    (X0_4 m c t : Vec Ideal S512x1024 .bf16) (ix2 p k) = (m ((c : Thread nD τ).loc main_arg4) : FVec Ideal S16384x6912 .bf16) (ix2 r ⟨k, by omega⟩) := by
  unfold X0_4 Pipeline.Window.fill
  rw [dif_pos (moved0_4 t _)]
  have he : ∀ j : ((cfg0.win 4).xblock (cfg0.grid.coords t)).Idx, (j 0 : ℕ) = p → (j 1 : ℕ) = k →
      ((cfg0.win 4).blk t).view.emb j = (ix2 r ⟨k, by omega⟩ : S16384x6912.Idx) := by
    intro j h0 h1
    blk_ext [idx t, h0, h1]
  show (m ((c : Thread nD τ).loc main_arg4) : FVec Ideal S16384x6912 .bf16) (((cfg0.win 4).blk t).view.emb _) = _
  rw [he _ rfl rfl]

/-- A point's rows of the second gate, before the logistic function. -/
theorem in5_at (c : Dev nD) (t : Fin cfg0.N) (p : Fin 512) (k : Fin 1024) (r : Fin 16384) (hr : (r : ℕ) = t.val * 512 + p) :
    (X0_5 m c t : Vec Ideal S512x1024 .bf16) (ix2 p k) = (m ((c : Thread nD τ).loc main_arg4) : FVec Ideal S16384x6912 .bf16) (ix2 r ⟨1024 + k, by omega⟩) := by
  unfold X0_5 Pipeline.Window.fill
  rw [dif_pos (moved0_5 t _)]
  have he : ∀ j : ((cfg0.win 5).xblock (cfg0.grid.coords t)).Idx, (j 0 : ℕ) = p → (j 1 : ℕ) = k →
      ((cfg0.win 5).blk t).view.emb j = (ix2 r ⟨1024 + k, by omega⟩ : S16384x6912.Idx) := by
    intro j h0 h1
    blk_ext [idx t, h0, h1]
  show (m ((c : Thread nD τ).loc main_arg4) : FVec Ideal S16384x6912 .bf16) (((cfg0.win 5).blk t).view.emb _) = _
  rw [he _ rfl rfl]

/-- A point's rows of the third gate, before the logistic function. -/
theorem in6_at (c : Dev nD) (t : Fin cfg0.N) (p : Fin 512) (k : Fin 1024) (r : Fin 16384) (hr : (r : ℕ) = t.val * 512 + p) :
    (X0_6 m c t : Vec Ideal S512x1024 .bf16) (ix2 p k) = (m ((c : Thread nD τ).loc main_arg4) : FVec Ideal S16384x6912 .bf16) (ix2 r ⟨2048 + k, by omega⟩) := by
  unfold X0_6 Pipeline.Window.fill
  rw [dif_pos (moved0_6 t _)]
  have he : ∀ j : ((cfg0.win 6).xblock (cfg0.grid.coords t)).Idx, (j 0 : ℕ) = p → (j 1 : ℕ) = k →
      ((cfg0.win 6).blk t).view.emb j = (ix2 r ⟨2048 + k, by omega⟩ : S16384x6912.Idx) := by
    intro j h0 h1
    blk_ext [idx t, h0, h1]
  show (m ((c : Thread nD τ).loc main_arg4) : FVec Ideal S16384x6912 .bf16) (((cfg0.win 6).blk t).view.emb _) = _
  rw [he _ rfl rfl]

/-- Every point sees the whole first branch's projection. -/
theorem in7_at (c : Dev nD) (t : Fin cfg0.N) (j : Fin 512) (k : Fin 1024) :
    (iblk m c 7 t : Vec Ideal S512x1024 .bf16) (ix2 j k) = (m ((c : Thread nD τ).loc main_arg5) : FVec Ideal S512x1024 .f32) (ix2 j k) := by
  have he : ((cfg0.win 7).blk t).view.emb (ix2 j k) = (ix2 j k : S512x1024.Idx) := by blk_ext [idx t]
  show (m ((c : Thread nD τ).loc main_arg5) : FVec Ideal S512x1024 .f32) (((cfg0.win 7).blk t).view.emb (ix2 j k)) = _
  rw [he]

/-- Every point sees the whole second branch's projection. -/
theorem in8_at (c : Dev nD) (t : Fin cfg0.N) (j : Fin 512) (k : Fin 1024) :
    (iblk m c 8 t : Vec Ideal S512x1024 .bf16) (ix2 j k) = (m ((c : Thread nD τ).loc main_arg6) : FVec Ideal S512x1024 .f32) (ix2 j k) := by
  have he : ((cfg0.win 8).blk t).view.emb (ix2 j k) = (ix2 j k : S512x1024.Idx) := by blk_ext [idx t]
  show (m ((c : Thread nD τ).loc main_arg6) : FVec Ideal S512x1024 .f32) (((cfg0.win 8).blk t).view.emb (ix2 j k)) = _
  rw [he]

/-- Every point sees the whole third branch's projection. -/
theorem in9_at (c : Dev nD) (t : Fin cfg0.N) (j : Fin 512) (k : Fin 1024) :
    (iblk m c 9 t : Vec Ideal S512x1024 .bf16) (ix2 j k) = (m ((c : Thread nD τ).loc main_arg7) : FVec Ideal S512x1024 .f32) (ix2 j k) := by
  have he : ((cfg0.win 9).blk t).view.emb (ix2 j k) = (ix2 j k : S512x1024.Idx) := by blk_ext [idx t]
  show (m ((c : Thread nD τ).loc main_arg7) : FVec Ideal S512x1024 .f32) (((cfg0.win 9).blk t).view.emb (ix2 j k)) = _
  rw [he]

/-- Every point sees the whole output projection. -/
theorem in10_at (c : Dev nD) (t : Fin cfg0.N) (j : Fin 1024) (k : Fin 1024) :
    (iblk m c 10 t : Vec Ideal S1024x1024 .bf16) (ix2 j k) = (m ((c : Thread nD τ).loc main_arg8) : FVec Ideal S1024x1024 .f32) (ix2 j k) := by
  have he : ((cfg0.win 10).blk t).view.emb (ix2 j k) = (ix2 j k : S1024x1024.Idx) := by blk_ext [idx t]
  show (m ((c : Thread nD τ).loc main_arg8) : FVec Ideal S1024x1024 .f32) (((cfg0.win 10).blk t).view.emb (ix2 j k)) = _
  rw [he]

/-- Every point sees the whole first hidden projection. -/
theorem in12_at (c : Dev nD) (t : Fin cfg0.N) (j : Fin 1024) (k : Fin 2816) :
    (iblk m c 12 t : Vec Ideal S1024x2816 .bf16) (ix2 j k) = (m ((c : Thread nD τ).loc main_arg10) : FVec Ideal S1024x2816 .f32) (ix2 j k) := by
  have he : ((cfg0.win 12).blk t).view.emb (ix2 j k) = (ix2 j k : S1024x2816.Idx) := by blk_ext [idx t]
  show (m ((c : Thread nD τ).loc main_arg10) : FVec Ideal S1024x2816 .f32) (((cfg0.win 12).blk t).view.emb (ix2 j k)) = _
  rw [he]

/-- Every point sees the whole second hidden projection. -/
theorem in13_at (c : Dev nD) (t : Fin cfg0.N) (j : Fin 1024) (k : Fin 2816) :
    (iblk m c 13 t : Vec Ideal S1024x2816 .bf16) (ix2 j k) = (m ((c : Thread nD τ).loc main_arg11) : FVec Ideal S1024x2816 .f32) (ix2 j k) := by
  have he : ((cfg0.win 13).blk t).view.emb (ix2 j k) = (ix2 j k : S1024x2816.Idx) := by blk_ext [idx t]
  show (m ((c : Thread nD τ).loc main_arg11) : FVec Ideal S1024x2816 .f32) (((cfg0.win 13).blk t).view.emb (ix2 j k)) = _
  rw [he]

/-- Every point sees the whole last projection. -/
theorem in14_at (c : Dev nD) (t : Fin cfg0.N) (j : Fin 2816) (k : Fin 1024) :
    (iblk m c 14 t : Vec Ideal S2816x1024 .bf16) (ix2 j k) = (m ((c : Thread nD τ).loc main_arg12) : FVec Ideal S2816x1024 .f32) (ix2 j k) := by
  have he : ((cfg0.win 14).blk t).view.emb (ix2 j k) = (ix2 j k : S2816x1024.Idx) := by blk_ext [idx t]
  show (m ((c : Thread nD τ).loc main_arg12) : FVec Ideal S2816x1024 .f32) (((cfg0.win 14).blk t).view.emb (ix2 j k)) = _
  rw [he]

/-- Every point sees the whole gain. -/
theorem in11_at (c : Dev nD) (t : Fin cfg0.N) (k : Fin 1024) :
    (iblk m c 11 t : Vec Ideal S1x1024 .f32) (ix2 0 k) = (m ((c : Thread nD τ).loc main_arg9) : FVec Ideal S1024 .f32) (ix1 k) := by
  have he : ((cfg0.win 11).blk t).view.emb (ix2 0 k) = (ix2 0 k : S1x1024.Idx) := by blk_ext [idx t]
  show (shapeCast S1x1024 (m ((c : Thread nD τ).loc main_arg9) : FVec Ideal S1024 .f32) shapeCasts_S1024_S1x1024)
    (((cfg0.win 11).blk t).view.emb (ix2 0 k)) = _
  rw [he]
  pointwise

/-- The block a point leaves is a row of the result, from the rows of its blocks. -/
theorem block_at (x0 : Vec Ideal S512x1024 .f32) (x1 x2 x3 : Vec Ideal S512x512 .bf16) (x4 x5 x6 : Vec Ideal S512x1024 .bf16)
    (x7 x8 x9 : Vec Ideal S512x1024 .bf16) (x10 : Vec Ideal S1024x1024 .bf16) (x11 : Vec Ideal S1x1024 .f32)
    (x12 x13 : Vec Ideal S1024x2816 .bf16) (x14 : Vec Ideal S2816x1024 .bf16) (p : Fin 512) (n : Fin 1024) :
    lastBlock (streamBlock x0 x1 x2 x3 x4 x5 x6 x7 x8 x9 x10) x11 x12 x13 x14 (ix2 p n)
      = row (fun k => x0 (ix2 p k)) (fun k => x4 (ix2 p k)) (fun k => x5 (ix2 p k)) (fun k => x6 (ix2 p k))
          (fun j => x1 (ix2 p j)) (fun j => x2 (ix2 p j)) (fun j => x3 (ix2 p j))
          (fun j k => x7 (ix2 j k)) (fun j k => x8 (ix2 j k)) (fun j k => x9 (ix2 j k)) (fun k n => x10 (ix2 k n))
          (fun k => x11 (ix2 0 k)) (fun k f => x12 (ix2 k f)) (fun k f => x13 (ix2 k f)) (fun f n => x14 (ix2 f n)) n := by
  rw [lastBlock_at]
  unfold row
  simp only [streamBlock_at]

/-- The reference's result from the kernel's arguments. -/
def value (c : Dev nD) : FVec Ideal S16384x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- What a point leaves in its block of the result is the block of the reference's result. -/
theorem point (c : Dev nD) (t : Fin cfg0.N) (y : S512x1024.Idx) :
    lastBlock (streamBlock (iblk m c 0 t) (iblk m c 1 t) (iblk m c 2 t) (iblk m c 3 t) (X0_4 m c t) (X0_5 m c t) (X0_6 m c t)
        (iblk m c 7 t) (iblk m c 8 t) (iblk m c 9 t) (iblk m c 10 t)) (iblk m c 11 t) (iblk m c 12 t) (iblk m c 13 t) (iblk m c 14 t) y
      = value m c (((cfg0.win 15).blk t).view.emb y) := by
  have ht : t.val < 32 := lt_of_lt_of_eq t.isLt N_0
  obtain ⟨p, n, rfl⟩ : ∃ (p : Fin 512) (n : Fin 1024), y = ix2 p n := ⟨y 0, y 1, eq_ix2 y⟩
  have hemb : ((cfg0.win 15).blk t).view.emb (ix2 p n) = (ix2 ⟨t.val * 512 + (p : ℕ), by omega⟩ n : S16384x1024.Idx) := by blk_ext [idx t]
  rw [hemb]
  refine (block_at _ _ _ _ _ _ _ _ _ _ _ _ _ _ _ p n).trans (Eq.trans ?_ (result_at _ _ _ _ _ _ _ _ _ _ _ _ _ _ n).symm)
  have e0 := fun k => in0_at m c t p k ⟨t.val * 512 + (p : ℕ), by omega⟩ rfl
  have e1 := fun k => in1_at m c t p k ⟨t.val * 512 + (p : ℕ), by omega⟩ rfl
  have e2 := fun k => in2_at m c t p k ⟨t.val * 512 + (p : ℕ), by omega⟩ rfl
  have e3 := fun k => in3_at m c t p k ⟨t.val * 512 + (p : ℕ), by omega⟩ rfl
  have e4 := fun k => in4_at m c t p k ⟨t.val * 512 + (p : ℕ), by omega⟩ rfl
  have e5 := fun k => in5_at m c t p k ⟨t.val * 512 + (p : ℕ), by omega⟩ rfl
  have e6 := fun k => in6_at m c t p k ⟨t.val * 512 + (p : ℕ), by omega⟩ rfl
  have e7 := fun j k => in7_at m c t j k
  have e8 := fun j k => in8_at m c t j k
  have e9 := fun j k => in9_at m c t j k
  have e10 := fun j k => in10_at m c t j k
  have e11 := in11_at m c t
  have e12 := fun j k => in12_at m c t j k
  have e13 := fun j k => in13_at m c t j k
  have e14 := fun j k => in14_at m c t j k
  simp only [e0, e1, e2, e3, e4, e5, e6, e7, e8, e9, e10, e11, e12, e13, e14]

/-- The result array after the run is the reference's result. -/
theorem final (c : Dev nD) : (dats m 0 c).arrAt 15 (cfgs 0).N = value m c := by
  refine (dats m 0 c).arrAt_eq_of_covers 15 _ (by decide +kernel) fun t _ y => ?_
  blk_simp
  rw [after_eq]
  exact point m c t y

end Cert.Ffn

end
-- ==== Proof.FfnClaims.lean ====
/-
  The claims about the gated merge with the feed-forward part: the three programs run and change nothing they were given, and on the extended
  reals the kernel and its reference leave the same array.
-/
module

public import proofs.«01_k».proof.Defs
public import proofs.«01_k».proof.Proof.FfnKernel
public import proofs.«01_k».proof.Proof.Gen.Kernel2Ideal.Value
public import proofs.«01_k».proof.Proof.Gen.Kernel2.Frame

@[expose] public section

noncomputable section

open Idealize.ShloMosaic Idealize.ShloMosaic.TcCoe Idealize.SL.Sem

namespace Cert.Ffn

/-- The kernel runs on the machine's floats and changes nothing it was given. -/
theorem frame_kernel : Cert.quiescent_Kernel2 := fun m g _ => Cert.Kernel2.Gen.frame m g

/-- The kernel runs on the extended reals and changes nothing it was given. -/
theorem frame_ideal : Cert.quiescent_Kernel2Ideal := fun m g _ => Cert.Kernel2Ideal.Gen.frame m g

/-- The reference runs on the extended reals and changes nothing it was given. -/
theorem frame_reference : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- On the extended reals the kernel and its reference leave the same array. -/
theorem algebraic : Cert.algebraic_Kernel2Ideal_Reference2Ideal := by
  intro m g m' g' _ hagree
  refine ⟨fun c => value m c, ?_, ?_⟩
  · refine (θ_run Cert.Kernel2Ideal.defs _ _).mono (fun r h c => ⟨(h c).1.trans (final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    refine (reference_eq m' c).trans ?_
    unfold value
    obtain ⟨h0, h1, h2, h3, h4, h5, h6, h7, h8, h9, h10, h11, h12⟩ := hagree c
    rw [h0, h1, h2, h3, h4, h5, h6, h7, h8, h9, h10, h11, h12]

end Cert.Ffn

end
-- ==== Proof.WinPre.lean ====
/-
  What the window attention's precondition says: every sink, every entry of the queries and of the keys is a real number.
-/
module

public import proofs.«01_k».proof.Pre_finite_win
public import proofs.«01_k».proof.Proof.AttnPre

@[expose] public section

noncomputable section

open Idealize.ShloMosaic

namespace Cert.Win.Pre

/-- The shapes the predicate's operations relate. -/
instance facts : Cert.Pre_finite_win.Facts where
  bcast_S_S8 := by decide
  reducesTo_S8_S_d0 := by decide
  h_S_ := by decide
  bcast_S_S8x2048x8x64 := by decide
  reducesTo_S8x2048x8x64_S_d0_1_2_3 := by decide
  bcast_S_S8x2048x2x64 := by decide
  reducesTo_S8x2048x2x64_S_d0_1_2_3 := by decide

open Cert.Pre_finite_win Cert.Pre_finite_win.Facts

/-- An array whose entries' absolute values all compare below infinity holds real numbers. -/
theorem real_of_all {s : Shape} {a : List (Fin s.rank)} (x top : FVec Ideal s .f32) (htop : ∀ i, top i = (⊤ : EReal)) (init : IVec S_ 1)
    (h' : s.ReducesTo a S_) (hu : 0 < S_.numel) (j : S_.Idx) (h : Host.reduce IntOp.andi (cmpf .olt (Host.absf x) top) init h' hu j = 1#1)
    (i : s.Idx) : ∃ r : ℝ, x i = (r : EReal) := by
  have hb := Attn.Pre.all_of _ _ _ _ j rfl h i
  refine Attn.Pre.real_of_lt ?_
  have hd : BitVec.ofBool (decide (max (x i) (-(x i)) < top i)) = 1#1 := hb
  rw [htop] at hd
  by_contra hn
  rw [decide_eq_false hn] at hd
  exact absurd hd (by decide)

/-- Under the precondition every sink, every query entry and every key entry is a real number. -/
theorem real_sqk (s : FVec Ideal S8 .f32) (q : FVec Ideal S8x2048x8x64 .f32) (k v : FVec Ideal S8x2048x2x64 .f32) (j : S_.Idx)
    (h : fn s q k v j = 1#1) :
    (∀ i, ∃ r : ℝ, s i = (r : EReal)) ∧ (∀ i, ∃ r : ℝ, q i = (r : EReal)) ∧ ∀ i, ∃ r : ℝ, k i = (r : EReal) := by
  have bits : ∀ c d : BitVec 1, IntOp.andi c d = 1#1 → c = 1#1 ∧ d = 1#1 := by decide
  obtain ⟨h1, h3⟩ := bits _ _ (show IntOp.andi _ _ = 1#1 from h)
  obtain ⟨h1, h2⟩ := bits _ _ (show IntOp.andi _ _ = 1#1 from h1)
  exact ⟨real_of_all s _ (fun _ => Attn.pos_inf) _ _ _ j h1, real_of_all q _ (fun _ => Attn.pos_inf) _ _ _ j h2,
    real_of_all k _ (fun _ => Attn.pos_inf) _ _ _ j h3⟩

end Cert.Win.Pre

end
-- ==== Proof.WinBlock.lean ====
/-
  What a grid point of the window attention computes: eight tiles of 256 queries; in each, two key heads, each serving two pairs
  of query heads; the tile's keys are the 512 that hold its queries' windows.
-/
module

public import proofs.«01_k».proof.Proof.Gen.Kernel4Ideal.Frame
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.Win

open Cert.Kernel4Ideal Cert.Kernel4Ideal.Gen
open Cert.Kernel4Ideal.Facts

section
variable {F : FTy → Type} [FloatOps F] [Named F]

/-- Which of the 512 rows belong to the second pair of heads. -/
def second : IVec S512x1 1 := cmpi .sge (iota .tc S512x1 32 [0] iota_S512x1_d0_w32) (broadcast S512x1 256#32)

/-- The queries of two pairs, one under the other, scaled. -/
def queries (a b : Vec F S1x256x128 .bf16) : FVec F S512x128 .bf16 :=
  truncf .bf16 (mulf (extf .f32 (concatenate S512x128 0 [⟨S256x128, shapeCast S256x128 a shapeCasts_S1x256x128_S256x128⟩,
      ⟨S256x128, shapeCast S256x128 b shapeCasts_S1x256x128_S256x128⟩] concatenates_S256x128_S256x128_S512x128_d0 : FVec F S512x128 .bf16) bitsLt_bf16_f32)
    (broadcast S512x128 (Named.named κ "q_scale" 0x3E38AA3B#32 : F .f32))) bitsLt_bf16_f32

/-- The scores to the base two, with the bias. -/
def scores (q k : FVec F S512x128 .bf16) (B : Vec F S1x512x512 .f32) : FVec F S512x512 .f32 :=
  addf (matmul dot_S512x128_S512x128_S512x512_1_1_0_0_n_n none q k (constant S512x512 .f32 0x00000000#32))
    (shapeCast S512x512 B shapeCasts_S1x512x512_S512x512)

/-- The two pairs' sinks, to the base two. -/
def sinks (w : IVec S512x1 1) (hi lo : Elt F .f32) : FVec F S512x1 .f32 :=
  mulf (select w (broadcast S512x1 hi) (broadcast S512x1 lo)) (broadcast S512x1 (Named.named κ "log2e" 0x3FB8AA3B#32 : F .f32))

/-- The greatest of a row and its sink. -/
def top (s : FVec F S512x512 .f32) (σ : FVec F S512x1 .f32) : FVec F S512x1 .f32 :=
  maximumf (shapeCast S512x1 (multiReduction .maximumf [1] S512 s 0xFF800000#32 reduces_S512x512_S512 (.inl rfl) rfl) shapeCasts_S512_S512x1) σ

/-- The weights. -/
def weights (s : FVec F S512x512 .f32) (mx : FVec F S512x1 .f32) : FVec F S512x512 .f32 :=
  exp2 (subf s (broadcastTo S512x512 mx broadcasts_S512x1_S512x512))

/-- The sum of a row's weights and its sink's. -/
def total (p : FVec F S512x512 .f32) (σ mx : FVec F S512x1 .f32) : FVec F S512x1 .f32 :=
  addf (shapeCast S512x1 (multiReduction .add [1] S512 p 0x00000000#32 reduces_S512x512_S512 (.inl rfl) rfl) shapeCasts_S512_S512x1)
    (exp2 (subf σ mx))

/-- The weighted sum of the values, over the total. -/
def mix (p : FVec F S512x512 .f32) (v : FVec F S512x128 .bf16) (l : FVec F S512x1 .f32) : FVec F S512x128 .f32 :=
  mulf (matmul dot_S512x512_S512x128_S512x128_1_0_0_1_n_n none (truncf .bf16 p bitsLt_bf16_f32) v (constant S512x128 .f32 0x00000000#32))
    (broadcastTo S512x128 (divf (broadcast S512x1 (Scalar.ofBits .f32 0x3F800000#32)) l) broadcasts_S512x1_S512x128)

/-- One head of each of the two pairs. -/
def part (q k v : FVec F S512x128 .bf16) (B : Vec F S1x512x512 .f32) (hi lo : Elt F .f32) : FVec F S512x128 .f32 :=
  let s := scores q k B
  let σ := sinks second hi lo
  let mx := top s σ
  let p := weights s mx
  mix p v (total p σ mx)

/-- A run of 128 lanes of the tile's keys or values. -/
def lanes (x : Vec F S1x512x512 .bf16) : Fin 4 → FVec F S512x128 .bf16
  | 0 => extractStridedSlice S512x128 ![0, 0] (shapeCast S512x512 x shapeCasts_S1x512x512_S512x512) slices_S512x512_o0_0_S512x128
  | 1 => extractStridedSlice S512x128 ![0, 128] (shapeCast S512x512 x shapeCasts_S1x512x512_S512x512) slices_S512x512_o0_128_S512x128
  | 2 => extractStridedSlice S512x128 ![0, 256] (shapeCast S512x512 x shapeCasts_S1x512x512_S512x512) slices_S512x512_o0_256_S512x128
  | 3 => extractStridedSlice S512x128 ![0, 384] (shapeCast S512x512 x shapeCasts_S1x512x512_S512x512) slices_S512x512_o0_384_S512x128

/-- The four sinks of a key head: by pair and place. -/
abbrev sinkNo (kv j e : Fin 2) : Fin 8 := ⟨(kv : ℕ) * 4 + j * 2 + e, by omega⟩

/-- The lanes of a key head: by place. -/
abbrev run (kv e : Fin 2) : Fin 4 := ⟨(kv : ℕ) * 2 + e, by omega⟩

/-- A tile's two pairs for one key head. -/
def both (q : FVec F S512x128 .bf16) (K V : Vec F S1x512x512 .bf16) (B : Vec F S1x512x512 .f32) (x : Fin 8 → Elt F .f32) (kv : Fin 2) : FVec F S512x128 .f32 :=
  addf (part q (lanes K (run kv 0)) (lanes V (run kv 0)) B (x (sinkNo kv 1 0)) (x (sinkNo kv 0 0)))
    (part q (lanes K (run kv 1)) (lanes V (run kv 1)) B (x (sinkNo kv 1 1)) (x (sinkNo kv 0 1)))

/-- One of the two pairs, as stored. -/
def pairOf (a : FVec F S512x128 .f32) : Fin 2 → FVec F S1x256x128 .bf16
  | 0 => shapeCast S1x256x128 (truncf .bf16 (extractStridedSlice S256x128 ![0, 0] a slices_S512x128_o0_0_S256x128) bitsLt_bf16_f32) shapeCasts_S256x128_S1x256x128
  | 1 => shapeCast S1x256x128 (truncf .bf16 (extractStridedSlice S256x128 ![256, 0] a slices_S512x128_o256_0_S256x128) bitsLt_bf16_f32) shapeCasts_S256x128_S1x256x128

variable (m : (ℓ : Loc nD τ sig) → Buf (Elt F) ℓ) (c : Dev nD) (t : Fin cfg0.N)

/-- A tile's queries of one pair of heads. -/
def ldQ (n : Fin 8) (g : Fin 4) : Vec F S1x256x128 .bf16 :=
  View.ld (iblk m c 1 t : Vec F S1x2048x512 .bf16) (Rect.unit (s := S1x2048x512) ![0, n.val * 256, g.val * 128] ![1, 256, 128] (by
    intro a; fin_cases a
    · exact le_rfl
    · show n.val * 256 + 256 ≤ 2048; omega
    · show g.val * 128 + 128 ≤ 512; omega))

/-- A tile's keys. -/
def ldK (n : Fin 8) : Vec F S1x512x512 .bf16 :=
  View.ld (iblk m c 2 t : Vec F S1x2048x512 .bf16)
    (Rect.unit (s := S1x2048x512) (k0_off1 (grid0.coords t) (BitVec.ofNat 32 n.val)) S1x512x512.size (k0_off1_inb (grid0.coords t) n))

/-- A tile's values. -/
def ldV (n : Fin 8) : Vec F S1x512x512 .bf16 :=
  View.ld (iblk m c 3 t : Vec F S1x2048x512 .bf16)
    (Rect.unit (s := S1x2048x512) (k0_off1 (grid0.coords t) (BitVec.ofNat 32 n.val)) S1x512x512.size (k0_off1_inb (grid0.coords t) n))

/-- A tile's bias. -/
def ldB (n : Fin 8) : Vec F S1x512x512 .f32 :=
  View.ld (iblk m c 4 t : Vec F S3x512x512 .f32)
    (Rect.unit (s := S3x512x512) (k0_off2 (grid0.coords t) (BitVec.ofNat 32 n.val)) S1x512x512.size (k0_off2_inb (grid0.coords t) n))

/-- One sink. -/
def ldS (k : Fin 8) : Elt F .f32 :=
  View.ld (iblk m c 0 t : Vec F S8 .f32) (Rect.unit (s := S8) ![k.val] ![1] (by
    intro a; fin_cases a
    show k.val + 1 ≤ 8; omega)) (Shape.Idx.first (show 0 < (⟨1, ![1]⟩ : Shape).numel by decide))

/-- What a tile stores for one pair of heads. -/
def piece (n : Fin 8) (kv j : Fin 2) : FVec F S1x256x128 .bf16 :=
  pairOf (both (queries (ldQ m c t n (run kv 0)) (ldQ m c t n (run kv 1))) (ldK m c t n) (ldV m c t n) (ldB m c t n) (ldS m c t) kv) j

/-- What a point leaves in its block: the stores, the last first. -/
theorem after_eq : (dats m 0 c).after 5 t = View.canon [
    ⟨Rect.unit (s := S1x2048x512) ![0, 1792, 384] S1x256x128.size inb_S1x2048x512_S1x256x128_0_1792_384, piece m c t 7 1 1⟩,
    ⟨Rect.unit (s := S1x2048x512) ![0, 1792, 256] S1x256x128.size inb_S1x2048x512_S1x256x128_0_1792_256, piece m c t 7 1 0⟩,
    ⟨Rect.unit (s := S1x2048x512) ![0, 1792, 128] S1x256x128.size inb_S1x2048x512_S1x256x128_0_1792_128, piece m c t 7 0 1⟩,
    ⟨Rect.unit (s := S1x2048x512) ![0, 1792, 0] S1x256x128.size inb_S1x2048x512_S1x256x128_0_1792_0, piece m c t 7 0 0⟩,
    ⟨Rect.unit (s := S1x2048x512) ![0, 1536, 384] S1x256x128.size inb_S1x2048x512_S1x256x128_0_1536_384, piece m c t 6 1 1⟩,
    ⟨Rect.unit (s := S1x2048x512) ![0, 1536, 256] S1x256x128.size inb_S1x2048x512_S1x256x128_0_1536_256, piece m c t 6 1 0⟩,
    ⟨Rect.unit (s := S1x2048x512) ![0, 1536, 128] S1x256x128.size inb_S1x2048x512_S1x256x128_0_1536_128, piece m c t 6 0 1⟩,
    ⟨Rect.unit (s := S1x2048x512) ![0, 1536, 0] S1x256x128.size inb_S1x2048x512_S1x256x128_0_1536_0, piece m c t 6 0 0⟩,
    ⟨Rect.unit (s := S1x2048x512) ![0, 1280, 384] S1x256x128.size inb_S1x2048x512_S1x256x128_0_1280_384, piece m c t 5 1 1⟩,
    ⟨Rect.unit (s := S1x2048x512) ![0, 1280, 256] S1x256x128.size inb_S1x2048x512_S1x256x128_0_1280_256, piece m c t 5 1 0⟩,
    ⟨Rect.unit (s := S1x2048x512) ![0, 1280, 128] S1x256x128.size inb_S1x2048x512_S1x256x128_0_1280_128, piece m c t 5 0 1⟩,
    ⟨Rect.unit (s := S1x2048x512) ![0, 1280, 0] S1x256x128.size inb_S1x2048x512_S1x256x128_0_1280_0, piece m c t 5 0 0⟩,
    ⟨Rect.unit (s := S1x2048x512) ![0, 1024, 384] S1x256x128.size inb_S1x2048x512_S1x256x128_0_1024_384, piece m c t 4 1 1⟩,
    ⟨Rect.unit (s := S1x2048x512) ![0, 1024, 256] S1x256x128.size inb_S1x2048x512_S1x256x128_0_1024_256, piece m c t 4 1 0⟩,
    ⟨Rect.unit (s := S1x2048x512) ![0, 1024, 128] S1x256x128.size inb_S1x2048x512_S1x256x128_0_1024_128, piece m c t 4 0 1⟩,
    ⟨Rect.unit (s := S1x2048x512) ![0, 1024, 0] S1x256x128.size inb_S1x2048x512_S1x256x128_0_1024_0, piece m c t 4 0 0⟩,
    ⟨Rect.unit (s := S1x2048x512) ![0, 768, 384] S1x256x128.size inb_S1x2048x512_S1x256x128_0_768_384, piece m c t 3 1 1⟩,
    ⟨Rect.unit (s := S1x2048x512) ![0, 768, 256] S1x256x128.size inb_S1x2048x512_S1x256x128_0_768_256, piece m c t 3 1 0⟩,
    ⟨Rect.unit (s := S1x2048x512) ![0, 768, 128] S1x256x128.size inb_S1x2048x512_S1x256x128_0_768_128, piece m c t 3 0 1⟩,
    ⟨Rect.unit (s := S1x2048x512) ![0, 768, 0] S1x256x128.size inb_S1x2048x512_S1x256x128_0_768_0, piece m c t 3 0 0⟩,
    ⟨Rect.unit (s := S1x2048x512) ![0, 512, 384] S1x256x128.size inb_S1x2048x512_S1x256x128_0_512_384, piece m c t 2 1 1⟩,
    ⟨Rect.unit (s := S1x2048x512) ![0, 512, 256] S1x256x128.size inb_S1x2048x512_S1x256x128_0_512_256, piece m c t 2 1 0⟩,
    ⟨Rect.unit (s := S1x2048x512) ![0, 512, 128] S1x256x128.size inb_S1x2048x512_S1x256x128_0_512_128, piece m c t 2 0 1⟩,
    ⟨Rect.unit (s := S1x2048x512) ![0, 512, 0] S1x256x128.size inb_S1x2048x512_S1x256x128_0_512_0, piece m c t 2 0 0⟩,
    ⟨Rect.unit (s := S1x2048x512) ![0, 256, 384] S1x256x128.size inb_S1x2048x512_S1x256x128_0_256_384, piece m c t 1 1 1⟩,
    ⟨Rect.unit (s := S1x2048x512) ![0, 256, 256] S1x256x128.size inb_S1x2048x512_S1x256x128_0_256_256, piece m c t 1 1 0⟩,
    ⟨Rect.unit (s := S1x2048x512) ![0, 256, 128] S1x256x128.size inb_S1x2048x512_S1x256x128_0_256_128, piece m c t 1 0 1⟩,
    ⟨Rect.unit (s := S1x2048x512) ![0, 256, 0] S1x256x128.size inb_S1x2048x512_S1x256x128_0_256_0, piece m c t 1 0 0⟩,
    ⟨Rect.unit (s := S1x2048x512) ![0, 0, 384] S1x256x128.size inb_S1x2048x512_S1x256x128_0_0_384, piece m c t 0 1 1⟩,
    ⟨Rect.unit (s := S1x2048x512) ![0, 0, 256] S1x256x128.size inb_S1x2048x512_S1x256x128_0_0_256, piece m c t 0 1 0⟩,
    ⟨Rect.unit (s := S1x2048x512) ![0, 0, 128] S1x256x128.size inb_S1x2048x512_S1x256x128_0_0_128, piece m c t 0 0 1⟩,
    ⟨Rect.unit (s := S1x2048x512) ![0, 0, 0] S1x256x128.size inb_S1x2048x512_S1x256x128_0_0_0, piece m c t 0 0 0⟩] := by
  rw [after0_5]
  unfold outsAt0
  frame_out
  rw [(hs0_1 t).read_unread]
  rfl

end

end Cert.Win

end
-- ==== Proof.WinMath.lean ====
/-
  The equation behind the window attention, for one query: weights to the base two over the keys of a tile, those outside the
  window at minus infinity, with the sink in the divisor, against the softmax over all the keys and the sink.
-/
module

public import proofs.«01_k».proof.Proof.AttnMath

@[expose] public section

noncomputable section

open Idealize.ShloMosaic

namespace Cert.Win

open Cert.Attn

section
variable {ι κ : Type} [Fintype ι] [Fintype κ]

/-- The weight of a key: nothing outside the window. -/
def weight (valid : ι → Prop) [DecidablePred valid] (s : ι → ℝ) (a : ℝ) (i : ι) : ℝ := if valid i then Real.exp (s i - a) else 0

theorem weight_nonneg (valid : ι → Prop) [DecidablePred valid] (s : ι → ℝ) (a : ℝ) (i : ι) : 0 ≤ weight valid s a i := by
  unfold weight
  split
  · exact (Real.exp_pos _).le
  · exact le_rfl

/-- The divisor is positive: the sink's weight is. -/
theorem den_pos (valid : ι → Prop) [DecidablePred valid] (s : ι → ℝ) (σ a : ℝ) : 0 < (∑ i, weight valid s a i) + Real.exp (σ - a) :=
  add_pos_of_nonneg_of_pos (Finset.sum_nonneg fun i _ => weight_nonneg valid s a i) (Real.exp_pos _)

/-- The weights over their sum do not depend on the number the scores are shifted by. -/
theorem shift (valid : ι → Prop) [DecidablePred valid] (s : ι → ℝ) (σ a b : ℝ) (i : ι) :
    weight valid s a i / ((∑ j, weight valid s a j) + Real.exp (σ - a)) = weight valid s b i / ((∑ j, weight valid s b j) + Real.exp (σ - b)) := by
  have h : ∀ j, weight valid s a j = weight valid s b j * Real.exp (b - a) := fun j => by
    unfold weight
    split
    · rw [← Real.exp_add]; congr 1; ring
    · rw [zero_mul]
  have h' : Real.exp (σ - a) = Real.exp (σ - b) * Real.exp (b - a) := by rw [← Real.exp_add]; congr 1; ring
  simp only [h, h']
  rw [← Finset.sum_mul, ← add_mul, mul_div_mul_right _ _ (Real.exp_ne_zero _)]

/-- A sum over the keys of a tile that holds the window is the sum over all the keys. -/
theorem sum_tile {M : Type} [AddCommMonoid M] (e : κ → ι) (he : Function.Injective e) (f : ι → M) (h : ∀ i, i ∉ Set.range e → f i = 0) :
    ∑ c, f (e c) = ∑ i, f i :=
  Fintype.sum_of_injective e he _ f h fun _ => rfl

/-- The kernel's weight of a key of the tile. -/
theorem tile_weight (valid : ι → Prop) [DecidablePred valid] (s : ι → ℝ) (M : ℝ) (i : ι) :
    Ideal.exp2 (((s i * (Real.log 2)⁻¹ : ℝ) : EReal) + (if valid i then 0 else ⊥) - (M : EReal)) = ((weight valid s (M * Real.log 2) i : ℝ) : EReal) := by
  unfold weight
  by_cases h : valid i
  · rw [if_pos h, if_pos h, add_zero, exp2_score]
  · rw [if_neg h, if_neg h, EReal.add_bot]
    rfl

/-- The reference's weight of a key. -/
theorem all_weight (valid : ι → Prop) [DecidablePred valid] (s : ι → ℝ) (a : ℝ) (i : ι) :
    Ideal.exp ((if valid i then (s i : EReal) else ⊥) - (a : EReal)) = ((weight valid s a i : ℝ) : EReal) := by
  unfold weight
  by_cases h : valid i
  · rw [if_pos h, if_pos h, ← EReal.coe_sub, Ideal.exp_coe]
  · rw [if_neg h, if_neg h]
    rfl

/-- THE ROW: the tile's weights times the values, over the tile's sum and the sink, are the softmax over all the keys and the
sink times the values. -/
theorem row_eq (valid : ι → Prop) [DecidablePred valid] (s : ι → ℝ) (σ : ℝ) (e : κ → ι) (he : Function.Injective e)
    (hv : ∀ i, valid i → i ∈ Set.range e) {mx m : EReal} (hmx : ∃ r : ℝ, mx = r) (hm : ∃ r : ℝ, m = r) (v : ι → EReal) :
    (∑ c, Ideal.exp2 (((s (e c) * (Real.log 2)⁻¹ : ℝ) : EReal) + (if valid (e c) then 0 else ⊥) - mx) * v (e c))
        * Ideal.div 1 ((∑ c, Ideal.exp2 (((s (e c) * (Real.log 2)⁻¹ : ℝ) : EReal) + (if valid (e c) then 0 else ⊥) - mx))
            + Ideal.exp2 (((σ * (Real.log 2)⁻¹ : ℝ) : EReal) - mx))
      = ∑ i, v i * Ideal.div (Ideal.exp ((if valid i then (s i : EReal) else ⊥) - m))
          ((∑ j, Ideal.exp ((if valid j then (s j : EReal) else ⊥) - m)) + Ideal.exp ((σ : EReal) - m)) := by
  obtain ⟨M, rfl⟩ := hmx
  obtain ⟨n, rfl⟩ := hm
  have out : ∀ (a : ℝ) (i : ι), i ∉ Set.range e → weight valid s a i = 0 := fun a i hi => if_neg fun h => hi (hv i h)
  simp only [tile_weight, all_weight, exp2_score]
  rw [sum_tile e he (fun i => ((weight valid s (M * Real.log 2) i : ℝ) : EReal) * v i) fun i hi => by rw [out _ i hi, EReal.coe_zero, zero_mul],
    sum_tile e he (fun i => ((weight valid s (M * Real.log 2) i : ℝ) : EReal)) fun i hi => by rw [out _ i hi, EReal.coe_zero],
    ← EReal.coe_sub, Ideal.exp_coe, ← coe_sum, ← coe_sum, ← EReal.coe_add, ← EReal.coe_add]
  have p0 := den_pos valid s σ (M * Real.log 2)
  have p1 := den_pos valid s σ n
  rw [Ideal.div_coe p0.ne', one_mul, sum_mul_coe _ _ (one_div_nonneg.mpr p0.le)]
  refine Finset.sum_congr rfl fun i _ => ?_
  rw [Ideal.div_coe p1.ne', ← EReal.coe_mul, mul_one_div, shift valid s σ n (M * Real.log 2) i, mul_comm _ (v i), mul_assoc, ← EReal.coe_mul, mul_one_div]

/-- A maximum of numbers none of which is infinity, with a real number, is real. -/
theorem max_real_of (f : ι → EReal) (h : ∀ i, f i ≠ ⊤) (σ : ℝ) : ∃ r : ℝ, max (Finset.univ.fold max ⊥ f) (σ : EReal) = r := by
  have ht : Finset.univ.fold max ⊥ f ≠ ⊤ := by
    have h2 : Finset.univ.fold max ⊥ f < ⊤ := (Finset.fold_max_lt ⊤).mpr ⟨bot_lt_top, fun i _ => lt_top_iff_ne_top.mpr (h i)⟩
    exact h2.ne
  generalize Finset.univ.fold max ⊥ f = x at ht
  induction x using EReal.rec with
  | bot => exact ⟨σ, max_eq_right bot_le⟩
  | coe r => exact max_real ⟨r, rfl⟩ ⟨σ, rfl⟩
  | top => exact absurd rfl ht

/-- A maximum of numbers none of which is infinity and one of which is real is real. -/
theorem fold_real (f : ι → EReal) (h : ∀ i, f i ≠ ⊤) (k : ι) (hk : ∃ r : ℝ, f k = r) : ∃ r : ℝ, Finset.univ.fold max ⊥ f = r := by
  obtain ⟨σ, hσ⟩ := hk
  obtain ⟨r, hr⟩ := max_real_of f h σ
  refine ⟨r, ?_⟩
  rw [← hr, max_eq_left]
  rw [← hσ]
  exact (Finset.le_fold_max _).mpr (.inr ⟨k, Finset.mem_univ k, le_rfl⟩)

end

/-- Which keys are near a query: the bit the programs compute. -/
theorem near_word : ∀ d : Fin 8001, IntOp.cmpi .sle (IntOp.absi (BitVec.ofInt 32 ((d : ℤ) - 4000))) 128#32
    = if 3872 ≤ (d : ℕ) ∧ (d : ℕ) ≤ 4128 then 1#1 else 0#1 := by decide +kernel

/-- The difference of two numbers as words. -/
theorem sub_word (a b : ℕ) : IntOp.subi (BitVec.ofNat 32 a) (BitVec.ofNat 32 b) = BitVec.ofInt 32 ((a : ℤ) - b) := by
  unfold IntOp.subi
  rw [← BitVec.ofInt_natCast, ← BitVec.ofInt_natCast]
  apply BitVec.eq_of_toInt_eq
  rw [BitVec.toInt_sub, BitVec.toInt_ofInt, BitVec.toInt_ofInt, BitVec.toInt_ofInt]
  simp

/-- The difference of a number as a word and a word. -/
theorem sub_int (a : ℤ) (b : ℕ) : IntOp.subi (BitVec.ofInt 32 a) (BitVec.ofNat 32 b) = BitVec.ofInt 32 (a - b) := by
  unfold IntOp.subi
  rw [← BitVec.ofInt_natCast]
  apply BitVec.eq_of_toInt_eq
  rw [BitVec.toInt_sub, BitVec.toInt_ofInt, BitVec.toInt_ofInt, BitVec.toInt_ofInt]
  simp

/-- Whether two positions are near, from the difference of their words. -/
theorem near_bit (x : BitVec 32) (d : ℤ) (hx : x = BitVec.ofInt 32 d) (h : d.natAbs ≤ 4000) :
    IntOp.cmpi .sle (IntOp.absi x) 128#32 = if d.natAbs ≤ 128 then 1#1 else 0#1 := by
  subst hx
  have hw := near_word ⟨(d + 4000).toNat, by omega⟩
  have e : (((d + 4000).toNat : ℕ) : ℤ) - 4000 = d := by omega
  simp only [e] at hw
  rw [hw]
  by_cases hd : d.natAbs ≤ 128
  · rw [if_pos hd, if_pos (by omega)]
  · rw [if_neg hd, if_neg (by omega)]

end Cert.Win

end
-- ==== Proof.WinEntry.lean ====
/-
  One entry of what a tile of the window attention stores, on the extended reals.
-/
module

public import proofs.«01_k».proof.Proof.WinBlock
public import proofs.«01_k».proof.Proof.WinMath
public import proofs.«01_k».proof.Proof.AttnScore

@[expose] public section

noncomputable section

open Idealize.ShloMosaic

namespace Cert.Win

open Cert.Kernel4Ideal Cert.Kernel4Ideal.Gen
open Cert.Kernel4Ideal.Facts
open Cert.Attn (kap)

/-- A row of a tile: its pair of heads and its query. -/
abbrev rowOf (j : Fin 2) (p : Fin 256) : Fin 512 := ⟨(j : ℕ) * 256 + p, by omega⟩

/-- The factor to the base two. -/
def log2e : EReal := (((Real.log 2)⁻¹ : ℝ) : EReal)

theorem queries_of (a b : Vec Ideal S1x256x128 .bf16) (r : Fin 512) (d : Fin 128) :
    queries a b (ix2 r d : S512x128.Idx)
      = (if h : (r : ℕ) < 256 then a (ix3 0 ⟨r, h⟩ d) else b (ix3 0 ⟨(r : ℕ) - 256, by omega⟩ d)) * kap := by
  unfold queries
  pointwise
  try rfl

/-- The scaled queries of a row. -/
theorem queries_at (a b : Vec Ideal S1x256x128 .bf16) (j : Fin 2) (p : Fin 256) (d : Fin 128) :
    queries a b (ix2 (rowOf j p) d : S512x128.Idx) = (if j = 0 then a else b) (ix3 0 p d) * kap := by
  rw [queries_of]
  have hp := p.isLt
  match j with
  | 0 =>
    rw [dif_pos (show ((rowOf 0 p : Fin 512) : ℕ) < 256 by show 0 * 256 + (p : ℕ) < 256; omega), if_pos rfl]
    congr 3
    ext
    show 0 * 256 + (p : ℕ) = p
    omega
  | 1 =>
    rw [dif_neg (show ¬ ((rowOf 1 p : Fin 512) : ℕ) < 256 by show ¬ (1 * 256 + (p : ℕ) < 256); omega), if_neg (by decide)]
    congr 3
    ext
    show 1 * 256 + (p : ℕ) - 256 = p
    omega

theorem scores_at (q k : FVec Ideal S512x128 .bf16) (B : Vec Ideal S1x512x512 .f32) (r n : Fin 512) :
    scores q k B (ix2 r n : S512x512.Idx) = (∑ d : Fin 128, q (ix2 r d) * k (ix2 n d)) + B (ix3 0 r n) := by
  unfold scores
  pointwise

/-- Which rows belong to the second pair. -/
theorem second_at : ∀ (j : Fin 2) (p : Fin 256), second (ix2 (rowOf j p) 0 : S512x1.Idx) = if j = 1 then 1#1 else 0#1 := by decide +kernel

theorem sinks_of (w : IVec S512x1 1) (hi lo : EReal) (r : Fin 512) :
    sinks (F := Ideal) w hi lo (ix2 r 0 : S512x1.Idx) = (if w (ix2 r 0) = 1#1 then hi else lo) * log2e := by
  unfold sinks
  pointwise
  rfl

/-- A row's sink. -/
theorem sinks_at (hi lo : EReal) (j : Fin 2) (p : Fin 256) :
    sinks (F := Ideal) second hi lo (ix2 (rowOf j p) 0 : S512x1.Idx) = (if j = 1 then hi else lo) * log2e := by
  rw [sinks_of, second_at]
  match j with
  | 0 => rfl
  | 1 => rfl

/-- The greatest of a row's scores and its sink is real. -/
theorem top_real (s : FVec Ideal S512x512 .f32) (σ : FVec Ideal S512x1 .f32) (r : Fin 512) (hs : ∀ n, s (ix2 r n) ≠ (⊤ : EReal))
    (hσ : ∃ x : ℝ, σ (ix2 r 0) = (x : EReal)) : ∃ x : ℝ, top s σ (ix2 r 0 : S512x1.Idx) = (x : EReal) := by
  obtain ⟨x, hx⟩ := hσ
  have h : top s σ (ix2 r 0 : S512x1.Idx)
      = max (Finset.univ.fold max (Ideal.ofBits .f32 0xFF800000#32) fun n : Fin 512 => s (ix2 r n)) (σ (ix2 r 0)) := by
    unfold top
    pointwise
  rw [h, hx, Attn.neg_inf]
  exact max_real_of _ hs x

theorem weights_at (s : FVec Ideal S512x512 .f32) (mx : FVec Ideal S512x1 .f32) (r n : Fin 512) :
    weights s mx (ix2 r n : S512x512.Idx) = Ideal.exp2 (s (ix2 r n) - mx (ix2 r 0)) := by
  unfold weights
  pointwise
  rfl

theorem total_at (p : FVec Ideal S512x512 .f32) (σ mx : FVec Ideal S512x1 .f32) (r : Fin 512) :
    total p σ mx (ix2 r 0 : S512x1.Idx) = (∑ n : Fin 512, p (ix2 r n)) + Ideal.exp2 (σ (ix2 r 0) - mx (ix2 r 0)) := by
  unfold total
  pointwise
  try rfl

theorem mix_at (p : FVec Ideal S512x512 .f32) (v : FVec Ideal S512x128 .bf16) (l : FVec Ideal S512x1 .f32) (r : Fin 512) (d : Fin 128) :
    mix p v l (ix2 r d : S512x128.Idx) = (∑ n : Fin 512, p (ix2 r n) * v (ix2 n d)) * Ideal.div 1 (l (ix2 r 0)) := by
  unfold mix
  pointwise
  try rfl

/-- One entry of a part. -/
theorem part_at (q k v : FVec Ideal S512x128 .bf16) (B : Vec Ideal S1x512x512 .f32) (hi lo : EReal) (j : Fin 2) (p : Fin 256) (d : Fin 128)
    (S : Fin 512 → EReal) (hS : ∀ n, (∑ d : Fin 128, q (ix2 (rowOf j p) d) * k (ix2 n d)) + B (ix3 0 (rowOf j p) n) = S n) :
    part (F := Ideal) q k v B hi lo (ix2 (rowOf j p) d : S512x128.Idx)
      = (∑ n, Ideal.exp2 (S n - top (scores q k B) (sinks (F := Ideal) second hi lo) (ix2 (rowOf j p) 0 : S512x1.Idx)) * v (ix2 n d))
        * Ideal.div 1 ((∑ n, Ideal.exp2 (S n - top (scores q k B) (sinks (F := Ideal) second hi lo) (ix2 (rowOf j p) 0 : S512x1.Idx)))
            + Ideal.exp2 ((if j = 1 then hi else lo) * log2e - top (scores q k B) (sinks (F := Ideal) second hi lo) (ix2 (rowOf j p) 0 : S512x1.Idx))) := by
  unfold part
  rw [mix_at, total_at, sinks_at]
  simp only [weights_at, scores_at, hS]

theorem lanes_at (x : Vec Ideal S1x512x512 .bf16) (g : Fin 4) (n : Fin 512) (d : Fin 128) :
    lanes x g (ix2 n d : S512x128.Idx) = x (ix3 0 n ⟨(g : ℕ) * 128 + d, by omega⟩) := by
  have hd := d.isLt
  match g with
  | 0 =>
    have e : (⟨((0 : Fin 4) : ℕ) * 128 + d, by omega⟩ : Fin 512) = ⟨d, by omega⟩ := by ext; show 0 * 128 + (d : ℕ) = d; omega
    rw [e]
    show extractStridedSlice S512x128 ![0, 0] (shapeCast S512x512 x shapeCasts_S1x512x512_S512x512 : FVec Ideal S512x512 .bf16) slices_S512x512_o0_0_S512x128 (ix2 n d) = _
    pointwise
  | 1 =>
    have e : (⟨((1 : Fin 4) : ℕ) * 128 + d, by omega⟩ : Fin 512) = ⟨128 + d, by omega⟩ := by ext; show 1 * 128 + (d : ℕ) = 128 + d; omega
    rw [e]
    show extractStridedSlice S512x128 ![0, 128] (shapeCast S512x512 x shapeCasts_S1x512x512_S512x512 : FVec Ideal S512x512 .bf16) slices_S512x512_o0_128_S512x128 (ix2 n d) = _
    pointwise
  | 2 =>
    have e : (⟨((2 : Fin 4) : ℕ) * 128 + d, by omega⟩ : Fin 512) = ⟨256 + d, by omega⟩ := by ext; show 2 * 128 + (d : ℕ) = 256 + d; omega
    rw [e]
    show extractStridedSlice S512x128 ![0, 256] (shapeCast S512x512 x shapeCasts_S1x512x512_S512x512 : FVec Ideal S512x512 .bf16) slices_S512x512_o0_256_S512x128 (ix2 n d) = _
    pointwise
  | 3 =>
    have e : (⟨((3 : Fin 4) : ℕ) * 128 + d, by omega⟩ : Fin 512) = ⟨384 + d, by omega⟩ := by ext; show 3 * 128 + (d : ℕ) = 384 + d; omega
    rw [e]
    show extractStridedSlice S512x128 ![0, 384] (shapeCast S512x512 x shapeCasts_S1x512x512_S512x512 : FVec Ideal S512x512 .bf16) slices_S512x512_o0_384_S512x128 (ix2 n d) = _
    pointwise

theorem pairOf_at (a : FVec Ideal S512x128 .f32) (j : Fin 2) (p : Fin 256) (d : Fin 128) :
    pairOf a j (ix3 0 p d : S1x256x128.Idx) = a (ix2 (rowOf j p) d) := by
  have hp := p.isLt
  match j with
  | 0 =>
    have e : rowOf 0 p = ⟨p, by omega⟩ := by ext; show 0 * 256 + (p : ℕ) = p; omega
    rw [e]
    show shapeCast S1x256x128 (truncf .bf16 (extractStridedSlice S256x128 ![0, 0] a slices_S512x128_o0_0_S256x128 : FVec Ideal S256x128 .f32) bitsLt_bf16_f32)
      shapeCasts_S256x128_S1x256x128 (ix3 0 p d) = _
    pointwise
  | 1 =>
    have e : rowOf 1 p = ⟨256 + p, by omega⟩ := by ext; show 1 * 256 + (p : ℕ) = 256 + p; omega
    rw [e]
    show shapeCast S1x256x128 (truncf .bf16 (extractStridedSlice S256x128 ![256, 0] a slices_S512x128_o256_0_S256x128 : FVec Ideal S256x128 .f32) bitsLt_bf16_f32)
      shapeCasts_S256x128_S1x256x128 (ix3 0 p d) = _
    pointwise

end Cert.Win

end
-- ==== Proof.WinLayout.lean ====
/-
  What the host hands the window attention: the queries with the two heads of each pair interleaved by halves, each key head
  twice, beside zeros, each value head twice, beside zeros, and the bias of the three kinds of tile.
-/
module

public import proofs.«01_k».proof.Proof.Gen.Kernel4Ideal.Frame
public import proofs.«01_k».proof.Proof.AttnScore
public import proofs.«01_k».proof.Proof.WinMath
public import Idealize.ShloMosaic.Lib.StableHlo.RunRead

@[expose] public section

noncomputable section

open Idealize.ShloMosaic Idealize.ShloMosaic.TcCoe

namespace Cert.Win.Launch

open Cert.Kernel4Ideal Cert.Kernel4Ideal.Gen
open Cert.Kernel4Ideal.Facts
open Cert.Attn.Launch (row place)

/-- The divisor of the rows' numbers. -/
def divisor : IVec S_ 32 :=
  select (cmpi .eq (constantI S_ 32 256#32) (constantI S_ 32 0#32)) (constantI S_ 32 1#32) (constantI S_ 32 256#32)

/-- The rows' places in their pair. -/
def places : IVec S1x512x1 32 :=
  let r := Host.remsi (broadcastInDim S1x512x1 ![1] bcast_S512_S1x512x1_1 (iotaInDim S512 32 0)) (broadcastInDim S1x512x1 ![] bcast_S_S1x512x1 divisor)
  select (andi (cmpi .ne (cmpi .slt r (broadcastInDim S1x512x1 ![] bcast_S_S1x512x1 (constantI S_ 32 0#32)))
        (broadcastInDim S1x512x1 ![] bcast_S_S1x512x1 (cmpi .slt divisor (constantI S_ 32 0#32))))
      (cmpi .ne r (broadcastInDim S1x512x1 ![] bcast_S_S1x512x1 (constantI S_ 32 0#32))))
    (addi r (broadcastInDim S1x512x1 ![] bcast_S_S1x512x1 divisor)) r

/-- The places are the remainders. -/
theorem places_at : ∀ n : Fin 512, places (ix3 0 n 0) = BitVec.ofNat 32 ((n : ℕ) % 256) := by decide +kernel

/-- How far a kind of tile's queries lie behind its first key. -/
def lead : IVec S3 32 := fun i => lit0 (S3.rowMajor i)

theorem lead_at : ∀ r : Fin 3, lead (ix1 r) = BitVec.ofNat 32 ((r : ℕ) * 128) := by decide +kernel

/-- The difference of a key's and a query's positions. -/
def distance (l : IVec S3 32) (p : IVec S1x512x1 32) : IVec S3x512x512 32 :=
  subi (broadcastInDim S3x512x512 ![0, 1, 2] bcast_S3x1x512_S3x512x512_0_1_2
      (subi (broadcastInDim S3x1x512 ![0, 1, 2] bcast_S1x1x512_S3x1x512_0_1_2 (broadcastInDim S1x1x512 ![2] bcast_S512_S1x1x512_2 (iotaInDim S512 32 0)))
        (broadcastInDim S3x1x512 ![0, 1, 2] bcast_S3x1x1_S3x1x512_0_1_2 (broadcastInDim S3x1x1 ![0] bcast_S3_S3x1x1_0 l))))
    (broadcastInDim S3x512x512 ![0, 1, 2] bcast_S1x512x1_S3x512x512_0_1_2 p)

/-- Which keys lie in the windows. -/
def near : IVec S3x512x512 1 := cmpi .sle (absi (distance lead places)) (broadcastInDim S3x512x512 ![] bcast_S_S3x512x512 (constantI S_ 32 128#32))

section
variable {F : FTy → Type} [FloatOps F]

/-- The bias: zero inside the window, minus infinity outside. -/
def bias (w : IVec S3x512x512 1) : FVec F S3x512x512 .f32 :=
  select w (broadcastInDim S3x512x512 ![] bcast_S_S3x512x512 (constant S_ .f32 0x00000000#32))
    (broadcastInDim S3x512x512 ![] bcast_S_S3x512x512 (constant S_ .f32 0xFF800000#32))

/-- Zero. -/
def zero : FVec F S_ .f32 := sitofp .f32 (constantI S_ 32 0#32)

/-- The keys by halves, in the first place of two. -/
def keysFirst (k : FVec F S8x2048x2x64 .f32) (z : FVec F S_ .f32) : FVec F S16384x2x2x2x32 .f32 :=
  pad S16384x2x2x2x32 ![0, 0, 0, 0, 0] ![0, 0, 0, 1, 0] ![0, 0, 0, 0, 0] (shapeCast S16384x2x2x1x32 k shapeCasts_S8x2048x2x64_S16384x2x2x1x32 : FVec F S16384x2x2x1x32 .f32) z
    pads_S16384x2x2x1x32_S16384x2x2x2x32_000_000_000_010_000 h_S_

/-- The keys by halves, in the second place of two. -/
def keysSecond (k : FVec F S8x2048x2x64 .f32) (z : FVec F S_ .f32) : FVec F S16384x2x2x2x32 .f32 :=
  pad S16384x2x2x2x32 ![0, 0, 0, 1, 0] ![0, 0, 0, 0, 0] ![0, 0, 0, 0, 0] (shapeCast S16384x2x2x1x32 k shapeCasts_S8x2048x2x64_S16384x2x2x1x32 : FVec F S16384x2x2x1x32 .f32) z
    pads_S16384x2x2x1x32_S16384x2x2x2x32_000_000_000_100_000 h_S_

/-- Two arrays of keys side by side, head by head. -/
def keysBoth (a b : FVec F S16384x2x2x2x32 .f32) : FVec F S16384x512 .f32 :=
  shapeCast S16384x512 (concatenate S16384x2x2x2x2x32 2
    [⟨S16384x2x1x2x2x32, broadcastInDim S16384x2x1x2x2x32 ![0, 1, 3, 4, 5] bcast_S16384x2x2x2x32_S16384x2x1x2x2x32_0_1_3_4_5 a⟩,
     ⟨S16384x2x1x2x2x32, broadcastInDim S16384x2x1x2x2x32 ![0, 1, 3, 4, 5] bcast_S16384x2x2x2x32_S16384x2x1x2x2x32_0_1_3_4_5 b⟩]
    concatenates_S16384x2x1x2x2x32_S16384x2x1x2x2x32_S16384x2x2x2x2x32_d2 : FVec F S16384x2x2x2x2x32 .f32) shapeCasts_S16384x2x2x2x2x32_S16384x512

/-- The values, in the first half of twice the lanes. -/
def valuesFirst (v : FVec F S8x2048x2x64 .f32) (z : FVec F S_ .f32) : FVec F S16384x2x128 .f32 :=
  pad S16384x2x128 ![0, 0, 0] ![0, 0, 64] ![0, 0, 0] (shapeCast S16384x2x64 v shapeCasts_S8x2048x2x64_S16384x2x64 : FVec F S16384x2x64 .f32) z
    pads_S16384x2x64_S16384x2x128_000_000_0640 h_S_

/-- The values, in the second half of twice the lanes. -/
def valuesSecond (v : FVec F S8x2048x2x64 .f32) (z : FVec F S_ .f32) : FVec F S16384x2x128 .f32 :=
  pad S16384x2x128 ![0, 0, 64] ![0, 0, 0] ![0, 0, 0] (shapeCast S16384x2x64 v shapeCasts_S8x2048x2x64_S16384x2x64 : FVec F S16384x2x64 .f32) z
    pads_S16384x2x64_S16384x2x128_000_000_6400 h_S_

/-- Two arrays of values side by side, head by head. -/
def valuesBoth (a b : FVec F S16384x2x128 .f32) : FVec F S16384x512 .f32 :=
  shapeCast S16384x512 (concatenate S16384x2x2x128 2
    [⟨S16384x2x1x128, broadcastInDim S16384x2x1x128 ![0, 1, 3] bcast_S16384x2x128_S16384x2x1x128_0_1_3 a⟩,
     ⟨S16384x2x1x128, broadcastInDim S16384x2x1x128 ![0, 1, 3] bcast_S16384x2x128_S16384x2x1x128_0_1_3 b⟩]
    concatenates_S16384x2x1x128_S16384x2x1x128_S16384x2x2x128_d2 : FVec F S16384x2x2x128 .f32) shapeCasts_S16384x2x2x128_S16384x512

variable (m : (ℓ : Loc nD τ sig) → Buf (Elt F) ℓ) (c : Dev nD)

/-- The sinks as the launch finds them. -/
theorem V_sinks : V m c main_arg0 = m ((c : Thread nD τ).loc main_arg0) := rfl

/-- The queries as the launch finds them. -/
theorem V_queries : V m c main_v20 = Attn.Launch.bySequence (Attn.Launch.paired (m ((c : Thread nD τ).loc main_arg1))) := rfl

/-- The keys as the launch finds them. -/
theorem V_keys : V m c main_v21 = Attn.Launch.bySequence (keysBoth (keysFirst (m ((c : Thread nD τ).loc main_arg2)) zero)
    (keysSecond (m ((c : Thread nD τ).loc main_arg2)) zero)) := by
  unfold V
  after_reads_simp
  rfl

/-- The values as the launch finds them. -/
theorem V_values : V m c main_v22 = Attn.Launch.bySequence (valuesBoth (valuesFirst (m ((c : Thread nD τ).loc main_arg3)) zero)
    (valuesSecond (m ((c : Thread nD τ).loc main_arg3)) zero)) := by
  unfold V
  after_reads_simp
  rfl

/-- The bias as the launch finds it. -/
theorem V_bias : V m c main_v39 = bias near := by
  unfold V
  after_reads_simp
  rfl

end

theorem distance_at (l : IVec S3 32) (w : IVec S1x512x1 32) (r : Fin 3) (p n : Fin 512) :
    distance l w (ix3 r p n : S3x512x512.Idx) = IntOp.subi (IntOp.subi (BitVec.ofNat 32 (n : ℕ)) (l (ix1 r))) (w (ix3 0 p 0)) := by
  unfold distance
  pointwise

theorem near_at (r : Fin 3) (p n : Fin 512) :
    near (ix3 r p n : S3x512x512.Idx) = if ((n : ℤ) - ((r : ℕ) * 128 : ℕ) - ((p : ℕ) % 256 : ℕ)).natAbs ≤ 128 then 1#1 else 0#1 := by
  have h : near (ix3 r p n : S3x512x512.Idx) = IntOp.cmpi .sle (IntOp.absi (distance lead places (ix3 r p n : S3x512x512.Idx))) 128#32 := by
    unfold near
    generalize distance lead places = z
    pointwise
  rw [h]
  refine near_bit _ _ ?_ (by omega)
  rw [distance_at, lead_at, places_at, sub_word, sub_int]

theorem bias_of (w : IVec S3x512x512 1) (i : S3x512x512.Idx) :
    (bias w : FVec Ideal S3x512x512 .f32) i = if w i = 1#1 then Ideal.ofBits .f32 0x00000000#32 else Ideal.ofBits .f32 0xFF800000#32 := by
  obtain ⟨a, b, d, rfl⟩ : ∃ (a : Fin 3) (b d : Fin 512), i = ix3 a b d := ⟨i 0, i 1, i 2, eq_ix3 i⟩
  unfold bias
  pointwise
  try rfl

/-- An entry of the bias. -/
theorem bias_at (r : Fin 3) (p n : Fin 512) :
    (bias near : FVec Ideal S3x512x512 .f32) (ix3 r p n : S3x512x512.Idx)
      = if ((n : ℤ) - ((r : ℕ) * 128 : ℕ) - ((p : ℕ) % 256 : ℕ)).natAbs ≤ 128 then 0 else ⊥ := by
  rw [bias_of, near_at, Attn.neg_inf]
  by_cases hc : ((n : ℤ) - ((r : ℕ) * 128 : ℕ) - ((p : ℕ) % 256 : ℕ)).natAbs ≤ 128
  · rw [if_pos hc, if_pos rfl, if_pos hc]
    pointwise
  · rw [if_neg hc, if_neg (by decide), if_neg hc]

theorem zero_at : (zero : FVec Ideal S_ .f32) ix0 = 0 := by
  show ((((0#32 : BitVec 32).toInt : ℝ)) : EReal) = 0
  simp

theorem first_zero (z : FVec Ideal S_ .f32) : z (Shape.Idx.first h_S_) = z ix0 := congrArg z (funext fun a => a.elim0)

theorem keysFirst_at (k : FVec Ideal S8x2048x2x64 .f32) (z : FVec Ideal S_ .f32) (b : Fin 8) (s : Fin 2048) (h u e : Fin 2) (i : Fin 32) :
    keysFirst k z (ix5 (row b s) h u e i : S16384x2x2x2x32.Idx) = if e = 0 then k (ix4 b s h (place u i)) else z ix0 := by
  unfold keysFirst
  pointwise
  by_cases he : e = 0
  · rw [dif_pos ⟨(row b s).isLt, by rw [he]; exact Nat.one_pos⟩, if_pos he]
  · rw [dif_neg fun h => he (Fin.ext (Nat.lt_one_iff.mp h.2)), if_neg he, first_zero z]

theorem keysSecond_at (k : FVec Ideal S8x2048x2x64 .f32) (z : FVec Ideal S_ .f32) (b : Fin 8) (s : Fin 2048) (h u e : Fin 2) (i : Fin 32) :
    keysSecond k z (ix5 (row b s) h u e i : S16384x2x2x2x32.Idx) = if e = 1 then k (ix4 b s h (place u i)) else z ix0 := by
  unfold keysSecond
  pointwise
  by_cases he : e = 1
  · rw [dif_pos ⟨(row b s).isLt, by rw [he]; exact le_rfl, by rw [he]; exact Nat.one_pos⟩, if_pos he]
  · rw [dif_neg fun h => he (Fin.ext (le_antisymm (Nat.le_of_lt_succ e.isLt) h.2.1)), if_neg he, first_zero z]

theorem keysBoth_at (a b : FVec Ideal S16384x2x2x2x32 .f32) (r : Fin 16384) (h w u e : Fin 2) (i : Fin 32) :
    keysBoth a b (ix2 r ⟨(h : ℕ) * 256 + w * 128 + (u * 64 + e * 32 + i), by omega⟩ : S16384x512.Idx)
      = if w = 0 then a (ix5 r h u e i) else b (ix5 r h u e i) := by
  unfold keysBoth
  pointwise
  by_cases hw : w = 0
  · rw [dif_pos (by rw [hw]; exact Nat.one_pos), if_pos hw]
  · rw [dif_neg fun h => hw (Fin.ext (Nat.lt_one_iff.mp h)), if_neg hw]

theorem valuesFirst_at (v : FVec Ideal S8x2048x2x64 .f32) (z : FVec Ideal S_ .f32) (b : Fin 8) (s : Fin 2048) (h e : Fin 2) (d : Fin 64) :
    valuesFirst v z (ix3 (row b s) h ⟨(e : ℕ) * 64 + d, by omega⟩ : S16384x2x128.Idx) = if e = 0 then v (ix4 b s h d) else z ix0 := by
  unfold valuesFirst
  pointwise
  have hr := (row b s).isLt
  match e with
  | 0 =>
    rw [dif_pos ⟨hr, by show 0 * 64 + (d : ℕ) < 64; omega⟩, if_pos rfl]
    congr 2
    ext
    show 0 * 64 + (d : ℕ) = d
    omega
  | 1 => rw [dif_neg (fun h => absurd h.2 (by show ¬ (1 * 64 + (d : ℕ) < 64); omega)), if_neg (by decide), first_zero z]

theorem valuesSecond_at (v : FVec Ideal S8x2048x2x64 .f32) (z : FVec Ideal S_ .f32) (b : Fin 8) (s : Fin 2048) (h e : Fin 2) (d : Fin 64) :
    valuesSecond v z (ix3 (row b s) h ⟨(e : ℕ) * 64 + d, by omega⟩ : S16384x2x128.Idx) = if e = 1 then v (ix4 b s h d) else z ix0 := by
  unfold valuesSecond
  pointwise
  have hr := (row b s).isLt
  match e with
  | 0 => rw [dif_neg (fun h => absurd h.2.1 (by show ¬ (64 ≤ 0 * 64 + (d : ℕ)); omega)), if_neg (by decide), first_zero z]
  | 1 =>
    rw [dif_pos ⟨hr, by show 64 ≤ 1 * 64 + (d : ℕ); omega, by show 1 * 64 + (d : ℕ) - 64 < 64; omega⟩, if_pos rfl]
    congr 2
    ext
    show 1 * 64 + (d : ℕ) - 64 = d
    omega

theorem valuesBoth_at (a b : FVec Ideal S16384x2x128 .f32) (r : Fin 16384) (h w : Fin 2) (l : Fin 128) :
    valuesBoth a b (ix2 r ⟨(h : ℕ) * 256 + w * 128 + l, by omega⟩ : S16384x512.Idx)
      = if w = 0 then a (ix3 r h l) else b (ix3 r h l) := by
  unfold valuesBoth
  pointwise
  by_cases hw : w = 0
  · rw [dif_pos (by rw [hw]; exact Nat.one_pos), if_pos hw]
  · rw [dif_neg fun h => hw (Fin.ext (Nat.lt_one_iff.mp h)), if_neg hw]

/-- The keys at a lane: the key head's in one place of the two, zero in the other. -/
theorem keys_at (k : FVec Ideal S8x2048x2x64 .f32) (b : Fin 8) (s : Fin 2048) (h w u e : Fin 2) (i : Fin 32) :
    Attn.Launch.bySequence (keysBoth (keysFirst k zero) (keysSecond k zero))
        (ix3 b s ⟨(h : ℕ) * 256 + w * 128 + (u * 64 + e * 32 + i), by omega⟩ : S8x2048x512.Idx)
      = k (ix4 b s h (place u i)) * (((if e = w then 1 else 0 : ℝ)) : EReal) := by
  rw [Attn.Launch.bySequence_at, keysBoth_at, keysFirst_at, keysSecond_at, zero_at]
  have h10 : (1 : Fin 2) ≠ 0 := by decide
  have h01 : (0 : Fin 2) ≠ 1 := by decide
  match w, e with
  | 0, 0 => rw [if_pos rfl, if_pos rfl, if_pos rfl, EReal.coe_one, mul_one]
  | 0, 1 => rw [if_pos rfl, if_neg h10, if_neg h10, EReal.coe_zero, mul_zero]
  | 1, 0 => rw [if_neg h10, if_neg h01, if_neg h01, EReal.coe_zero, mul_zero]
  | 1, 1 => rw [if_neg h10, if_pos rfl, if_pos rfl, EReal.coe_one, mul_one]

/-- The values at a lane: the value head's in one place of the two, zero in the other. -/
theorem values_at (v : FVec Ideal S8x2048x2x64 .f32) (b : Fin 8) (s : Fin 2048) (h w e : Fin 2) (d : Fin 64) :
    Attn.Launch.bySequence (valuesBoth (valuesFirst v zero) (valuesSecond v zero))
        (ix3 b s ⟨(h : ℕ) * 256 + w * 128 + (e * 64 + d), by omega⟩ : S8x2048x512.Idx)
      = if e = w then v (ix4 b s h d) else 0 := by
  have hl : ∀ x y : FVec Ideal S16384x2x128 .f32, valuesBoth x y (ix2 (row b s) ⟨(h : ℕ) * 256 + w * 128 + (e * 64 + d), by omega⟩ : S16384x512.Idx)
      = if w = 0 then x (ix3 (row b s) h ⟨(e : ℕ) * 64 + d, by omega⟩) else y (ix3 (row b s) h ⟨(e : ℕ) * 64 + d, by omega⟩) :=
    fun x y => valuesBoth_at x y (row b s) h w ⟨(e : ℕ) * 64 + d, by omega⟩
  rw [Attn.Launch.bySequence_at, hl, valuesFirst_at, valuesSecond_at, zero_at]
  match w with
  | 0 => exact if_pos rfl
  | 1 => exact if_neg (by decide)

end Cert.Win.Launch

end
-- ==== Proof.WinReference.lean ====
/-
  One entry of what the reference of the window attention computes, on the extended reals: the scores over eight, those outside
  the window at minus infinity, the softmax over the keys and the sink, times the values.
-/
module

public import proofs.«01_k».proof.Proof.Gen.Reference4Ideal.Run
public import proofs.«01_k».proof.Proof.AttnReference
public import proofs.«01_k».proof.Proof.WinMath

@[expose] public section

noncomputable section

open Idealize.ShloMosaic Idealize.ShloMosaic.TcCoe

namespace Cert.Win.Host

open Cert.Reference4Ideal Cert.Reference4Ideal.Gen
open Cert.Reference4Ideal.Facts

section
variable {F : FTy → Type} [FloatOps F]

/-- The query heads, grouped by key head. -/
def grouped (q : FVec F S8x2048x8x64 .f32) : FVec F S8x2048x2x4x64 .f32 :=
  shapeCast S8x2048x2x4x64 q shapeCasts_S8x2048x8x64_S8x2048x2x4x64

/-- The products of every query with every key. -/
def products (q : FVec F S8x2048x2x4x64 .f32) (k : FVec F S8x2048x2x64 .f32) : FVec F S8x2x4x2048x2048 .f32 :=
  transpose S8x2x4x2048x2048 [0, 1, 4, 3, 2] (Host.dotGeneral dot_S8x2048x2x64_S8x2048x2x4x64_S8x2x2048x2048x4_3_4_1_13_02_02 none k q)
    transposes_S8x2x2048x2048x4_S8x2x4x2048x2048_0_1_4_3_2

/-- The scores: the products over eight. -/
def scores (q : FVec F S8x2048x8x64 .f32) (k : FVec F S8x2048x2x64 .f32) : FVec F S8x2x4x2048x2048 .f32 :=
  Host.divf (products (grouped q) k) (broadcastInDim S8x2x4x2048x2048 ![] bcast_S_S8x2x4x2048x2048 (constant S_ .f32 0x41000000#32))

/-- Which keys lie in which queries' windows. -/
def near : IVec S2048x2048 1 :=
  cmpi .sle (absi (subi (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))))
    (broadcastInDim S2048x2048 ![] bcast_S_S2048x2048 (constantI S_ 32 128#32))

/-- The scores with minus infinity outside the window. -/
def inWindow (w : IVec S2048x2048 1) (s : FVec F S8x2x4x2048x2048 .f32) : FVec F S8x2x4x2048x2048 .f32 :=
  select (broadcastInDim S8x2x4x2048x2048 ![3, 4] bcast_S2048x2048_S8x2x4x2048x2048_3_4 w) s
    (broadcastInDim S8x2x4x2048x2048 ![] bcast_S_S8x2x4x2048x2048 (constant S_ .f32 0xFF800000#32))

/-- The scores and, last, the sink. -/
def withSink (s : FVec F S8x2x4x2048x2048 .f32) (k : FVec F S8 .f32) : FVec F S8x2x4x2048x2049 .f32 :=
  concatenate S8x2x4x2048x2049 4 [⟨S8x2x4x2048x2048, s⟩, ⟨S8x2x4x2048x1, broadcastInDim S8x2x4x2048x1 ![0, 1, 2, 3, 4] bcast_S1x2x4x1x1_S8x2x4x2048x1_0_1_2_3_4
    (shapeCast S1x2x4x1x1 k shapeCasts_S8_S1x2x4x1x1 : FVec F S1x2x4x1x1 .f32)⟩] concatenates_S8x2x4x2048x2048_S8x2x4x2048x1_S8x2x4x2048x2049_d4

/-- The greatest entry of each query. -/
def greatest (s : FVec F S8x2x4x2048x2049 .f32) : FVec F S8x2x4x2048 .f32 :=
  maximumf (broadcastInDim S8x2x4x2048 ![] bcast_S_S8x2x4x2048 (constant S_ .f32 0xFF800000#32))
    (Host.reduce FloatOps.maximumf s (constant S_ .f32 0xFF800000#32) reducesTo_S8x2x4x2048x2049_S8x2x4x2048_d4 h_S_)

/-- One number per query, repeated over the keys and the sink. -/
def overKeys (a : FVec F S8x2x4x2048 .f32) : FVec F S8x2x4x2048x2049 .f32 :=
  broadcastInDim S8x2x4x2048x2049 ![0, 1, 2, 3, 4] bcast_S8x2x4x2048x1_S8x2x4x2048x2049_0_1_2_3_4
    (broadcastInDim S8x2x4x2048x1 ![0, 1, 2, 3] bcast_S8x2x4x2048_S8x2x4x2048x1_0_1_2_3 a)

/-- The exponentials of the shifted entries. -/
def exps (s : FVec F S8x2x4x2048x2049 .f32) : FVec F S8x2x4x2048x2049 .f32 := Host.exp (subf s (overKeys (greatest s)))

/-- The exponentials over their sum, the sink's left out. -/
def soft (e : FVec F S8x2x4x2048x2049 .f32) : FVec F S8x2x4x2048x2048 .f32 :=
  extractStridedSlice S8x2x4x2048x2048 ![0, 0, 0, 0, 0]
    (Host.divf e (overKeys (Host.reduceAdd e (constant S_ .f32 0x00000000#32) reducesTo_S8x2x4x2048x2049_S8x2x4x2048_d4 h_S_)))
    slices_S8x2x4x2048x2049_S8x2x4x2048x2048_0_0_0_0_0

/-- The weighted sums of the values, the heads side by side. -/
def mixed (v : FVec F S8x2048x2x64 .f32) (p : FVec F S8x2x4x2048x2048 .f32) : FVec F S8x2048x512 .bf16 :=
  truncf .bf16 (shapeCast S8x2048x512 (transpose S8x2048x2x4x64 [0, 4, 1, 3, 2]
    (Host.dotGeneral dot_S8x2048x2x64_S8x2x4x2048x2048_S8x2x64x4x2048_1_4_3_23_02_01 none v p) transposes_S8x2x64x4x2048_S8x2048x2x4x64_0_4_1_3_2)
    shapeCasts_S8x2048x2x4x64_S8x2048x512 : FVec F S8x2048x512 .f32) bitsLt_bf16_f32

/-- All of the reference. -/
def result (k : FVec F S8 .f32) (q : FVec F S8x2048x8x64 .f32) (ks v : FVec F S8x2048x2x64 .f32) : FVec F S8x2048x512 .bf16 :=
  mixed v (soft (exps (withSink (inWindow near (scores q ks)) k)))

set_option maxRecDepth 8192 in
/-- The reference's run leaves `result` of its arguments. -/
theorem result_eq (m : (ℓ : Loc nD τ sig) → Buf (Elt F) ℓ) (c : Dev nD) : Value.res_out0 m c
    = result (m ((c.tc : Thread nD τ).loc main_arg0)) (m ((c.tc : Thread nD τ).loc main_arg1)) (m ((c.tc : Thread nD τ).loc main_arg2))
      (m ((c.tc : Thread nD τ).loc main_arg3)) := rfl

end

/-- The number of a query head: its key head and its place in the group. -/
abbrev head (h : Fin 2) (g : Fin 4) : Fin 8 := ⟨(h : ℕ) * 4 + g, by omega⟩

theorem grouped_at (q : FVec Ideal S8x2048x8x64 .f32) (b : Fin 8) (s : Fin 2048) (h : Fin 2) (g : Fin 4) (d : Fin 64) :
    grouped q (ix5 b s h g d : S8x2048x2x4x64.Idx) = q (ix4 b s (head h g) d) := by
  unfold grouped
  pointwise

theorem products_at (q : FVec Ideal S8x2048x2x4x64 .f32) (k : FVec Ideal S8x2048x2x64 .f32) (b : Fin 8) (h : Fin 2) (g : Fin 4) (s n : Fin 2048) :
    products q k (ix5 b h g s n : S8x2x4x2048x2048.Idx) = ∑ d : Fin 64, k (ix4 b n h d) * q (ix5 b s h g d) := by
  unfold products
  pointwise

/-- The score of a query against a key, for one head. -/
def sco (q : FVec Ideal S8x2048x8x64 .f32) (k : FVec Ideal S8x2048x2x64 .f32) (b : Fin 8) (s : Fin 2048) (h : Fin 2) (g : Fin 4) (n : Fin 2048) : EReal :=
  Ideal.div (∑ d : Fin 64, q (ix4 b s (head h g) d) * k (ix4 b n h d)) (Ideal.ofBits .f32 0x41000000#32)

theorem scores_at (q : FVec Ideal S8x2048x8x64 .f32) (k : FVec Ideal S8x2048x2x64 .f32) (b : Fin 8) (h : Fin 2) (g : Fin 4) (s n : Fin 2048) :
    scores q k (ix5 b h g s n : S8x2x4x2048x2048.Idx) = sco q k b s h g n := by
  have hp : products (grouped q) k (ix5 b h g s n : S8x2x4x2048x2048.Idx)
      = ∑ d : Fin 64, q (ix4 b s (head h g) d) * k (ix4 b n h d) := by
    rw [products_at]; simp only [grouped_at, mul_comm]
  unfold sco
  rw [← hp]
  unfold scores
  generalize products (grouped q) k = z
  pointwise

/-- The bit of a query and a key. -/
theorem near_at (s n : Fin 2048) : near (ix2 s n : S2048x2048.Idx) = if ((n : ℤ) - (s : ℤ)).natAbs ≤ 128 then 1#1 else 0#1 := by
  have h : near (ix2 s n : S2048x2048.Idx)
      = IntOp.cmpi .sle (IntOp.absi (IntOp.subi (BitVec.ofNat 32 (n : ℕ)) (BitVec.ofNat 32 (s : ℕ)))) 128#32 := by
    unfold near
    pointwise
  rw [h]
  exact near_bit _ _ (sub_word _ _) (by omega)

theorem inWindow_at (w : IVec S2048x2048 1) (x : FVec Ideal S8x2x4x2048x2048 .f32) (b : Fin 8) (h : Fin 2) (g : Fin 4) (s n : Fin 2048) :
    inWindow w x (ix5 b h g s n : S8x2x4x2048x2048.Idx) = if w (ix2 s n) = 1#1 then x (ix5 b h g s n) else Ideal.ofBits .f32 0xFF800000#32 := by
  unfold inWindow
  pointwise
  rfl

/-- Whether a key lies in a query's window. -/
abbrev close (s n : Fin 2048) : Prop := ((n : ℤ) - (s : ℤ)).natAbs ≤ 128

theorem window_at (x : FVec Ideal S8x2x4x2048x2048 .f32) (b : Fin 8) (h : Fin 2) (g : Fin 4) (s n : Fin 2048) :
    inWindow near x (ix5 b h g s n : S8x2x4x2048x2048.Idx) = if close s n then x (ix5 b h g s n) else ⊥ := by
  rw [inWindow_at, near_at, Attn.neg_inf]
  by_cases hc : ((n : ℤ) - (s : ℤ)).natAbs ≤ 128
  · rw [if_pos hc, if_pos rfl, if_pos hc]
  · rw [if_neg hc, if_neg (by decide), if_neg hc]

/-- An entry of the scores with the sink. -/
theorem withSink_at (x : FVec Ideal S8x2x4x2048x2048 .f32) (k : FVec Ideal S8 .f32) (b : Fin 8) (h : Fin 2) (g : Fin 4) (s : Fin 2048) (n : Fin 2049) :
    withSink x k (ix5 b h g s n : S8x2x4x2048x2049.Idx) = if hn : (n : ℕ) < 2048 then x (ix5 b h g s ⟨n, hn⟩) else k (ix1 (head h g)) := by
  unfold withSink
  pointwise

theorem withSink_key (x : FVec Ideal S8x2x4x2048x2048 .f32) (k : FVec Ideal S8 .f32) (b : Fin 8) (h : Fin 2) (g : Fin 4) (s n : Fin 2048) :
    withSink x k (ix5 b h g s n.castSucc : S8x2x4x2048x2049.Idx) = x (ix5 b h g s n) := by
  rw [withSink_at, dif_pos (show ((n.castSucc : Fin 2049) : ℕ) < 2048 from n.isLt)]
  rfl

theorem withSink_last (x : FVec Ideal S8x2x4x2048x2048 .f32) (k : FVec Ideal S8 .f32) (b : Fin 8) (h : Fin 2) (g : Fin 4) (s : Fin 2048) :
    withSink x k (ix5 b h g s (Fin.last 2048) : S8x2x4x2048x2049.Idx) = k (ix1 (head h g)) := by
  rw [withSink_at, dif_neg (by rw [Fin.val_last]; exact lt_irrefl _)]

theorem overKeys_at (a : FVec Ideal S8x2x4x2048 .f32) (b : Fin 8) (h : Fin 2) (g : Fin 4) (s : Fin 2048) (n : Fin 2049) :
    overKeys a (ix5 b h g s n : S8x2x4x2048x2049.Idx) = a (ix4 b h g s) := by
  unfold overKeys
  pointwise

theorem exps_at (x : FVec Ideal S8x2x4x2048x2049 .f32) (b : Fin 8) (h : Fin 2) (g : Fin 4) (s : Fin 2048) (n : Fin 2049) :
    exps x (ix5 b h g s n : S8x2x4x2048x2049.Idx) = Ideal.exp (x (ix5 b h g s n) - greatest x (ix4 b h g s : S8x2x4x2048.Idx)) :=
  congrArg (fun z => Ideal.exp (x (ix5 b h g s n) - z)) (overKeys_at (greatest x) b h g s n)

theorem soft_at (x : FVec Ideal S8x2x4x2048x2049 .f32) (b : Fin 8) (h : Fin 2) (g : Fin 4) (s n : Fin 2048) :
    soft x (ix5 b h g s n : S8x2x4x2048x2048.Idx) = Ideal.div (x (ix5 b h g s n.castSucc)) (∑ j : Fin 2049, x (ix5 b h g s j)) := by
  unfold soft overKeys
  pointwise
  try rfl

theorem mixed_at (v : FVec Ideal S8x2048x2x64 .f32) (p : FVec Ideal S8x2x4x2048x2048 .f32) (b : Fin 8) (s : Fin 2048) (h : Fin 2) (g : Fin 4) (d : Fin 64) :
    mixed v p (ix3 b s ⟨((h : ℕ) * 4 + g) * 64 + d, by omega⟩ : S8x2048x512.Idx) = ∑ n : Fin 2048, v (ix4 b n h d) * p (ix5 b h g s n) := by
  have h1 : (⟨(((h : ℕ) * 4 + g) * 64 + d) / 256, by omega⟩ : Fin 2) = h := by ext; show (((h : ℕ) * 4 + g) * 64 + d) / 256 = h; omega
  have h2 : (⟨(((h : ℕ) * 4 + g) * 64 + d) / 64 % 4, by omega⟩ : Fin 4) = g := by ext; show (((h : ℕ) * 4 + g) * 64 + d) / 64 % 4 = g; omega
  have h3 : (⟨(((h : ℕ) * 4 + g) * 64 + d) % 64, by omega⟩ : Fin 64) = d := by ext; show (((h : ℕ) * 4 + g) * 64 + d) % 64 = d; omega
  unfold mixed
  pointwise
  try simp only [h1, h2, h3]

/-- The entries the softmax is taken of. -/
abbrev entries (k : FVec Ideal S8 .f32) (q : FVec Ideal S8x2048x8x64 .f32) (ks : FVec Ideal S8x2048x2x64 .f32) : FVec Ideal S8x2x4x2048x2049 .f32 :=
  withSink (inWindow near (scores q ks)) k

/-- One entry of the reference's result. -/
theorem result_at (k : FVec Ideal S8 .f32) (q : FVec Ideal S8x2048x8x64 .f32) (ks v : FVec Ideal S8x2048x2x64 .f32)
    (b : Fin 8) (s : Fin 2048) (h : Fin 2) (g : Fin 4) (d : Fin 64) :
    result k q ks v (ix3 b s ⟨((h : ℕ) * 4 + g) * 64 + d, by omega⟩ : S8x2048x512.Idx)
      = ∑ n : Fin 2048, v (ix4 b n h d)
          * Ideal.div (Ideal.exp ((if close s n then sco q ks b s h g n else ⊥) - greatest (entries k q ks) (ix4 b h g s : S8x2x4x2048.Idx)))
              ((∑ j : Fin 2048, Ideal.exp ((if close s j then sco q ks b s h g j else ⊥) - greatest (entries k q ks) (ix4 b h g s : S8x2x4x2048.Idx)))
                + Ideal.exp (k (ix1 (head h g)) - greatest (entries k q ks) (ix4 b h g s : S8x2x4x2048.Idx))) := by
  unfold result
  rw [mixed_at]
  have key : ∀ j : Fin 2048, exps (entries k q ks) (ix5 b h g s j.castSucc : S8x2x4x2048x2049.Idx)
      = Ideal.exp ((if close s j then sco q ks b s h g j else ⊥) - greatest (entries k q ks) (ix4 b h g s : S8x2x4x2048.Idx)) := fun j => by
    rw [exps_at]
    exact congrArg (fun z => Ideal.exp (z - greatest (entries k q ks) (ix4 b h g s : S8x2x4x2048.Idx)))
      ((withSink_key _ k b h g s j).trans ((window_at _ b h g s j).trans (by rw [scores_at])))
  have last : exps (entries k q ks) (ix5 b h g s (Fin.last 2048) : S8x2x4x2048x2049.Idx)
      = Ideal.exp (k (ix1 (head h g)) - greatest (entries k q ks) (ix4 b h g s : S8x2x4x2048.Idx)) := by
    rw [exps_at]
    exact congrArg (fun z => Ideal.exp (z - greatest (entries k q ks) (ix4 b h g s : S8x2x4x2048.Idx))) (withSink_last _ k b h g s)
  have total := Fin.sum_univ_castSucc (n := 2048) fun j => exps (entries k q ks) (ix5 b h g s j : S8x2x4x2048x2049.Idx)
  refine Finset.sum_congr rfl fun n _ => ?_
  rw [soft_at, total, key n, last, Finset.sum_congr rfl fun j _ => key j]

/-- The maximum along one axis of numbers none of which is infinity and one of which is real, from minus infinity, is real. -/
theorem reduce_real {s t u : Shape} {a : Fin s.rank} (x : FVec Ideal s .f32) (init : FVec Ideal u .f32)
    (h' : s.ReducesTo [a] t) (hs : s.Reduces [a] t) (hu : 0 < u.numel) (j : t.Idx) (hi : init (Shape.Idx.first hu) = (⊥ : EReal))
    (hx : ∀ i, x i ≠ (⊤ : EReal)) (k : Fin (s.size a)) (hk : ∃ r : ℝ, x (hs.lift j k) = (r : EReal)) :
    ∃ r : ℝ, Host.reduce (FloatOps.maximumf (F := Ideal) (φ := .f32)) x init h' hu j = (r : EReal) := by
  rw [Host.reduce_eq_fold_single _ x init h' hs hu j, hi]
  exact fold_real _ (fun _ => hx _) k hk

end Cert.Win.Host

end
-- ==== Proof.WinLoad.lean ====
/-
  What a tile of the window attention loads, read at an index of the host's arrays.
-/
module

public import proofs.«01_k».proof.Proof.WinBlock
public import proofs.«01_k».proof.Proof.WinEntry
public import proofs.«01_k».proof.Proof.WinLayout
public import proofs.«01_k».proof.Proof.WinReference
public import proofs.«01_k».proof.Proof.AttnKernel

@[expose] public section

set_option maxRecDepth 65536

noncomputable section

open Idealize.ShloMosaic Idealize.ShloMosaic.TcCoe Idealize.SL.Sem
open Idealize.ShloMosaic.Pipeline (Dat)

namespace Cert.Win

open Cert.Kernel4Ideal Cert.Kernel4Ideal.Gen
open Cert.Kernel4Ideal.Facts
open Cert.Attn.Launch (place)

/-- A rectangular load of an array of three axes, its offsets computed, reads the array at the load's place. -/
theorem ld_off {Val : EltTy → Type} {e : EltTy} {A B C a b d : ℕ} (X : (⟨3, ![A, B, C]⟩ : Shape).Idx → Val e) (off : Fin 3 → ℕ) (o0 o1 o2 : ℕ)
    (ho : off = ![o0, o1, o2]) (inb : ∀ i, off i + (![a, b, d] : Fin 3 → ℕ) i ≤ (⟨3, ![A, B, C]⟩ : Shape).size i)
    (p : Fin a) (k : Fin b) (l : Fin d) (P : Fin A) (K : Fin B) (L : Fin C) (hP : (P : ℕ) = o0 + p) (hK : (K : ℕ) = o1 + k) (hL : (L : ℕ) = o2 + l) :
    View.ld (Val := Val) (e' := e) X (Rect.unit (s := ⟨3, ![A, B, C]⟩) off ![a, b, d] inb) (ix3 p k l) = X (ix3 P K L) := by
  subst ho
  exact Attn.ld_at X o0 o1 o2 inb p k l P K L hP hK hL

/-- Which block of each array a grid point works on. -/
theorem idx : ∀ t : Fin cfg0.N, win0_0.index t = ![0] ∧ win0_1.index t = ![t.val, 0, 0] ∧ win0_2.index t = ![t.val, 0, 0]
    ∧ win0_3.index t = ![t.val, 0, 0] ∧ win0_4.index t = ![0, 0, 0] ∧ win0_5.index t = ![t.val, 0, 0] :=
  (by decide +kernel : ∀ t : Fin grid0.N, _)

/-- The sequence of a grid point. -/
abbrev seq (t : Fin cfg0.N) : Fin 8 := ⟨t.val, lt_of_lt_of_eq t.isLt N_0⟩

/-- A tile's first key. -/
def start (n : Fin 8) : ℕ := min 1536 ((n : ℕ) * 256 - 128)

/-- A tile's kind: the first, one in between, the last. -/
def kind (n : Fin 8) : Fin 3 := if n = 0 then 0 else if n = 7 then 2 else 1

/-- Where a tile's keys and values begin. -/
theorem off_keys : ∀ (t : Fin cfg0.N) (n : Fin 8), k0_off1 (grid0.coords t) (BitVec.ofNat 32 n.val) = ![0, start n, 0] :=
  (by decide +kernel : ∀ (t : Fin grid0.N) (n : Fin 8), _)

/-- Where a tile's bias begins. -/
theorem off_bias : ∀ (t : Fin cfg0.N) (n : Fin 8), k0_off2 (grid0.coords t) (BitVec.ofNat 32 n.val) = ![(kind n : ℕ), 0, 0] :=
  (by decide +kernel : ∀ (t : Fin grid0.N) (n : Fin 8), _)

/-- A tile's queries lie behind its first key by its kind times 128. -/
theorem start_kind : ∀ n : Fin 8, (n : ℕ) * 256 = start n + (kind n : ℕ) * 128 := by decide

/-- A query of a tile. -/
abbrev query (n : Fin 8) (p : Fin 256) : Fin 2048 := ⟨(n : ℕ) * 256 + p, by omega⟩

/-- A key of a tile. -/
abbrev key (n : Fin 8) (k : Fin 512) : Fin 2048 := ⟨start n + k, by unfold start; omega⟩

variable (m : (ℓ : Loc nD τ sig) → Buf (Elt Ideal) ℓ) (c : Dev nD)

/-- The sinks the host is given. -/
abbrev argS : FVec Ideal S8 .f32 := m ((c : Thread nD τ).loc main_arg0)
/-- The queries the host is given. -/
abbrev argQ : FVec Ideal S8x2048x8x64 .f32 := m ((c : Thread nD τ).loc main_arg1)
/-- The keys the host is given. -/
abbrev argK : FVec Ideal S8x2048x2x64 .f32 := m ((c : Thread nD τ).loc main_arg2)
/-- The values the host is given. -/
abbrev argV : FVec Ideal S8x2048x2x64 .f32 := m ((c : Thread nD τ).loc main_arg3)

/-- Every point has the sinks. -/
theorem sinks_blk (t : Fin cfg0.N) (k : Fin 8) : (iblk m c 0 t : Vec Ideal S8 .f32) (ix1 k) = argS m c (ix1 k) := by
  have he : ((cfg0.win 0).blk t).view.emb (ix1 k) = (ix1 k : S8.Idx) := by blk_ext [idx t]
  show V m c main_arg0 (((cfg0.win 0).blk t).view.emb (ix1 k)) = _
  rw [he, Launch.V_sinks]

/-- A point's queries. -/
theorem queries_blk (t : Fin cfg0.N) (s : Fin 2048) (h : Fin 4) (u e : Fin 2) (i : Fin 32) :
    (iblk m c 1 t : Vec Ideal S1x2048x512 .bf16) (ix3 0 s (Attn.Launch.lane h u e i)) = argQ m c (ix4 (seq t) s (Attn.Host.head h e) (place u i)) := by
  have he : ((cfg0.win 1).blk t).view.emb (ix3 0 s (Attn.Launch.lane h u e i)) = (ix3 (seq t) s (Attn.Launch.lane h u e i) : S8x2048x512.Idx) := by
    blk_ext [idx t]
  show V m c main_v20 (((cfg0.win 1).blk t).view.emb (ix3 0 s (Attn.Launch.lane h u e i))) = _
  rw [he, Launch.V_queries]
  exact Attn.Launch.queries_at _ _ _ _ _ _ _

/-- A point's keys. -/
theorem keys_blk (t : Fin cfg0.N) (s : Fin 2048) (h w u e : Fin 2) (i : Fin 32) :
    (iblk m c 2 t : Vec Ideal S1x2048x512 .bf16) (ix3 0 s ⟨(h : ℕ) * 256 + w * 128 + (u * 64 + e * 32 + i), by omega⟩)
      = argK m c (ix4 (seq t) s h (place u i)) * (((if e = w then 1 else 0 : ℝ)) : EReal) := by
  have he : ((cfg0.win 2).blk t).view.emb (ix3 0 s ⟨(h : ℕ) * 256 + w * 128 + (u * 64 + e * 32 + i), by omega⟩)
      = (ix3 (seq t) s ⟨(h : ℕ) * 256 + w * 128 + (u * 64 + e * 32 + i), by omega⟩ : S8x2048x512.Idx) := by blk_ext [idx t]
  show V m c main_v21 (((cfg0.win 2).blk t).view.emb (ix3 0 s ⟨(h : ℕ) * 256 + w * 128 + (u * 64 + e * 32 + i), by omega⟩)) = _
  rw [he, Launch.V_keys]
  exact Launch.keys_at _ _ _ _ _ _ _ _

/-- A point's values. -/
theorem values_blk (t : Fin cfg0.N) (s : Fin 2048) (h w e : Fin 2) (d : Fin 64) :
    (iblk m c 3 t : Vec Ideal S1x2048x512 .bf16) (ix3 0 s ⟨(h : ℕ) * 256 + w * 128 + (e * 64 + d), by omega⟩)
      = if e = w then argV m c (ix4 (seq t) s h d) else 0 := by
  have he : ((cfg0.win 3).blk t).view.emb (ix3 0 s ⟨(h : ℕ) * 256 + w * 128 + (e * 64 + d), by omega⟩)
      = (ix3 (seq t) s ⟨(h : ℕ) * 256 + w * 128 + (e * 64 + d), by omega⟩ : S8x2048x512.Idx) := by blk_ext [idx t]
  show V m c main_v22 (((cfg0.win 3).blk t).view.emb (ix3 0 s ⟨(h : ℕ) * 256 + w * 128 + (e * 64 + d), by omega⟩)) = _
  rw [he, Launch.V_values]
  exact Launch.values_at _ _ _ _ _ _ _

/-- Every point has the bias. -/
theorem bias_blk (t : Fin cfg0.N) (r : Fin 3) (p n : Fin 512) :
    (iblk m c 4 t : Vec Ideal S3x512x512 .f32) (ix3 r p n)
      = if ((n : ℤ) - ((r : ℕ) * 128 : ℕ) - ((p : ℕ) % 256 : ℕ)).natAbs ≤ 128 then (0 : EReal) else (⊥ : EReal) := by
  have he : ((cfg0.win 4).blk t).view.emb (ix3 r p n) = (ix3 r p n : S3x512x512.Idx) := by blk_ext [idx t]
  show V m c main_v39 (((cfg0.win 4).blk t).view.emb (ix3 r p n)) = _
  rw [he, Launch.V_bias]
  exact Launch.bias_at _ _ _

/-- A loaded sink. -/
theorem ldS_at (t : Fin cfg0.N) (k : Fin 8) : ldS m c t k = argS m c (ix1 k) := by
  refine Eq.trans ?_ (sinks_blk m c t k)
  unfold ldS
  refine View.ld_unit_apply_of _ _ _ _ _ (ix1 k) fun a => ?_
  fin_cases a
  rfl

/-- A loaded query. -/
theorem ldQ_at (t : Fin cfg0.N) (n : Fin 8) (g : Fin 4) (p : Fin 256) (u e : Fin 2) (i : Fin 32) :
    ldQ m c t n g (ix3 0 p (Attn.lane u e i)) = argQ m c (ix4 (seq t) (query n p) (Attn.Host.head g e) (place u i)) := by
  refine Eq.trans ?_ (queries_blk m c t (query n p) g u e i)
  unfold ldQ
  exact Attn.ld_at (iblk m c 1 t : Vec Ideal S1x2048x512 .bf16) 0 ((n : ℕ) * 256) ((g : ℕ) * 128) _ 0 p (Attn.lane u e i) 0 (query n p)
    (Attn.Launch.lane g u e i) rfl rfl rfl

/-- A loaded key. -/
theorem ldK_of (t : Fin cfg0.N) (n : Fin 8) (k l : Fin 512) :
    ldK m c t n (ix3 0 k l) = (iblk m c 2 t : Vec Ideal S1x2048x512 .bf16) (ix3 0 (key n k) l) := by
  unfold ldK
  exact ld_off (iblk m c 2 t : Vec Ideal S1x2048x512 .bf16) _ 0 (start n) 0 (off_keys t n) _ 0 k l 0 (key n k) l rfl rfl (Nat.zero_add _).symm

/-- A loaded value. -/
theorem ldV_of (t : Fin cfg0.N) (n : Fin 8) (k l : Fin 512) :
    ldV m c t n (ix3 0 k l) = (iblk m c 3 t : Vec Ideal S1x2048x512 .bf16) (ix3 0 (key n k) l) := by
  unfold ldV
  exact ld_off (iblk m c 3 t : Vec Ideal S1x2048x512 .bf16) _ 0 (start n) 0 (off_keys t n) _ 0 k l 0 (key n k) l rfl rfl (Nat.zero_add _).symm

/-- A loaded entry of the bias. -/
theorem ldB_of (t : Fin cfg0.N) (n : Fin 8) (r k : Fin 512) :
    ldB m c t n (ix3 0 r k) = (iblk m c 4 t : Vec Ideal S3x512x512 .f32) (ix3 (kind n) r k) := by
  unfold ldB
  exact ld_off (iblk m c 4 t : Vec Ideal S3x512x512 .f32) _ (kind n : ℕ) 0 0 (off_bias t n) _ 0 r k (kind n) r k rfl (Nat.zero_add _).symm
    (Nat.zero_add _).symm

/-- A key of a tile's run of lanes. -/
theorem keys_lane (t : Fin cfg0.N) (n : Fin 8) (kv w u e : Fin 2) (i : Fin 32) (k : Fin 512) :
    lanes (ldK m c t n) (run kv w) (ix2 k (Attn.lane u e i) : S512x128.Idx)
      = argK m c (ix4 (seq t) (key n k) kv (place u i)) * (((if e = w then 1 else 0 : ℝ)) : EReal) := by
  have hl : (⟨((run kv w : Fin 4) : ℕ) * 128 + (Attn.lane u e i : Fin 128), by omega⟩ : Fin 512)
      = ⟨(kv : ℕ) * 256 + w * 128 + (u * 64 + e * 32 + i), by omega⟩ :=
    Fin.ext (show ((kv : ℕ) * 2 + w) * 128 + ((u : ℕ) * 64 + e * 32 + i) = (kv : ℕ) * 256 + w * 128 + (u * 64 + e * 32 + i) by omega)
  rw [lanes_at, ldK_of, hl]
  exact keys_blk m c t _ kv w u e i

/-- A value of a tile's run of lanes. -/
theorem values_lane (t : Fin cfg0.N) (n : Fin 8) (kv w e : Fin 2) (d : Fin 64) (k : Fin 512) :
    lanes (ldV m c t n) (run kv w) (ix2 k ⟨(e : ℕ) * 64 + d, by omega⟩ : S512x128.Idx)
      = if e = w then argV m c (ix4 (seq t) (key n k) kv d) else 0 := by
  have hl : (⟨((run kv w : Fin 4) : ℕ) * 128 + (⟨(e : ℕ) * 64 + d, by omega⟩ : Fin 128), by omega⟩ : Fin 512)
      = ⟨(kv : ℕ) * 256 + w * 128 + (e * 64 + d), by omega⟩ :=
    Fin.ext (show ((kv : ℕ) * 2 + w) * 128 + ((e : ℕ) * 64 + d) = (kv : ℕ) * 256 + w * 128 + (e * 64 + d) by omega)
  rw [lanes_at, ldV_of, hl]
  exact values_blk m c t _ kv w e d

/-- The bias of a tile says which of its keys lie in a query's window. -/
theorem bias_row (t : Fin cfg0.N) (n : Fin 8) (j : Fin 2) (p : Fin 256) (k : Fin 512) :
    ldB m c t n (ix3 0 (rowOf j p) k) = if Host.close (query n p) (key n k) then 0 else ⊥ := by
  rw [ldB_of, bias_blk]
  have h := start_kind n
  have e : ((k : ℕ) : ℤ) - (((kind n : ℕ) * 128 : ℕ) : ℤ) - ((((rowOf j p : Fin 512) : ℕ) % 256 : ℕ) : ℤ)
      = ((key n k : Fin 2048) : ℤ) - ((query n p : Fin 2048) : ℤ) := by
    show ((k : ℕ) : ℤ) - (((kind n : ℕ) * 128 : ℕ) : ℤ) - ((((j : ℕ) * 256 + p) % 256 : ℕ) : ℤ)
      = ((start n + k : ℕ) : ℤ) - (((n : ℕ) * 256 + p : ℕ) : ℤ)
    omega
  rw [e]

/-- A tile's keys are distinct. -/
theorem key_injective (n : Fin 8) : Function.Injective (key n) := fun a b h =>
  Fin.ext (Nat.add_left_cancel (congrArg Fin.val h))

/-- A query's window lies among its tile's keys. -/
theorem window_mem (n : Fin 8) (p : Fin 256) (i : Fin 2048) (h : Host.close (query n p) i) : i ∈ Set.range (key n) := by
  have h' : ((i : ℤ) - (((n : ℕ) * 256 + p : ℕ) : ℤ)).natAbs ≤ 128 := h
  have hs : start n = min 1536 ((n : ℕ) * 256 - 128) := rfl
  refine ⟨⟨(i : ℕ) - start n, by omega⟩, Fin.ext ?_⟩
  show start n + ((i : ℕ) - start n) = i
  omega

end Cert.Win

end
-- ==== Proof.WinKernel.lean ====
/-
  The window attention's result: what each tile stores, what each grid point leaves in its block, and what the array holds
  after the run. A grid point has one sequence.
-/
module

public import proofs.«01_k».proof.Proof.WinLoad

@[expose] public section

set_option maxRecDepth 65536

noncomputable section

open Idealize.ShloMosaic Idealize.ShloMosaic.TcCoe Idealize.SL.Sem
open Idealize.ShloMosaic.Pipeline (Dat)

namespace Cert.Win

/-- The greatest of a query's scores and its sink is real when sinks and scores are. -/
theorem Host.greatest_real (k : FVec Ideal Cert.Reference4Ideal.S8 .f32) (q : FVec Ideal Cert.Reference4Ideal.S8x2048x8x64 .f32)
    (ks : FVec Ideal Cert.Reference4Ideal.S8x2048x2x64 .f32) (hk : ∀ i, ∃ r : ℝ, k i = (r : EReal))
    (hs : ∀ b s h g n, ∃ r : ℝ, Host.sco q ks b s h g n = (r : EReal)) (j : Cert.Reference4Ideal.S8x2x4x2048.Idx) :
    ∃ r : ℝ, Host.greatest (Host.entries k q ks) j = (r : EReal) := by
  unfold Host.greatest
  rw [Attn.Host.max_bot _ _ j Attn.neg_inf]
  have hr : Cert.Reference4Ideal.S8x2x4x2048x2049.Reduces [4] Cert.Reference4Ideal.S8x2x4x2048 := by decide
  have last : ∀ i : Cert.Reference4Ideal.S8x2x4x2048x2049.Idx, (i 4 : ℕ) = 2048 → ∃ r : ℝ, Host.entries k q ks i = (r : EReal) := fun i h4 => by
    obtain ⟨b, h, g, s, n, rfl⟩ : ∃ (b : Fin 8) (h : Fin 2) (g : Fin 4) (s : Fin 2048) (n : Fin 2049), i = ix5 b h g s n :=
      ⟨i 0, i 1, i 2, i 3, i 4, eq_ix5 i⟩
    have hn : n = Fin.last 2048 := Fin.ext h4
    rw [hn]
    show ∃ r : ℝ, Host.withSink _ k (ix5 b h g s (Fin.last 2048) : Cert.Reference4Ideal.S8x2x4x2048x2049.Idx) = (r : EReal)
    rw [Host.withSink_last]
    exact hk _
  refine Host.reduce_real (a := 4) _ _ _ hr _ j Attn.neg_inf (fun i => ?_) (Fin.last 2048) ?_
  · obtain ⟨b, h, g, s, n, rfl⟩ : ∃ (b : Fin 8) (h : Fin 2) (g : Fin 4) (s : Fin 2048) (n : Fin 2049), i = ix5 b h g s n :=
      ⟨i 0, i 1, i 2, i 3, i 4, eq_ix5 i⟩
    show Host.withSink _ k (ix5 b h g s n : Cert.Reference4Ideal.S8x2x4x2048x2049.Idx) ≠ (⊤ : EReal)
    rw [Host.withSink_at]
    split
    · rw [Host.window_at, Host.scores_at]
      split
      · obtain ⟨r, hr⟩ := hs b s h g ⟨n, by assumption⟩
        rw [hr]
        exact EReal.coe_ne_top r
      · exact bot_ne_top
    · obtain ⟨r, hr⟩ := hk (ix1 (Host.head h g))
      rw [hr]
      exact EReal.coe_ne_top r
  · exact last _ rfl

open Cert.Kernel4Ideal Cert.Kernel4Ideal.Gen
open Cert.Kernel4Ideal.Facts
open Cert.Attn.Launch (place)

variable (m : (ℓ : Loc nD τ sig) → Buf (Elt Ideal) ℓ) (c : Dev nD)

/-- The reference's result of the kernel's arguments. -/
abbrev want : FVec Ideal S8x2048x512 .bf16 := Host.result (argS m c) (argQ m c) (argK m c) (argV m c)

/-- The place of a query head in its group: its pair and its place in the pair. -/
abbrev grp (j e : Fin 2) : Fin 4 := ⟨(j : ℕ) * 2 + e, by omega⟩

/-- The two ways to number a query head agree. -/
theorem head_eq (kv j e : Fin 2) : Attn.Host.head (run kv j) e = Host.head kv (grp j e) :=
  Fin.ext (show ((kv : ℕ) * 2 + j) * 2 + e = (kv : ℕ) * 4 + ((j : ℕ) * 2 + e) by omega)

/-- A query head's sink is the one its tile takes. -/
theorem sinkNo_eq (kv j e : Fin 2) : sinkNo kv j e = Host.head kv (grp j e) :=
  Fin.ext (show (kv : ℕ) * 4 + (j : ℕ) * 2 + e = (kv : ℕ) * 4 + ((j : ℕ) * 2 + e) by omega)

section
variable (hs : ∀ i, ∃ r : ℝ, argS m c i = (r : EReal)) (hq : ∀ i, ∃ r : ℝ, argQ m c i = (r : EReal)) (hk : ∀ i, ∃ r : ℝ, argK m c i = (r : EReal))

/-- A head's score of a query against a key, as a real number. -/
def number (t : Fin cfg0.N) (kv j e : Fin 2) (s n : Fin 2048) : ℝ :=
  Attn.real (fun u i => (hq (ix4 (seq t) s (Attn.Host.head (run kv j) e) (place u i))).choose)
    (fun u i => (hk (ix4 (seq t) n kv (place u i))).choose)

/-- The reference's score is that number. -/
theorem sco_eq (t : Fin cfg0.N) (kv j e : Fin 2) (s n : Fin 2048) :
    Host.sco (argQ m c) (argK m c) (seq t) s kv (grp j e) n = ((number m c hq hk t kv j e s n : ℝ) : EReal) := by
  unfold Host.sco
  rw [← head_eq]
  exact Attn.places_score _ _ _ _ (fun u i => (hq _).choose_spec) (fun u i => (hk _).choose_spec)

include hq hk in
/-- Every score of the reference is real. -/
theorem sco_real (b : Fin 8) (s : Fin 2048) (h : Fin 2) (g : Fin 4) (n : Fin 2048) :
    ∃ r : ℝ, Host.sco (argQ m c) (argK m c) b s h g n = (r : EReal) :=
  ⟨_, Attn.places_score _ _ _ _ (fun u i => (hq (ix4 b s (Host.head h g) (place u i))).choose_spec)
    (fun u i => (hk (ix4 b n h (place u i))).choose_spec)⟩

/-- The product of a row's queries with a tile's keys, for one head of the row's pair. -/
theorem product_eq (t : Fin cfg0.N) (n : Fin 8) (kv j e : Fin 2) (p : Fin 256) (k : Fin 512) :
    ∑ d : Fin 128, queries (ldQ m c t n (run kv 0)) (ldQ m c t n (run kv 1)) (ix2 (rowOf j p) d : S512x128.Idx)
        * lanes (ldK m c t n) (run kv e) (ix2 k d : S512x128.Idx)
      = ((number m c hq hk t kv j e (query n p) (key n k) * (Real.log 2)⁻¹ : ℝ) : EReal) := by
  have hj : (if j = 0 then ldQ m c t n (run kv 0) else ldQ m c t n (run kv 1)) = ldQ m c t n (run kv j) := by
    match j with
    | 0 => rfl
    | 1 => rfl
  simp only [queries_at, hj]
  exact Attn.lanes_score (fun d => ldQ m c t n (run kv j) (ix3 0 p d)) (fun d => lanes (ldK m c t n) (run kv e) (ix2 k d : S512x128.Idx))
    (fun u f i => (hq (ix4 (seq t) (query n p) (Attn.Host.head (run kv j) f) (place u i))).choose)
    (fun u _ i => (hk (ix4 (seq t) (key n k) kv (place u i))).choose) e
    (fun u f i => (ldQ_at m c t n (run kv j) p u f i).trans (hq _).choose_spec)
    (fun u f i => (keys_lane m c t n kv e u f i k).trans ((congrArg (· * _) (hk _).choose_spec).trans (EReal.coe_mul _ _).symm))

/-- A row's score of a tile's key, with the bias. -/
theorem biased_eq (t : Fin cfg0.N) (n : Fin 8) (kv j e : Fin 2) (p : Fin 256) (k : Fin 512) :
    (∑ d : Fin 128, queries (ldQ m c t n (run kv 0)) (ldQ m c t n (run kv 1)) (ix2 (rowOf j p) d : S512x128.Idx)
        * lanes (ldK m c t n) (run kv e) (ix2 k d : S512x128.Idx)) + ldB m c t n (ix3 0 (rowOf j p) k)
      = ((number m c hq hk t kv j e (query n p) (key n k) * (Real.log 2)⁻¹ : ℝ) : EReal)
        + (if Host.close (query n p) (key n k) then 0 else ⊥) := by
  rw [product_eq m c hq hk, bias_row]

/-- A row's sink to the base two. -/
theorem sink_row (t : Fin cfg0.N) (kv j e : Fin 2) :
    (if j = 1 then ldS m c t (sinkNo kv 1 e) else ldS m c t (sinkNo kv 0 e)) * log2e
      = (((hs (ix1 (Host.head kv (grp j e)))).choose * (Real.log 2)⁻¹ : ℝ) : EReal) := by
  have hj : (if j = 1 then ldS m c t (sinkNo kv 1 e) else ldS m c t (sinkNo kv 0 e)) = ldS m c t (sinkNo kv j e) := by
    match j with
    | 0 => rfl
    | 1 => rfl
  rw [hj, ldS_at, sinkNo_eq, EReal.coe_mul]
  exact congrArg (· * log2e) (hs _).choose_spec

include hs hq hk

/-- The part of a head's own lanes is the reference's result. -/
theorem part_own (t : Fin cfg0.N) (n : Fin 8) (kv j e : Fin 2) (p : Fin 256) (d : Fin 64) :
    part (F := Ideal) (queries (ldQ m c t n (run kv 0)) (ldQ m c t n (run kv 1))) (lanes (ldK m c t n) (run kv e)) (lanes (ldV m c t n) (run kv e))
        (ldB m c t n) (ldS m c t (sinkNo kv 1 e)) (ldS m c t (sinkNo kv 0 e)) (ix2 (rowOf j p) ⟨(e : ℕ) * 64 + d, by omega⟩ : S512x128.Idx)
      = want m c (ix3 (seq t) (query n p) ⟨((kv : ℕ) * 4 + (grp j e : Fin 4)) * 64 + d, by omega⟩ : S8x2048x512.Idx) := by
  have hS := biased_eq m c hq hk t n kv j e p
  have hσ := sink_row m c hs t kv j e
  have htop := top_real (scores (queries (ldQ m c t n (run kv 0)) (ldQ m c t n (run kv 1))) (lanes (ldK m c t n) (run kv e)) (ldB m c t n))
    (sinks (F := Ideal) second (ldS m c t (sinkNo kv 1 e)) (ldS m c t (sinkNo kv 0 e))) (rowOf j p)
    (fun k => by
      rw [scores_at, hS k]
      split
      · rw [add_zero]; exact EReal.coe_ne_top _
      · rw [EReal.add_bot]; exact bot_ne_top)
    ⟨_, (sinks_at _ _ j p).trans hσ⟩
  refine (part_at _ _ _ _ _ _ j p _ _ hS).trans (Eq.trans ?_ (Host.result_at _ _ _ _ (seq t) (query n p) kv (grp j e) d).symm)
  rw [hσ]
  simp only [values_lane, if_true, sco_eq m c hq hk]
  refine (row_eq (Host.close (query n p)) (number m c hq hk t kv j e (query n p)) (hs (ix1 (Host.head kv (grp j e)))).choose (key n)
    (key_injective n) (window_mem n p) htop
    (Host.greatest_real (argS m c) (argQ m c) (argK m c) hs (sco_real m c hq hk) (ix4 (seq t) kv (grp j e) (query n p)))
    (fun i => argV m c (ix4 (seq t) i kv d))).trans ?_
  rw [← (hs (ix1 (Host.head kv (grp j e)))).choose_spec]

/-- The part of the other head's lanes is zero. -/
theorem part_other (t : Fin cfg0.N) (n : Fin 8) (kv j w e : Fin 2) (hw : e ≠ w) (p : Fin 256) (d : Fin 64) :
    part (F := Ideal) (queries (ldQ m c t n (run kv 0)) (ldQ m c t n (run kv 1))) (lanes (ldK m c t n) (run kv w)) (lanes (ldV m c t n) (run kv w))
        (ldB m c t n) (ldS m c t (sinkNo kv 1 w)) (ldS m c t (sinkNo kv 0 w)) (ix2 (rowOf j p) ⟨(e : ℕ) * 64 + d, by omega⟩ : S512x128.Idx) = 0 := by
  refine (part_at _ _ _ _ _ _ j p _ _ (biased_eq m c hq hk t n kv j w p)).trans ?_
  simp only [values_lane, if_neg hw, mul_zero, Finset.sum_const_zero, zero_mul]

/-- What a tile stores, at one place. -/
theorem piece_at (t : Fin cfg0.N) (n : Fin 8) (kv j e : Fin 2) (p : Fin 256) (d : Fin 64) :
    piece m c t n kv j (ix3 0 p ⟨(e : ℕ) * 64 + d, by omega⟩ : S1x256x128.Idx)
      = want m c (ix3 (seq t) (query n p) ⟨((kv : ℕ) * 4 + (grp j e : Fin 4)) * 64 + d, by omega⟩ : S8x2048x512.Idx) := by
  unfold piece
  rw [pairOf_at]
  unfold both
  refine Eq.trans (show _ = _ + _ from rfl) ?_
  match e with
  | 0 => exact (congrArg₂ (· + ·) (part_own m c hs hq hk t n kv j 0 p d) (part_other m c hs hq hk t n kv j 1 0 (by decide) p d)).trans (add_zero _)
  | 1 => exact (congrArg₂ (· + ·) (part_other m c hs hq hk t n kv j 0 1 (by decide) p d) (part_own m c hs hq hk t n kv j 1 p d)).trans (zero_add _)

/-- What a tile stores, at an index of the point's block. -/
theorem piece_eq (t : Fin cfg0.N) (n : Fin 8) (kv j : Fin 2) (x : S1x256x128.Idx) (y : S1x2048x512.Idx)
    (h1 : (y 1 : ℕ) = (n : ℕ) * 256 + x 1) (h2 : (y 2 : ℕ) = ((kv : ℕ) * 2 + j) * 128 + x 2) :
    piece m c t n kv j x = want m c (ix3 (seq t) (y 1) (y 2) : S8x2048x512.Idx) := by
  have hl : (x 2 : ℕ) < 128 := (x 2).isLt
  have hx2 : x 2 = (⟨((⟨(x 2 : ℕ) / 64, by omega⟩ : Fin 2) : ℕ) * 64 + (⟨(x 2 : ℕ) % 64, by omega⟩ : Fin 64), by omega⟩ : Fin 128) :=
    Fin.ext (show (x 2 : ℕ) = (x 2 : ℕ) / 64 * 64 + (x 2 : ℕ) % 64 by omega)
  have hx : x = ix3 0 (x 1) (⟨((⟨(x 2 : ℕ) / 64, by omega⟩ : Fin 2) : ℕ) * 64 + (⟨(x 2 : ℕ) % 64, by omega⟩ : Fin 64), by omega⟩ : Fin 128) :=
    (eq_ix3 x).trans (by rw [← hx2]; congr 1; exact Subsingleton.elim (α := Fin 1) _ _)
  refine (congrArg _ hx).trans ((piece_at m c hs hq hk t n kv j ⟨(x 2 : ℕ) / 64, by omega⟩ (x 1) ⟨(x 2 : ℕ) % 64, by omega⟩).trans ?_)
  have e1 : query n (x 1) = y 1 := Fin.ext h1.symm
  have e2 : (⟨((kv : ℕ) * 4 + (grp j ⟨(x 2 : ℕ) / 64, by omega⟩ : Fin 4)) * 64 + (⟨(x 2 : ℕ) % 64, by omega⟩ : Fin 64), by omega⟩ : Fin 512) = y 2 :=
    Fin.ext (show ((kv : ℕ) * 4 + ((j : ℕ) * 2 + (x 2 : ℕ) / 64)) * 64 + (x 2 : ℕ) % 64 = (y 2 : ℕ) by rw [h2]; omega)
  rw [e1, e2]

/-- What a point leaves in its block of the result is the block of the reference's result. -/
theorem point (t : Fin cfg0.N) (y : S1x2048x512.Idx) :
    (dats m 0 c).after 5 t y = want m c (((cfg0.win 5).blk t).view.emb y) := by
  have hemb : ((cfg0.win 5).blk t).view.emb y = (ix3 (seq t) (y 1) (y 2) : S8x2048x512.Idx) := by blk_ext [idx t]
  rw [hemb, after_eq]
  canon_tiles x h
  all_goals exact piece_eq m c hs hq hk t _ _ _ x y (by omega) (by omega)

/-- The result array after the run is the reference's result. -/
theorem final : (dats m 0 c).arrAt 5 (cfgs 0).N = want m c := by
  refine (dats m 0 c).arrAt_eq_of_covers 5 _ (by decide +kernel) fun t _ y => ?_
  blk_simp
  exact point m c hs hq hk t y

end

end Cert.Win

end
-- ==== Proof.WinClaims.lean ====
/-
  The claims about the window attention: the three programs run and change nothing they were given; the kernel on the extended
  reals is the printed one but for its two named factors; and for finite sinks, queries and keys the kernel and its reference
  leave the same array.
-/
module

public import proofs.«01_k».proof.Defs
public import proofs.«01_k».proof.Proof.WinPre
public import proofs.«01_k».proof.Proof.WinKernel
public import proofs.«01_k».proof.Proof.Gen.Kernel4Ideal.Value
public import proofs.«01_k».proof.Proof.Gen.Kernel4.Frame

@[expose] public section

noncomputable section

open Idealize.ShloMosaic Idealize.ShloMosaic.TcCoe Idealize.SL.Sem

namespace Cert.Win

/-- The kernel runs on the machine's floats and changes nothing it was given. -/
theorem frame_kernel : Cert.quiescent_Kernel4 := fun m g _ => Cert.Kernel4.Gen.frame m g

/-- The kernel runs on the extended reals and changes nothing it was given. -/
theorem frame_ideal : Cert.quiescent_Kernel4Ideal := fun m g _ => Cert.Kernel4Ideal.Gen.frame m g

/-- So it does for finite sinks, queries and keys. -/
theorem frame_ideal_pre : Cert.quiescent_Kernel4Ideal_pre_finite_win := fun m g _ => frame_ideal m g trivial

/-- The reference runs on the extended reals and changes nothing it was given. -/
theorem frame_reference : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- So it does for finite sinks, queries and keys. -/
theorem frame_reference_pre : Cert.quiescent_Reference4Ideal_pre_finite_win := fun m g _ => frame_reference m g trivial

/-- The queries' factor and the sinks' factor are the numbers their patterns round. -/
theorem preserves : Cert.preserves_Kernel4_Kernel4Ideal :=
  ⟨IdealRules.named_const.statement Cert.Kernel4Ideal.κ "q_scale" .f32 0x3E38AA3B#32 _ rfl,
    IdealRules.named_const.statement Cert.Kernel4Ideal.κ "log2e" .f32 0x3FB8AA3B#32 _ rfl⟩

/-- On the extended reals, for finite sinks, queries and keys, the kernel and its reference leave the same array. -/
theorem algebraic : Cert.algebraic_Kernel4Ideal_Reference4Ideal_pre_finite_win := by
  intro m g m' g' hpre hagree
  refine ⟨fun c => want m c, ?_, ?_⟩
  · refine (θ_run Cert.Kernel4Ideal.defs _ _).mono (fun r h c => ⟨(h c).1.trans ?_, (h c).2⟩)
      (Cert.Kernel4Ideal.Value.run_blocks (F := Ideal) m g)
    have hr := Pre.real_sqk _ _ _ _ (ix0 : Cert.Pre_finite_win.S_.Idx) (congrFun (hpre c) ix0)
    exact final m c hr.1 hr.2.1 hr.2.2
  · refine (θ_run Cert.Reference4Ideal.defs _ _).mono (fun r h c => ⟨(h c).1.trans ?_, (h c).2⟩)
      (Cert.Reference4Ideal.Value.run (F := Ideal) m' g')
    refine (Host.result_eq m' c).trans ?_
    obtain ⟨a0, a1, a2, a3⟩ := hagree c
    rw [a0, a1, a2, a3]

end Cert.Win

end
-- ==== Proof.lean ====
/-
  The certificate's claims, assembled.  Each call's claims are proved in a module of their own:
    Proof/AttnClaims.lean — the differential attention (its mathematics: AttnMath.lean, the equation of one row; AttnBlock.lean
      and AttnEntry.lean, a block of queries; AttnReference.lean, the reference; AttnLayout.lean and AttnScore.lean, the host's
      layout and one score; AttnKernel.lean, the array after the run; AttnPre.lean, the precondition);
    Proof/InProjClaims.lean — the input projection (its mathematics: InProjLayout.lean, InProj.lean);
    Proof/FfnClaims.lean — the gated merge with the feed-forward part (its mathematics: FfnEntry.lean, FfnBlock.lean,
      FfnReference.lean, FfnKernel.lean);
    Proof/WinClaims.lean — the window attention (its mathematics: WinMath.lean, the equation of one row; WinBlock.lean and
      WinEntry.lean, a tile of queries; WinReference.lean, the reference; WinLayout.lean and WinLoad.lean, the host's layout and
      a tile's loads; WinKernel.lean, the array after the run; WinPre.lean, the precondition).
-/
module

public import proofs.«01_k».proof.Defs
public import proofs.«01_k».proof.Proof.AttnClaims
public import proofs.«01_k».proof.Proof.InProjClaims
public import proofs.«01_k».proof.Proof.FfnClaims
public import proofs.«01_k».proof.Proof.WinClaims
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Attn.Pre.facts, Cert.Win.Pre.facts,
    Cert.Attn.frame_kernel, Cert.Attn.frame_ideal, Cert.Attn.frame_ideal_pre, Cert.Attn.frame_reference, Cert.Attn.frame_reference_pre,
    Cert.Ffn.frame_kernel, Cert.Ffn.frame_ideal, Cert.Ffn.frame_reference,
    Cert.InProj.frame_kernel, Cert.InProj.frame_ideal, Cert.InProj.frame_reference,
    Cert.Win.frame_kernel, Cert.Win.frame_ideal, Cert.Win.frame_ideal_pre, Cert.Win.frame_reference, Cert.Win.frame_reference_pre,
    Cert.Attn.preserves, Cert.Attn.algebraic, trivial, Cert.Ffn.algebraic, trivial, Cert.InProj.algebraic,
    Cert.Win.preserves, Cert.Win.algebraic⟩

end Cert.Proof

end
